-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_hot [hPre_one_hot : Cert.Pre_one_hot.Facts] (m : (ℓ : Loc Cert.KernelIdeal.nD Cert.KernelIdeal.τ Cert.KernelIdeal.sig) → Buf (Elt Ideal) ℓ) : Prop :=
  ∀ c : Dev Cert.KernelIdeal.nD,
    (Cert.Pre_one_hot.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_hot [hPre_one_hot : Cert.Pre_one_hot.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_hot.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_one_hot [hKernelIdeal : Cert.KernelIdeal.Facts] [hPre_one_hot : Cert.Pre_one_hot.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_hot m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_one_hot [hReferenceIdeal : Cert.ReferenceIdeal.Facts] [hPre_one_hot : Cert.Pre_one_hot.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_hot m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_one_hot [hKernelIdeal : Cert.KernelIdeal.Facts] [hReferenceIdeal : Cert.ReferenceIdeal.Facts] [hPre_one_hot : Cert.Pre_one_hot.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_hot m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_one_hot : Cert.Pre_one_hot.Facts),
    quiescent_Kernel (hKernel := hKernel)
    ∧ quiescent_KernelIdeal (hKernelIdeal := hKernelIdeal)
    ∧ quiescent_KernelIdeal_pre_one_hot (hKernelIdeal := hKernelIdeal) (hPre_one_hot := hPre_one_hot)
    ∧ quiescent_ReferenceIdeal (hReferenceIdeal := hReferenceIdeal)
    ∧ quiescent_ReferenceIdeal_pre_one_hot (hReferenceIdeal := hReferenceIdeal) (hPre_one_hot := hPre_one_hot)
    ∧ preserves_Kernel_KernelIdeal
    ∧ algebraic_KernelIdeal_ReferenceIdeal_pre_one_hot (hKernelIdeal := hKernelIdeal) (hReferenceIdeal := hReferenceIdeal) (hPre_one_hot := hPre_one_hot)
-- ==== Pre_one_hot.lean ====
abbrev S4096x4096x2 : Shape := ⟨3, ![4096, 4096, 2]⟩
abbrev S1 : Shape := ⟨1, ![1]⟩
abbrev S4096x4096x1 : Shape := ⟨3, ![4096, 4096, 1]⟩
abbrev S4096x4096 : Shape := ⟨2, ![4096, 4096]⟩
abbrev S_ : Shape := ⟨0, ![]⟩

class Facts : Prop where
  slices_S4096x4096x2_S4096x4096x1_0_0_0 : S4096x4096x2.Slices ![0, 0, 0] S4096x4096x1
  shapeCasts_S4096x4096x1_S4096x4096 : S4096x4096x1.ShapeCasts S4096x4096
  slices_S4096x4096x2_S4096x4096x1_0_0_1 : S4096x4096x2.Slices ![0, 0, 1] S4096x4096x1
  bcast_S_S4096x4096 : S_.BroadcastsInDim S4096x4096 (![] : Fin 0 → Fin S4096x4096.rank)

variable [Facts]

def fn {F : FTy → Type} [FloatOps F] (main_arg0 : FVec F S4096x4096x2 .f32) (main_arg1 : IVec S1 32) : IVec S4096x4096 1 :=
  let main_v0 : FVec F S4096x4096x1 .f32 := (extractStridedSlice S4096x4096x1 ![0, 0, 0] · slices_S4096x4096x2_S4096x4096x1_0_0_0) main_arg0
  let main_v1 : FVec F S4096x4096 .f32 := shapeCast S4096x4096 main_v0 shapeCasts_S4096x4096x1_S4096x4096
  let main_v2 : FVec F S4096x4096x1 .f32 := (extractStridedSlice S4096x4096x1 ![0, 0, 1] · slices_S4096x4096x2_S4096x4096x1_0_0_1) main_arg0
  let main_v3 : FVec F S4096x4096 .f32 := shapeCast S4096x4096 main_v2 shapeCasts_S4096x4096x1_S4096x4096
  let main_cst : FVec F S_ .f32 := constant S_ .f32 0x3F800000#32
  let main_v4 : FVec F S4096x4096 .f32 := broadcastInDim S4096x4096 ![] bcast_S_S4096x4096 main_cst
  let main_v5 : IVec S4096x4096 1 := cmpf .oeq main_v1 main_v4
  let main_cst_0 : FVec F S_ .f32 := constant S_ .f32 0x00000000#32
  let main_v6 : FVec F S4096x4096 .f32 := broadcastInDim S4096x4096 ![] bcast_S_S4096x4096 main_cst_0
  let main_v7 : IVec S4096x4096 1 := cmpf .oeq main_v3 main_v6
  let main_v8 : IVec S4096x4096 1 := andi main_v5 main_v7
  let main_cst_1 : FVec F S_ .f32 := constant S_ .f32 0x00000000#32
  let main_v9 : FVec F S4096x4096 .f32 := broadcastInDim S4096x4096 ![] bcast_S_S4096x4096 main_cst_1
  let main_v10 : IVec S4096x4096 1 := cmpf .oeq main_v1 main_v9
  let main_cst_2 : FVec F S_ .f32 := constant S_ .f32 0x3F800000#32
  let main_v11 : FVec F S4096x4096 .f32 := broadcastInDim S4096x4096 ![] bcast_S_S4096x4096 main_cst_2
  let main_v12 : IVec S4096x4096 1 := cmpf .oeq main_v3 main_v11
  let main_v13 : IVec S4096x4096 1 := andi main_v10 main_v12
  let main_v14 : IVec S4096x4096 1 := ori main_v8 main_v13
  main_v14
-- ==== Kernel.lean ====
abbrev S4096x4096x2 : Shape := ⟨3, ![4096, 4096, 2]⟩
abbrev S1 : Shape := ⟨1, ![1]⟩
abbrev S1001 : Shape := ⟨1, ![1001]⟩
abbrev S2x2 : Shape := ⟨2, ![2, 2]⟩
abbrev S_ : Shape := ⟨0, ![]⟩
abbrev S1x1 : Shape := ⟨2, ![1, 1]⟩
abbrev S4 : Shape := ⟨1, ![4]⟩
abbrev S8 : Shape := ⟨1, ![8]⟩
abbrev S4096x32x128x2 : Shape := ⟨4, ![4096, 32, 128, 2]⟩
abbrev S4096x32x2x128 : Shape := ⟨4, ![4096, 32, 2, 128]⟩
abbrev S4096x64x128 : Shape := ⟨3, ![4096, 64, 128]⟩
abbrev S4096x4096 : Shape := ⟨2, ![4096, 4096]⟩
abbrev S512x8x128 : Shape := ⟨3, ![512, 8, 128]⟩
abbrev S512x512 : Shape := ⟨2, ![512, 512]⟩
abbrev S512x1x128 : Shape := ⟨3, ![512, 1, 128]⟩
abbrev S512x128 : Shape := ⟨2, ![512, 128]⟩
abbrev S1024x1024 : Shape := ⟨2, ![1024, 1024]⟩

abbrev nBuf : Space → Nat
  | .hbm => 47
  | .vmem => 10
  | .smem => 1
  | _ => 0

abbrev bufTy : (tb : Table) → Fin (tcTables nBuf tb) → BufTy
  | .hbm, ⟨0, _⟩ => ⟨S4096x4096x2, .f32⟩
  | .hbm, ⟨1, _⟩ => ⟨S1, .i32⟩
  | .hbm, ⟨2, _⟩ => ⟨S1001, .f32⟩
  | .hbm, ⟨3, _⟩ => ⟨S2x2, .f32⟩
  | .hbm, ⟨4, _⟩ => ⟨S2x2, .f32⟩
  | .hbm, ⟨5, _⟩ => ⟨S_, .i32⟩
  | .hbm, ⟨6, _⟩ => ⟨S1, .i32⟩
  | .hbm, ⟨7, _⟩ => ⟨S1, .i1⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S1, .i32⟩
  | .hbm, ⟨12, _⟩ => ⟨S1x1, .i32⟩
  | .hbm, ⟨13, _⟩ => ⟨S1, .f32⟩
  | .hbm, ⟨14, _⟩ => ⟨S1x1, .f32⟩
  | .hbm, ⟨15, _⟩ => ⟨S2x2, .f32⟩
  | .hbm, ⟨16, _⟩ => ⟨S2x2, .f32⟩
  | .hbm, ⟨17, _⟩ => ⟨S_, .f32⟩
  | .hbm, ⟨18, _⟩ => ⟨S1, .f32⟩
  | .hbm, ⟨19, _⟩ => ⟨S1, .f32⟩
  | .hbm, ⟨20, _⟩ => ⟨S1x1, .f32⟩
  | .hbm, ⟨21, _⟩ => ⟨S2x2, .f32⟩
  | .hbm, ⟨22, _⟩ => ⟨S2x2, .f32⟩
  | .hbm, ⟨23, _⟩ => ⟨S2x2, .f32⟩
  | .hbm, ⟨24, _⟩ => ⟨S2x2, .bf16⟩
  | .hbm, ⟨25, _⟩ => ⟨S2x2, .f32⟩
  | .hbm, ⟨26, _⟩ => ⟨S_, .f32⟩
  | .hbm, ⟨27, _⟩ => ⟨S_, .f32⟩
  | .hbm, ⟨28, _⟩ => ⟨S2x2, .f32⟩
  | .hbm, ⟨29, _⟩ => ⟨S2x2, .f32⟩
  | .hbm, ⟨30, _⟩ => ⟨S2x2, .f32⟩
  | .hbm, ⟨31, _⟩ => ⟨S4, .f32⟩
  | .hbm, ⟨32, _⟩ => ⟨S4, .f32⟩
  | .hbm, ⟨33, _⟩ => ⟨S8, .f32⟩
  | .hbm, ⟨34, _⟩ => ⟨S4096x32x128x2, .f32⟩
  | .hbm, ⟨35, _⟩ => ⟨S4096x32x2x128, .f32⟩
  | .hbm, ⟨36, _⟩ => ⟨S4096x64x128, .f32⟩
  | .hbm, ⟨37, _⟩ => ⟨S4096x64x128, .f32⟩
  | .hbm, ⟨38, _⟩ => ⟨S4096x4096, .i32⟩
  | .hbm, ⟨39, _⟩ => ⟨S4096x4096, .i32⟩
  | .hbm, ⟨40, _⟩ => ⟨S4096x32x2x128, .f32⟩
  | .hbm, ⟨41, _⟩ => ⟨S4096x32x128x2, .f32⟩
  | .hbm, ⟨42, _⟩ => ⟨S4096x4096x2, .f32⟩
  | .hbm, ⟨43, _⟩ => ⟨S1, .f32⟩
  | .hbm, ⟨44, _⟩ => ⟨S_, .f32⟩
  | .hbm, ⟨45, _⟩ => ⟨S1, .f32⟩
  | .hbm, ⟨46, _⟩ => ⟨S1, .f32⟩
  | .local _ .vmem, ⟨0, _⟩ => ⟨S512x8x128, .f32⟩
  | .local _ .vmem, ⟨1, _⟩ => ⟨S512x8x128, .f32⟩
  | .local _ .vmem, ⟨2, _⟩ => ⟨S512x8x128, .f32⟩
  | .local _ .vmem, ⟨3, _⟩ => ⟨S512x8x128, .f32⟩
  | .local _ .vmem, ⟨4, _⟩ => ⟨S512x512, .i32⟩
  | .local _ .vmem, ⟨5, _⟩ => ⟨S512x512, .i32⟩
  | .local _ .vmem, ⟨6, _⟩ => ⟨S1024x1024, .i32⟩
  | .local _ .vmem, ⟨7, _⟩ => ⟨S1024x1024, .i32⟩
  | .local _ .vmem, ⟨8, _⟩ => ⟨S1024x1024, .i32⟩
  | .local _ .vmem, ⟨9, _⟩ => ⟨S1024x1024, .i32⟩
  | .local _ .smem, ⟨0, _⟩ => ⟨S8, .f32⟩
  | _, _ => ⟨S4096x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26_0 : Ref sig .tc := ⟨.hbm, 37, rfl⟩
abbrev main_v26_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c512_i32 : BitVec 32 := 512#32
  let v8 : BitVec 32 := Scalar.muli arg0 c512_i32
  let arg1 : BitVec 32 := BitVec.ofNat 32 (i 1).val
  let c1_i32 : BitVec 32 := 1#32
  let v9 : BitVec 32 := Scalar.addi arg1 c1_i32
  let c512_i32_0 : BitVec 32 := 512#32
  let v10 : BitVec 32 := Scalar.muli v9 c512_i32_0
  let v11 : BitVec 1 := Scalar.cmpi .slt v8 v10
  let v30 : BitVec 32 := Scalar.extui v11
  let c0_i32 : BitVec 32 := 0#32
  let v31 : BitVec 1 := Scalar.cmpi .ne v30 c0_i32
  v31

def k0_cond2 (i : grid0.Coords) : BitVec 1 :=
  let arg0 : BitVec 32 := BitVec.ofNat 32 (i 0).val
  let c512_i32 : BitVec 32 := 512#32
  let v8 : BitVec 32 := Scalar.muli arg0 c512_i32
  let arg1 : BitVec 32 := BitVec.ofNat 32 (i 1).val
  let c1_i32 : BitVec 32 := 1#32
  let v9 : BitVec 32 := Scalar.addi arg1 c1_i32
  let c512_i32_0 : BitVec 32 := 512#32
  let v10 : BitVec 32 := Scalar.muli v9 c512_i32_0
  let v11 : BitVec 1 := Scalar.cmpi .slt v8 v10
  let v50 : BitVec 32 := Scalar.extui v11
  let c0_i32_22 : BitVec 32 := 0#32
  let v51 : BitVec 1 := Scalar.cmpi .ne v50 c0_i32_22
  v51

def k0_cond3 (i : grid0.Coords) : BitVec 1 :=
  let arg0 : BitVec 32 := BitVec.ofNat 32 (i 0).val
  let c512_i32 : BitVec 32 := 512#32
  let v8 : BitVec 32 := Scalar.muli arg0 c512_i32
  let arg1 : BitVec 32 := BitVec.ofNat 32 (i 1).val
  let c1_i32 : BitVec 32 := 1#32
  let v9 : BitVec 32 := Scalar.addi arg1 c1_i32
  let c512_i32_0 : BitVec 32 := 512#32
  let v10 : BitVec 32 := Scalar.muli v9 c512_i32_0
  let v11 : BitVec 1 := Scalar.cmpi .slt v8 v10
  let v70 : BitVec 32 := Scalar.extui v11
  let c0_i32_34 : BitVec 32 := 0#32
  let v71 : BitVec 1 := Scalar.cmpi .ne v70 c0_i32_34
  v71

def k0_cond4 (i : grid0.Coords) : BitVec 1 :=
  let arg0 : BitVec 32 := BitVec.ofNat 32 (i 0).val
  let c512_i32 : BitVec 32 := 512#32
  let v8 : BitVec 32 := Scalar.muli arg0 c512_i32
  let arg1 : BitVec 32 := BitVec.ofNat 32 (i 1).val
  let c1_i32 : BitVec 32 := 1#32
  let v9 : BitVec 32 := Scalar.addi arg1 c1_i32
  let c512_i32_0 : BitVec 32 := 512#32
  let v10 : BitVec 32 := Scalar.muli v9 c512_i32_0
  let v11 : BitVec 1 := Scalar.cmpi .slt v8 v10
  let v90 : BitVec 32 := Scalar.extui v11
  let c0_i32_46 : BitVec 32 := 0#32
  let v91 : BitVec 1 := Scalar.cmpi .ne v90 c0_i32_46
  v91

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c512_i32_0 : BitVec 32 := 512#32
  let v1 : BitVec 32 := Scalar.divsi v0 c512_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.maxsi arg1 v17
  let c7_i32 : BitVec 32 := 7#32
  let v19 : BitVec 32 := Scalar.minsi v18 c7_i32
  let c0_i32_5 : BitVec 32 := 0#32
  ![arg0.toNat, v19.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 4], ![false, false]⟩

def k1_cond1 (i : grid1.Coords) : BitVec 1 :=
  let arg0 : BitVec 32 := BitVec.ofNat 32 (i 0).val
  let arg1 : BitVec 32 := BitVec.ofNat 32 (i 1).val
  let v2 : BitVec 1 := Scalar.cmpi .sgt arg0 arg1
  let v3 : BitVec 32 := Scalar.extui v2
  let c0_i32 : BitVec 32 := 0#32
  let v4 : BitVec 1 := Scalar.cmpi .ne v3 c0_i32
  v4

def k1_cond2 (i : grid1.Coords) : BitVec 1 :=
  let arg0 : BitVec 32 := BitVec.ofNat 32 (i 0).val
  let arg1 : BitVec 32 := BitVec.ofNat 32 (i 1).val
  let v5 : BitVec 1 := Scalar.cmpi .slt arg0 arg1
  let v6 : BitVec 32 := Scalar.extui v5
  let c0_i32_1 : BitVec 32 := 0#32
  let v7 : BitVec 1 := Scalar.cmpi .ne v6 c0_i32_1
  v7

def k1_cond3 (i : grid1.Coords) : BitVec 1 :=
  let arg0 : BitVec 32 := BitVec.ofNat 32 (i 0).val
  let arg1 : BitVec 32 := BitVec.ofNat 32 (i 1).val
  let v8 : BitVec 1 := Scalar.cmpi .eq arg0 arg1
  let v9 : BitVec 32 := Scalar.extui v8
  let c0_i32_2 : BitVec 32 := 0#32
  let v10 : BitVec 1 := Scalar.cmpi .ne v9 c0_i32_2
  v10

def cc1_transform_0 (i : grid1.Coords) : Fin 2 → Nat :=
  let arg0 : BitVec 32 := BitVec.ofNat 32 (i 0).val
  let arg1 : BitVec 32 := BitVec.ofNat 32 (i 1).val
  let v0 : BitVec 32 := Scalar.minsi arg0 arg1
  let v1 : BitVec 32 := Scalar.maxsi arg0 arg1
  let c0_i32 : BitVec 32 := 0#32
  ![v0.toNat, v1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]
-- ==== ReferenceIdeal.lean ====
abbrev S4096x4096x2 : Shape := ⟨3, ![4096, 4096, 2]⟩
abbrev S1 : Shape := ⟨1, ![1]⟩
abbrev S1001 : Shape := ⟨1, ![1001]⟩
abbrev S2x2 : Shape := ⟨2, ![2, 2]⟩
abbrev S_ : Shape := ⟨0, ![]⟩
abbrev S1x1 : Shape := ⟨2, ![1, 1]⟩
abbrev S16777216x2 : Shape := ⟨2, ![16777216, 2]⟩
abbrev S2 : Shape := ⟨1, ![2]⟩
abbrev S16777216 : Shape := ⟨1, ![16777216]⟩
abbrev S4096x4096 : Shape := ⟨2, ![4096, 4096]⟩

abbrev nBuf : Space → Nat
  | .hbm => 334
  | .vmem => 0
  | .smem => 0
  | _ => 0

abbrev hbmTy0_0 (i : Nat) : BufTy := match i % 128 with
  | 0 => ⟨S4096x4096x2, .f32⟩
  | 1 => ⟨S1, .i32⟩
  | 2 => ⟨S1001, .f32⟩
  | 3 => ⟨S2x2, .f32⟩
  | 4 => ⟨S2x2, .f32⟩
  | 5 => ⟨S_, .i32⟩
  | 6 => ⟨S1, .i32⟩
  | 7 => ⟨S1, .i1⟩
  | 8 => ⟨S_, .i32⟩
  | 9 => ⟨S1, .i32⟩
  | 10 => ⟨S1, .i32⟩
  | 11 => ⟨S1, .i32⟩
  | 12 => ⟨S1x1, .i32⟩
  | 13 => ⟨S1, .f32⟩
  | 14 => ⟨S1x1, .f32⟩
  | 15 => ⟨S2x2, .f32⟩
  | 16 => ⟨S2x2, .f32⟩
  | 17 => ⟨S_, .f32⟩
  | 18 => ⟨S1, .f32⟩
  | 19 => ⟨S1, .f32⟩
  | 20 => ⟨S1x1, .f32⟩
  | 21 => ⟨S2x2, .f32⟩
  | 22 => ⟨S2x2, .f32⟩
  | 23 => ⟨S2x2, .f32⟩
  | 24 => ⟨S4096x4096x2, .f32⟩
  | 25 => ⟨S16777216x2, .f32⟩
  | 26 => ⟨S_, .f32⟩
  | 27 => ⟨S_, .f32⟩
  | 28 => ⟨S16777216x2, .f32⟩
  | 29 => ⟨S16777216x2, .f32⟩
  | 30 => ⟨S16777216x2, .f32⟩
  | 31 => ⟨S_, .i32⟩
  | 32 => ⟨S_, .i32⟩
  | 33 => ⟨S_, .i32⟩
  | 34 => ⟨S_, .i32⟩
  | 35 => ⟨S1, .i32⟩
  | 36 => ⟨S_, .i32⟩
  | 37 => ⟨S_, .i32⟩
  | 38 => ⟨S_, .i32⟩
  | 39 => ⟨S1, .i32⟩
  | 40 => ⟨S2, .i32⟩
  | 41 => ⟨S_, .f32⟩
  | 42 => ⟨S_, .f32⟩
  | 43 => ⟨S_, .f32⟩
  | 44 => ⟨S_, .f32⟩
  | 45 => ⟨S1x1, .f32⟩
  | 46 => ⟨S1x1, .f32⟩
  | 47 => ⟨S1, .i32⟩
  | 48 => ⟨S_, .i32⟩
  | 49 => ⟨S1, .i32⟩
  | 50 => ⟨S_, .i32⟩
  | 51 => ⟨S16777216x2, .i64⟩
  | 52 => ⟨S16777216x2, .i64⟩
  | 53 => ⟨S_, .i64⟩
  | 54 => ⟨S16777216x2, .i64⟩
  | 55 => ⟨S16777216x2, .i64⟩
  | 56 => ⟨S_, .i64⟩
  | 57 => ⟨S16777216x2, .i64⟩
  | 58 => ⟨S16777216x2, .i64⟩
  | 59 => ⟨S16777216x2, .i64⟩
  | 60 => ⟨S_, .i64⟩
  | 61 => ⟨S16777216x2, .i64⟩
  | 62 => ⟨S16777216x2, .i64⟩
  | 63 => ⟨S16777216x2, .i32⟩
  | 64 => ⟨S16777216x2, .i32⟩
  | 65 => ⟨S_, .i32⟩
  | 66 => ⟨S_, .i32⟩
  | 67 => ⟨S_, .i32⟩
  | 68 => ⟨S16777216x2, .i32⟩
  | 69 => ⟨S16777216x2, .i32⟩
  | 70 => ⟨S16777216x2, .i32⟩
  | 71 => ⟨S16777216x2, .i32⟩
  | 72 => ⟨S16777216x2, .i32⟩
  | 73 => ⟨S_, .i32⟩
  | 74 => ⟨S16777216x2, .i32⟩
  | 75 => ⟨S16777216x2, .i32⟩
  | 76 => ⟨S_, .i32⟩
  | 77 => ⟨S16777216x2, .i32⟩
  | 78 => ⟨S16777216x2, .i32⟩
  | 79 => ⟨S16777216x2, .i32⟩
  | 80 => ⟨S16777216x2, .i32⟩
  | 81 => ⟨S16777216x2, .i32⟩
  | 82 => ⟨S_, .i32⟩
  | 83 => ⟨S16777216x2, .i32⟩
  | 84 => ⟨S16777216x2, .i32⟩
  | 85 => ⟨S_, .i32⟩
  | 86 => ⟨S16777216x2, .i32⟩
  | 87 => ⟨S16777216x2, .i32⟩
  | 88 => ⟨S16777216x2, .i32⟩
  | 89 => ⟨S16777216x2, .i32⟩
  | 90 => ⟨S16777216x2, .i32⟩
  | 91 => ⟨S_, .i32⟩
  | 92 => ⟨S16777216x2, .i32⟩
  | 93 => ⟨S16777216x2, .i32⟩
  | 94 => ⟨S_, .i32⟩
  | 95 => ⟨S16777216x2, .i32⟩
  | 96 => ⟨S16777216x2, .i32⟩
  | 97 => ⟨S16777216x2, .i32⟩
  | 98 => ⟨S16777216x2, .i32⟩
  | 99 => ⟨S16777216x2, .i32⟩
  | 100 => ⟨S_, .i32⟩
  | 101 => ⟨S16777216x2, .i32⟩
  | 102 => ⟨S16777216x2, .i32⟩
  | 103 => ⟨S_, .i32⟩
  | 104 => ⟨S16777216x2, .i32⟩
  | 105 => ⟨S16777216x2, .i32⟩
  | 106 => ⟨S16777216x2, .i32⟩
  | 107 => ⟨S16777216x2, .i32⟩
  | 108 => ⟨S16777216x2, .i32⟩
  | 109 => ⟨S16777216x2, .i32⟩
  | 110 => ⟨S16777216x2, .i32⟩
  | 111 => ⟨S16777216x2, .i32⟩
  | 112 => ⟨S_, .i32⟩
  | 113 => ⟨S16777216x2, .i32⟩
  | 114 => ⟨S16777216x2, .i32⟩
  | 115 => ⟨S16777216x2, .i32⟩
  | 116 => ⟨S_, .i32⟩
  | 117 => ⟨S16777216x2, .i32⟩
  | 118 => ⟨S16777216x2, .i32⟩
  | 119 => ⟨S_, .i32⟩
  | 120 => ⟨S16777216x2, .i32⟩
  | 121 => ⟨S16777216x2, .i32⟩
  | 122 => ⟨S16777216x2, .i32⟩
  | 123 => ⟨S16777216x2, .i32⟩
  | 124 => ⟨S16777216x2, .i32⟩
  | 125 => ⟨S_, .i32⟩
  | 126 => ⟨S16777216x2, .i32⟩
  | 127 => ⟨S16777216x2, .i32⟩
  | _ => ⟨S4096x4096x2, .f32⟩

abbrev hbmTy0_1 (i : Nat) : BufTy := match i % 128 with
  | 0 => ⟨S_, .i32⟩
  | 1 => ⟨S16777216x2, .i32⟩
  | 2 => ⟨S16777216x2, .i32⟩
  | 3 => ⟨S16777216x2, .i32⟩
  | 4 => ⟨S16777216x2, .i32⟩
  | 5 => ⟨S16777216x2, .i32⟩
  | 6 => ⟨S_, .i32⟩
  | 7 => ⟨S16777216x2, .i32⟩
  | 8 => ⟨S16777216x2, .i32⟩
  | 9 => ⟨S_, .i32⟩
  | 10 => ⟨S16777216x2, .i32⟩
  | 11 => ⟨S16777216x2, .i32⟩
  | 12 => ⟨S16777216x2, .i32⟩
  | 13 => ⟨S16777216x2, .i32⟩
  | 14 => ⟨S16777216x2, .i32⟩
  | 15 => ⟨S_, .i32⟩
  | 16 => ⟨S16777216x2, .i32⟩
  | 17 => ⟨S16777216x2, .i32⟩
  | 18 => ⟨S_, .i32⟩
  | 19 => ⟨S16777216x2, .i32⟩
  | 20 => ⟨S16777216x2, .i32⟩
  | 21 => ⟨S16777216x2, .i32⟩
  | 22 => ⟨S16777216x2, .i32⟩
  | 23 => ⟨S16777216x2, .i32⟩
  | 24 => ⟨S16777216x2, .i32⟩
  | 25 => ⟨S16777216x2, .i32⟩
  | 26 => ⟨S16777216x2, .i32⟩
  | 27 => ⟨S_, .i32⟩
  | 28 => ⟨S16777216x2, .i32⟩
  | 29 => ⟨S16777216x2, .i32⟩
  | 30 => ⟨S16777216x2, .i32⟩
  | 31 => ⟨S_, .i32⟩
  | 32 => ⟨S16777216x2, .i32⟩
  | 33 => ⟨S16777216x2, .i32⟩
  | 34 => ⟨S_, .i32⟩
  | 35 => ⟨S16777216x2, .i32⟩
  | 36 => ⟨S16777216x2, .i32⟩
  | 37 => ⟨S16777216x2, .i32⟩
  | 38 => ⟨S16777216x2, .i32⟩
  | 39 => ⟨S16777216x2, .i32⟩
  | 40 => ⟨S_, .i32⟩
  | 41 => ⟨S16777216x2, .i32⟩
  | 42 => ⟨S16777216x2, .i32⟩
  | 43 => ⟨S_, .i32⟩
  | 44 => ⟨S16777216x2, .i32⟩
  | 45 => ⟨S16777216x2, .i32⟩
  | 46 => ⟨S16777216x2, .i32⟩
  | 47 => ⟨S16777216x2, .i32⟩
  | 48 => ⟨S16777216x2, .i32⟩
  | 49 => ⟨S_, .i32⟩
  | 50 => ⟨S16777216x2, .i32⟩
  | 51 => ⟨S16777216x2, .i32⟩
  | 52 => ⟨S_, .i32⟩
  | 53 => ⟨S16777216x2, .i32⟩
  | 54 => ⟨S16777216x2, .i32⟩
  | 55 => ⟨S16777216x2, .i32⟩
  | 56 => ⟨S16777216x2, .i32⟩
  | 57 => ⟨S16777216x2, .i32⟩
  | 58 => ⟨S_, .i32⟩
  | 59 => ⟨S16777216x2, .i32⟩
  | 60 => ⟨S16777216x2, .i32⟩
  | 61 => ⟨S_, .i32⟩
  | 62 => ⟨S16777216x2, .i32⟩
  | 63 => ⟨S16777216x2, .i32⟩
  | 64 => ⟨S16777216x2, .i32⟩
  | 65 => ⟨S16777216x2, .i32⟩
  | 66 => ⟨S16777216x2, .i32⟩
  | 67 => ⟨S16777216x2, .i32⟩
  | 68 => ⟨S16777216x2, .i32⟩
  | 69 => ⟨S16777216x2, .i32⟩
  | 70 => ⟨S_, .i32⟩
  | 71 => ⟨S16777216x2, .i32⟩
  | 72 => ⟨S16777216x2, .i32⟩
  | 73 => ⟨S16777216x2, .i32⟩
  | 74 => ⟨S_, .i32⟩
  | 75 => ⟨S16777216x2, .i32⟩
  | 76 => ⟨S16777216x2, .i32⟩
  | 77 => ⟨S_, .i32⟩
  | 78 => ⟨S16777216x2, .i32⟩
  | 79 => ⟨S16777216x2, .i32⟩
  | 80 => ⟨S16777216x2, .i32⟩
  | 81 => ⟨S16777216x2, .i32⟩
  | 82 => ⟨S16777216x2, .i32⟩
  | 83 => ⟨S_, .i32⟩
  | 84 => ⟨S16777216x2, .i32⟩
  | 85 => ⟨S16777216x2, .i32⟩
  | 86 => ⟨S_, .i32⟩
  | 87 => ⟨S16777216x2, .i32⟩
  | 88 => ⟨S16777216x2, .i32⟩
  | 89 => ⟨S16777216x2, .i32⟩
  | 90 => ⟨S16777216x2, .i32⟩
  | 91 => ⟨S16777216x2, .i32⟩
  | 92 => ⟨S_, .i32⟩
  | 93 => ⟨S16777216x2, .i32⟩
  | 94 => ⟨S16777216x2, .i32⟩
  | 95 => ⟨S_, .i32⟩
  | 96 => ⟨S16777216x2, .i32⟩
  | 97 => ⟨S16777216x2, .i32⟩
  | 98 => ⟨S16777216x2, .i32⟩
  | 99 => ⟨S16777216x2, .i32⟩
  | 100 => ⟨S16777216x2, .i32⟩
  | 101 => ⟨S_, .i32⟩
  | 102 => ⟨S16777216x2, .i32⟩
  | 103 => ⟨S16777216x2, .i32⟩
  | 104 => ⟨S_, .i32⟩
  | 105 => ⟨S16777216x2, .i32⟩
  | 106 => ⟨S16777216x2, .i32⟩
  | 107 => ⟨S16777216x2, .i32⟩
  | 108 => ⟨S16777216x2, .i32⟩
  | 109 => ⟨S16777216x2, .i32⟩
  | 110 => ⟨S16777216x2, .i32⟩
  | 111 => ⟨S16777216x2, .i32⟩
  | 112 => ⟨S16777216x2, .i32⟩
  | 113 => ⟨S_, .i32⟩
  | 114 => ⟨S16777216x2, .i32⟩
  | 115 => ⟨S16777216x2, .i32⟩
  | 116 => ⟨S16777216x2, .i32⟩
  | 117 => ⟨S_, .i32⟩
  | 118 => ⟨S16777216x2, .i32⟩
  | 119 => ⟨S16777216x2, .i32⟩
  | 120 => ⟨S_, .i32⟩
  | 121 => ⟨S16777216x2, .i32⟩
  | 122 => ⟨S16777216x2, .i32⟩
  | 123 => ⟨S16777216x2, .i32⟩
  | 124 => ⟨S16777216x2, .i32⟩
  | 125 => ⟨S16777216x2, .i32⟩
  | 126 => ⟨S_, .i32⟩
  | 127 => ⟨S16777216x2, .i32⟩
  | _ => ⟨S4096x4096x2, .f32⟩

abbrev hbmTy0_2 (i : Nat) : BufTy := match i % 128 with
  | 0 => ⟨S16777216x2, .i32⟩
  | 1 => ⟨S_, .i32⟩
  | 2 => ⟨S16777216x2, .i32⟩
  | 3 => ⟨S16777216x2, .i32⟩
  | 4 => ⟨S16777216x2, .i32⟩
  | 5 => ⟨S16777216x2, .i32⟩
  | 6 => ⟨S16777216x2, .i32⟩
  | 7 => ⟨S_, .i32⟩
  | 8 => ⟨S16777216x2, .i32⟩
  | 9 => ⟨S16777216x2, .i32⟩
  | 10 => ⟨S_, .i32⟩
  | 11 => ⟨S16777216x2, .i32⟩
  | 12 => ⟨S16777216x2, .i32⟩
  | 13 => ⟨S16777216x2, .i32⟩
  | 14 => ⟨S16777216x2, .i32⟩
  | 15 => ⟨S16777216x2, .i32⟩
  | 16 => ⟨S_, .i32⟩
  | 17 => ⟨S16777216x2, .i32⟩
  | 18 => ⟨S16777216x2, .i32⟩
  | 19 => ⟨S_, .i32⟩
  | 20 => ⟨S16777216x2, .i32⟩
  | 21 => ⟨S16777216x2, .i32⟩
  | 22 => ⟨S16777216x2, .i32⟩
  | 23 => ⟨S16777216x2, .i32⟩
  | 24 => ⟨S16777216x2, .i32⟩
  | 25 => ⟨S16777216x2, .i32⟩
  | 26 => ⟨S16777216x2, .i32⟩
  | 27 => ⟨S16777216x2, .i32⟩
  | 28 => ⟨S_, .i32⟩
  | 29 => ⟨S16777216x2, .i32⟩
  | 30 => ⟨S16777216x2, .i32⟩
  | 31 => ⟨S16777216x2, .i32⟩
  | 32 => ⟨S_, .i32⟩
  | 33 => ⟨S16777216x2, .i32⟩
  | 34 => ⟨S16777216x2, .i32⟩
  | 35 => ⟨S_, .i32⟩
  | 36 => ⟨S16777216x2, .i32⟩
  | 37 => ⟨S16777216x2, .i32⟩
  | 38 => ⟨S16777216x2, .f32⟩
  | 39 => ⟨S_, .f32⟩
  | 40 => ⟨S16777216x2, .f32⟩
  | 41 => ⟨S16777216x2, .f32⟩
  | 42 => ⟨S1x1, .f32⟩
  | 43 => ⟨S16777216x2, .f32⟩
  | 44 => ⟨S16777216x2, .f32⟩
  | 45 => ⟨S16777216x2, .f32⟩
  | 46 => ⟨S16777216x2, .f32⟩
  | 47 => ⟨S16777216x2, .f32⟩
  | 48 => ⟨S16777216x2, .f32⟩
  | 49 => ⟨S_, .f32⟩
  | 50 => ⟨S16777216x2, .f32⟩
  | 51 => ⟨S16777216x2, .f32⟩
  | 52 => ⟨S_, .f32⟩
  | 53 => ⟨S16777216x2, .f32⟩
  | 54 => ⟨S16777216x2, .f32⟩
  | 55 => ⟨S_, .f32⟩
  | 56 => ⟨S16777216x2, .f32⟩
  | 57 => ⟨S16777216x2, .f32⟩
  | 58 => ⟨S16777216x2, .f32⟩
  | 59 => ⟨S16777216x2, .f32⟩
  | 60 => ⟨S16777216x2, .f32⟩
  | 61 => ⟨S16777216x2, .f32⟩
  | 62 => ⟨S16777216x2, .f32⟩
  | 63 => ⟨S16777216x2, .i32⟩
  | 64 => ⟨S_, .f32⟩
  | 65 => ⟨S_, .i32⟩
  | 66 => ⟨S16777216, .f32⟩
  | 67 => ⟨S16777216, .i32⟩
  | 68 => ⟨S4096x4096, .i32⟩
  | 69 => ⟨S4096x4096, .i32⟩
  | 70 => ⟨S4096x4096, .i32⟩
  | 71 => ⟨S4096x4096, .i1⟩
  | 72 => ⟨S4096x4096, .i32⟩
  | 73 => ⟨S4096x4096, .i32⟩
  | 74 => ⟨S1, .f32⟩
  | 75 => ⟨S_, .f32⟩
  | 76 => ⟨S1, .f32⟩
  | 77 => ⟨S1, .f32⟩
  | _ => ⟨S4096x4096x2, .f32⟩

abbrev hbmTy (i : Nat) : BufTy := match i / 128 with
  | 0 => hbmTy0_0 i
  | 1 => hbmTy0_1 i
  | 2 => hbmTy0_2 i
  | _ => ⟨S4096x4096x2, .f32⟩

abbrev bufTy : (tb : Table) → Fin (tcTables nBuf tb) → BufTy
  | .hbm, ⟨i, _⟩ => hbmTy i
  | _, _ => ⟨S4096x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_c_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_c : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_c_1 : Ref sig .tc := ⟨.hbm, 60, rfl⟩
abbrev main_call1_v15 : Ref sig .tc := ⟨.hbm, 61, rfl⟩
abbrev main_call1_v16 : Ref sig .tc := ⟨.hbm, 62, rfl⟩
abbrev main_call1_v17 : Ref sig .tc := ⟨.hbm, 63, rfl⟩
abbrev main_call1_v18 : Ref sig .tc := ⟨.hbm, 64, rfl⟩
abbrev main_call1_call0_v0 : Ref sig .tc := ⟨.hbm, 65, rfl⟩
abbrev main_call1_call0_c : Ref sig .tc := ⟨.hbm, 66, rfl⟩
abbrev main_call1_call0_v1 : Ref sig .tc := ⟨.hbm, 67, rfl⟩
abbrev main_call1_call0_v2 : Ref sig .tc := ⟨.hbm, 68, rfl⟩
abbrev main_call1_call0_v3 : Ref sig .tc := ⟨.hbm, 69, rfl⟩
abbrev main_call1_call0_v4 : Ref sig .tc := ⟨.hbm, 70, rfl⟩
abbrev main_call1_call0_v5 : Ref sig .tc := ⟨.hbm, 71, rfl⟩
abbrev main_call1_call0_v6 : Ref sig .tc := ⟨.hbm, 72, rfl⟩
abbrev main_call1_call0_c_0 : Ref sig .tc := ⟨.hbm, 73, rfl⟩
abbrev main_call1_call0_v7 : Ref sig .tc := ⟨.hbm, 74, rfl⟩
abbrev main_call1_call0_v8 : Ref sig .tc := ⟨.hbm, 75, rfl⟩
abbrev main_call1_call0_c_1 : Ref sig .tc := ⟨.hbm, 76, rfl⟩
abbrev main_call1_call0_v9 : Ref sig .tc := ⟨.hbm, 77, rfl⟩
abbrev main_call1_call0_v10 : Ref sig .tc := ⟨.hbm, 78, rfl⟩
abbrev main_call1_call0_v11 : Ref sig .tc := ⟨.hbm, 79, rfl⟩
abbrev main_call1_call0_v12 : Ref sig .tc := ⟨.hbm, 80, rfl⟩
abbrev main_call1_call0_v13 : Ref sig .tc := ⟨.hbm, 81, rfl⟩
abbrev main_call1_call0_c_2 : Ref sig .tc := ⟨.hbm, 82, rfl⟩
abbrev main_call1_call0_v14 : Ref sig .tc := ⟨.hbm, 83, rfl⟩
abbrev main_call1_call0_v15 : Ref sig .tc := ⟨.hbm, 84, rfl⟩
abbrev main_call1_call0_c_3 : Ref sig .tc := ⟨.hbm, 85, rfl⟩
abbrev main_call1_call0_v16 : Ref sig .tc := ⟨.hbm, 86, rfl⟩
abbrev main_call1_call0_v17 : Ref sig .tc := ⟨.hbm, 87, rfl⟩
abbrev main_call1_call0_v18 : Ref sig .tc := ⟨.hbm, 88, rfl⟩
abbrev main_call1_call0_v19 : Ref sig .tc := ⟨.hbm, 89, rfl⟩
abbrev main_call1_call0_v20 : Ref sig .tc := ⟨.hbm, 90, rfl⟩
abbrev main_call1_call0_c_4 : Ref sig .tc := ⟨.hbm, 91, rfl⟩
abbrev main_call1_call0_v21 : Ref sig .tc := ⟨.hbm, 92, rfl⟩
abbrev main_call1_call0_v22 : Ref sig .tc := ⟨.hbm, 93, rfl⟩
abbrev main_call1_call0_c_5 : Ref sig .tc := ⟨.hbm, 94, rfl⟩
abbrev main_call1_call0_v23 : Ref sig .tc := ⟨.hbm, 95, rfl⟩
abbrev main_call1_call0_v24 : Ref sig .tc := ⟨.hbm, 96, rfl⟩
abbrev main_call1_call0_v25 : Ref sig .tc := ⟨.hbm, 97, rfl⟩
abbrev main_call1_call0_v26 : Ref sig .tc := ⟨.hbm, 98, rfl⟩
abbrev main_call1_call0_v27 : Ref sig .tc := ⟨.hbm, 99, rfl⟩
abbrev main_call1_call0_c_6 : Ref sig .tc := ⟨.hbm, 100, rfl⟩
abbrev main_call1_call0_v28 : Ref sig .tc := ⟨.hbm, 101, rfl⟩
abbrev main_call1_call0_v29 : Ref sig .tc := ⟨.hbm, 102, rfl⟩
abbrev main_call1_call0_c_7 : Ref sig .tc := ⟨.hbm, 103, rfl⟩
abbrev main_call1_call0_v30 : Ref sig .tc := ⟨.hbm, 104, rfl⟩
abbrev main_call1_call0_v31 : Ref sig .tc := ⟨.hbm, 105, rfl⟩
abbrev main_call1_call0_v32 : Ref sig .tc := ⟨.hbm, 106, rfl⟩
abbrev main_call1_call0_v33 : Ref sig .tc := ⟨.hbm, 107, rfl⟩
abbrev main_call1_call0_v34 : Ref sig .tc := ⟨.hbm, 108, rfl⟩
abbrev main_call1_call0_v35 : Ref sig .tc := ⟨.hbm, 109, rfl⟩
abbrev main_call1_call0_v36 : Ref sig .tc := ⟨.hbm, 110, rfl⟩
abbrev main_call1_call0_v37 : Ref sig .tc := ⟨.hbm, 111, rfl⟩
abbrev main_call1_call0_c_8 : Ref sig .tc := ⟨.hbm, 112, rfl⟩
abbrev main_call1_call0_v38 : Ref sig .tc := ⟨.hbm, 113, rfl⟩
abbrev main_call1_call0_v39 : Ref sig .tc := ⟨.hbm, 114, rfl⟩
abbrev main_call1_call0_v40 : Ref sig .tc := ⟨.hbm, 115, rfl⟩
abbrev main_call1_call0_c_9 : Ref sig .tc := ⟨.hbm, 116, rfl⟩
abbrev main_call1_call0_v41 : Ref sig .tc := ⟨.hbm, 117, rfl⟩
abbrev main_call1_call0_v42 : Ref sig .tc := ⟨.hbm, 118, rfl⟩
abbrev main_call1_call0_c_10 : Ref sig .tc := ⟨.hbm, 119, rfl⟩
abbrev main_call1_call0_v43 : Ref sig .tc := ⟨.hbm, 120, rfl⟩
abbrev main_call1_call0_v44 : Ref sig .tc := ⟨.hbm, 121, rfl⟩
abbrev main_call1_call0_v45 : Ref sig .tc := ⟨.hbm, 122, rfl⟩
abbrev main_call1_call0_v46 : Ref sig .tc := ⟨.hbm, 123, rfl⟩
abbrev main_call1_call0_v47 : Ref sig .tc := ⟨.hbm, 124, rfl⟩
abbrev main_call1_call0_c_11 : Ref sig .tc := ⟨.hbm, 125, rfl⟩
abbrev main_call1_call0_v48 : Ref sig .tc := ⟨.hbm, 126, rfl⟩
abbrev main_call1_call0_v49 : Ref sig .tc := ⟨.hbm, 127, rfl⟩
abbrev main_call1_call0_c_12 : Ref sig .tc := ⟨.hbm, 128, rfl⟩
abbrev main_call1_call0_v50 : Ref sig .tc := ⟨.hbm, 129, rfl⟩
abbrev main_call1_call0_v51 : Ref sig .tc := ⟨.hbm, 130, rfl⟩
abbrev main_call1_call0_v52 : Ref sig .tc := ⟨.hbm, 131, rfl⟩
abbrev main_call1_call0_v53 : Ref sig .tc := ⟨.hbm, 132, rfl⟩
abbrev main_call1_call0_v54 : Ref sig .tc := ⟨.hbm, 133, rfl⟩
abbrev main_call1_call0_c_13 : Ref sig .tc := ⟨.hbm, 134, rfl⟩
abbrev main_call1_call0_v55 : Ref sig .tc := ⟨.hbm, 135, rfl⟩
abbrev main_call1_call0_v56 : Ref sig .tc := ⟨.hbm, 136, rfl⟩
abbrev main_call1_call0_c_14 : Ref sig .tc := ⟨.hbm, 137, rfl⟩
abbrev main_call1_call0_v57 : Ref sig .tc := ⟨.hbm, 138, rfl⟩
abbrev main_call1_call0_v58 : Ref sig .tc := ⟨.hbm, 139, rfl⟩
abbrev main_call1_call0_v59 : Ref sig .tc := ⟨.hbm, 140, rfl⟩
abbrev main_call1_call0_v60 : Ref sig .tc := ⟨.hbm, 141, rfl⟩
abbrev main_call1_call0_v61 : Ref sig .tc := ⟨.hbm, 142, rfl⟩
abbrev main_call1_call0_c_15 : Ref sig .tc := ⟨.hbm, 143, rfl⟩
abbrev main_call1_call0_v62 : Ref sig .tc := ⟨.hbm, 144, rfl⟩
abbrev main_call1_call0_v63 : Ref sig .tc := ⟨.hbm, 145, rfl⟩
abbrev main_call1_call0_c_16 : Ref sig .tc := ⟨.hbm, 146, rfl⟩
abbrev main_call1_call0_v64 : Ref sig .tc := ⟨.hbm, 147, rfl⟩
abbrev main_call1_call0_v65 : Ref sig .tc := ⟨.hbm, 148, rfl⟩
abbrev main_call1_call0_v66 : Ref sig .tc := ⟨.hbm, 149, rfl⟩
abbrev main_call1_call0_v67 : Ref sig .tc := ⟨.hbm, 150, rfl⟩
abbrev main_call1_call0_v68 : Ref sig .tc := ⟨.hbm, 151, rfl⟩
abbrev main_call1_call0_v69 : Ref sig .tc := ⟨.hbm, 152, rfl⟩
abbrev main_call1_call0_v70 : Ref sig .tc := ⟨.hbm, 153, rfl⟩
abbrev main_call1_call0_v71 : Ref sig .tc := ⟨.hbm, 154, rfl⟩
abbrev main_call1_call0_c_17 : Ref sig .tc := ⟨.hbm, 155, rfl⟩
abbrev main_call1_call0_v72 : Ref sig .tc := ⟨.hbm, 156, rfl⟩
abbrev main_call1_call0_v73 : Ref sig .tc := ⟨.hbm, 157, rfl⟩
abbrev main_call1_call0_v74 : Ref sig .tc := ⟨.hbm, 158, rfl⟩
abbrev main_call1_call0_c_18 : Ref sig .tc := ⟨.hbm, 159, rfl⟩
abbrev main_call1_call0_v75 : Ref sig .tc := ⟨.hbm, 160, rfl⟩
abbrev main_call1_call0_v76 : Ref sig .tc := ⟨.hbm, 161, rfl⟩
abbrev main_call1_call0_c_19 : Ref sig .tc := ⟨.hbm, 162, rfl⟩
abbrev main_call1_call0_v77 : Ref sig .tc := ⟨.hbm, 163, rfl⟩
abbrev main_call1_call0_v78 : Ref sig .tc := ⟨.hbm, 164, rfl⟩
abbrev main_call1_call0_v79 : Ref sig .tc := ⟨.hbm, 165, rfl⟩
abbrev main_call1_call0_v80 : Ref sig .tc := ⟨.hbm, 166, rfl⟩
abbrev main_call1_call0_v81 : Ref sig .tc := ⟨.hbm, 167, rfl⟩
abbrev main_call1_call0_c_20 : Ref sig .tc := ⟨.hbm, 168, rfl⟩
abbrev main_call1_call0_v82 : Ref sig .tc := ⟨.hbm, 169, rfl⟩
abbrev main_call1_call0_v83 : Ref sig .tc := ⟨.hbm, 170, rfl⟩
abbrev main_call1_call0_c_21 : Ref sig .tc := ⟨.hbm, 171, rfl⟩
abbrev main_call1_call0_v84 : Ref sig .tc := ⟨.hbm, 172, rfl⟩
abbrev main_call1_call0_v85 : Ref sig .tc := ⟨.hbm, 173, rfl⟩
abbrev main_call1_call0_v86 : Ref sig .tc := ⟨.hbm, 174, rfl⟩
abbrev main_call1_call0_v87 : Ref sig .tc := ⟨.hbm, 175, rfl⟩
abbrev main_call1_call0_v88 : Ref sig .tc := ⟨.hbm, 176, rfl⟩
abbrev main_call1_call0_c_22 : Ref sig .tc := ⟨.hbm, 177, rfl⟩
abbrev main_call1_call0_v89 : Ref sig .tc := ⟨.hbm, 178, rfl⟩
abbrev main_call1_call0_v90 : Ref sig .tc := ⟨.hbm, 179, rfl⟩
abbrev main_call1_call0_c_23 : Ref sig .tc := ⟨.hbm, 180, rfl⟩
abbrev main_call1_call0_v91 : Ref sig .tc := ⟨.hbm, 181, rfl⟩
abbrev main_call1_call0_v92 : Ref sig .tc := ⟨.hbm, 182, rfl⟩
abbrev main_call1_call0_v93 : Ref sig .tc := ⟨.hbm, 183, rfl⟩
abbrev main_call1_call0_v94 : Ref sig .tc := ⟨.hbm, 184, rfl⟩
abbrev main_call1_call0_v95 : Ref sig .tc := ⟨.hbm, 185, rfl⟩
abbrev main_call1_call0_c_24 : Ref sig .tc := ⟨.hbm, 186, rfl⟩
abbrev main_call1_call0_v96 : Ref sig .tc := ⟨.hbm, 187, rfl⟩
abbrev main_call1_call0_v97 : Ref sig .tc := ⟨.hbm, 188, rfl⟩
abbrev main_call1_call0_c_25 : Ref sig .tc := ⟨.hbm, 189, rfl⟩
abbrev main_call1_call0_v98 : Ref sig .tc := ⟨.hbm, 190, rfl⟩
abbrev main_call1_call0_v99 : Ref sig .tc := ⟨.hbm, 191, rfl⟩
abbrev main_call1_call0_v100 : Ref sig .tc := ⟨.hbm, 192, rfl⟩
abbrev main_call1_call0_v101 : Ref sig .tc := ⟨.hbm, 193, rfl⟩
abbrev main_call1_call0_v102 : Ref sig .tc := ⟨.hbm, 194, rfl⟩
abbrev main_call1_call0_v103 : Ref sig .tc := ⟨.hbm, 195, rfl⟩
abbrev main_call1_call0_v104 : Ref sig .tc := ⟨.hbm, 196, rfl⟩
abbrev main_call1_call0_v105 : Ref sig .tc := ⟨.hbm, 197, rfl⟩
abbrev main_call1_call0_c_26 : Ref sig .tc := ⟨.hbm, 198, rfl⟩
abbrev main_call1_call0_v106 : Ref sig .tc := ⟨.hbm, 199, rfl⟩
abbrev main_call1_call0_v107 : Ref sig .tc := ⟨.hbm, 200, rfl⟩
abbrev main_call1_call0_v108 : Ref sig .tc := ⟨.hbm, 201, rfl⟩
abbrev main_call1_call0_c_27 : Ref sig .tc := ⟨.hbm, 202, rfl⟩
abbrev main_call1_call0_v109 : Ref sig .tc := ⟨.hbm, 203, rfl⟩
abbrev main_call1_call0_v110 : Ref sig .tc := ⟨.hbm, 204, rfl⟩
abbrev main_call1_call0_c_28 : Ref sig .tc := ⟨.hbm, 205, rfl⟩
abbrev main_call1_call0_v111 : Ref sig .tc := ⟨.hbm, 206, rfl⟩
abbrev main_call1_call0_v112 : Ref sig .tc := ⟨.hbm, 207, rfl⟩
abbrev main_call1_call0_v113 : Ref sig .tc := ⟨.hbm, 208, rfl⟩
abbrev main_call1_call0_v114 : Ref sig .tc := ⟨.hbm, 209, rfl⟩
abbrev main_call1_call0_v115 : Ref sig .tc := ⟨.hbm, 210, rfl⟩
abbrev main_call1_call0_c_29 : Ref sig .tc := ⟨.hbm, 211, rfl⟩
abbrev main_call1_call0_v116 : Ref sig .tc := ⟨.hbm, 212, rfl⟩
abbrev main_call1_call0_v117 : Ref sig .tc := ⟨.hbm, 213, rfl⟩
abbrev main_call1_call0_c_30 : Ref sig .tc := ⟨.hbm, 214, rfl⟩
abbrev main_call1_call0_v118 : Ref sig .tc := ⟨.hbm, 215, rfl⟩
abbrev main_call1_call0_v119 : Ref sig .tc := ⟨.hbm, 216, rfl⟩
abbrev main_call1_call0_v120 : Ref sig .tc := ⟨.hbm, 217, rfl⟩
abbrev main_call1_call0_v121 : Ref sig .tc := ⟨.hbm, 218, rfl⟩
abbrev main_call1_call0_v122 : Ref sig .tc := ⟨.hbm, 219, rfl⟩
abbrev main_call1_call0_c_31 : Ref sig .tc := ⟨.hbm, 220, rfl⟩
abbrev main_call1_call0_v123 : Ref sig .tc := ⟨.hbm, 221, rfl⟩
abbrev main_call1_call0_v124 : Ref sig .tc := ⟨.hbm, 222, rfl⟩
abbrev main_call1_call0_c_32 : Ref sig .tc := ⟨.hbm, 223, rfl⟩
abbrev main_call1_call0_v125 : Ref sig .tc := ⟨.hbm, 224, rfl⟩
abbrev main_call1_call0_v126 : Ref sig .tc := ⟨.hbm, 225, rfl⟩
abbrev main_call1_call0_v127 : Ref sig .tc := ⟨.hbm, 226, rfl⟩
abbrev main_call1_call0_v128 : Ref sig .tc := ⟨.hbm, 227, rfl⟩
abbrev main_call1_call0_v129 : Ref sig .tc := ⟨.hbm, 228, rfl⟩
abbrev main_call1_call0_c_33 : Ref sig .tc := ⟨.hbm, 229, rfl⟩
abbrev main_call1_call0_v130 : Ref sig .tc := ⟨.hbm, 230, rfl⟩
abbrev main_call1_call0_v131 : Ref sig .tc := ⟨.hbm, 231, rfl⟩
abbrev main_call1_call0_c_34 : Ref sig .tc := ⟨.hbm, 232, rfl⟩
abbrev main_call1_call0_v132 : Ref sig .tc := ⟨.hbm, 233, rfl⟩
abbrev main_call1_call0_v133 : Ref sig .tc := ⟨.hbm, 234, rfl⟩
abbrev main_call1_call0_v134 : Ref sig .tc := ⟨.hbm, 235, rfl⟩
abbrev main_call1_call0_v135 : Ref sig .tc := ⟨.hbm, 236, rfl⟩
abbrev main_call1_call0_v136 : Ref sig .tc := ⟨.hbm, 237, rfl⟩
abbrev main_call1_call0_v137 : Ref sig .tc := ⟨.hbm, 238, rfl⟩
abbrev main_call1_call0_v138 : Ref sig .tc := ⟨.hbm, 239, rfl⟩
abbrev main_call1_call0_v139 : Ref sig .tc := ⟨.hbm, 240, rfl⟩
abbrev main_call1_call0_c_35 : Ref sig .tc := ⟨.hbm, 241, rfl⟩
abbrev main_call1_call0_v140 : Ref sig .tc := ⟨.hbm, 242, rfl⟩
abbrev main_call1_call0_v141 : Ref sig .tc := ⟨.hbm, 243, rfl⟩
abbrev main_call1_call0_v142 : Ref sig .tc := ⟨.hbm, 244, rfl⟩
abbrev main_call1_call0_c_36 : Ref sig .tc := ⟨.hbm, 245, rfl⟩
abbrev main_call1_call0_v143 : Ref sig .tc := ⟨.hbm, 246, rfl⟩
abbrev main_call1_call0_v144 : Ref sig .tc := ⟨.hbm, 247, rfl⟩
abbrev main_call1_call0_c_37 : Ref sig .tc := ⟨.hbm, 248, rfl⟩
abbrev main_call1_call0_v145 : Ref sig .tc := ⟨.hbm, 249, rfl⟩
abbrev main_call1_call0_v146 : Ref sig .tc := ⟨.hbm, 250, rfl⟩
abbrev main_call1_call0_v147 : Ref sig .tc := ⟨.hbm, 251, rfl⟩
abbrev main_call1_call0_v148 : Ref sig .tc := ⟨.hbm, 252, rfl⟩
abbrev main_call1_call0_v149 : Ref sig .tc := ⟨.hbm, 253, rfl⟩
abbrev main_call1_call0_c_38 : Ref sig .tc := ⟨.hbm, 254, rfl⟩
abbrev main_call1_call0_v150 : Ref sig .tc := ⟨.hbm, 255, rfl⟩
abbrev main_call1_call0_v151 : Ref sig .tc := ⟨.hbm, 256, rfl⟩
abbrev main_call1_call0_c_39 : Ref sig .tc := ⟨.hbm, 257, rfl⟩
abbrev main_call1_call0_v152 : Ref sig .tc := ⟨.hbm, 258, rfl⟩
abbrev main_call1_call0_v153 : Ref sig .tc := ⟨.hbm, 259, rfl⟩
abbrev main_call1_call0_v154 : Ref sig .tc := ⟨.hbm, 260, rfl⟩
abbrev main_call1_call0_v155 : Ref sig .tc := ⟨.hbm, 261, rfl⟩
abbrev main_call1_call0_v156 : Ref sig .tc := ⟨.hbm, 262, rfl⟩
abbrev main_call1_call0_c_40 : Ref sig .tc := ⟨.hbm, 263, rfl⟩
abbrev main_call1_call0_v157 : Ref sig .tc := ⟨.hbm, 264, rfl⟩
abbrev main_call1_call0_v158 : Ref sig .tc := ⟨.hbm, 265, rfl⟩
abbrev main_call1_call0_c_41 : Ref sig .tc := ⟨.hbm, 266, rfl⟩
abbrev main_call1_call0_v159 : Ref sig .tc := ⟨.hbm, 267, rfl⟩
abbrev main_call1_call0_v160 : Ref sig .tc := ⟨.hbm, 268, rfl⟩
abbrev main_call1_call0_v161 : Ref sig .tc := ⟨.hbm, 269, rfl⟩
abbrev main_call1_call0_v162 : Ref sig .tc := ⟨.hbm, 270, rfl⟩
abbrev main_call1_call0_v163 : Ref sig .tc := ⟨.hbm, 271, rfl⟩
abbrev main_call1_call0_c_42 : Ref sig .tc := ⟨.hbm, 272, rfl⟩
abbrev main_call1_call0_v164 : Ref sig .tc := ⟨.hbm, 273, rfl⟩
abbrev main_call1_call0_v165 : Ref sig .tc := ⟨.hbm, 274, rfl⟩
abbrev main_call1_call0_c_43 : Ref sig .tc := ⟨.hbm, 275, rfl⟩
abbrev main_call1_call0_v166 : Ref sig .tc := ⟨.hbm, 276, rfl⟩
abbrev main_call1_call0_v167 : Ref sig .tc := ⟨.hbm, 277, rfl⟩
abbrev main_call1_call0_v168 : Ref sig .tc := ⟨.hbm, 278, rfl⟩
abbrev main_call1_call0_v169 : Ref sig .tc := ⟨.hbm, 279, rfl⟩
abbrev main_call1_call0_v170 : Ref sig .tc := ⟨.hbm, 280, rfl⟩
abbrev main_call1_v19_0 : Ref sig .tc := ⟨.hbm, 281, rfl⟩
abbrev main_call1_call0_v172 : Ref sig .tc := ⟨.hbm, 282, rfl⟩
abbrev main_call1_call0_v173 : Ref sig .tc := ⟨.hbm, 283, rfl⟩
abbrev main_call1_call0_c_44 : Ref sig .tc := ⟨.hbm, 284, rfl⟩
abbrev main_call1_call0_v174 : Ref sig .tc := ⟨.hbm, 285, rfl⟩
abbrev main_call1_v19_1 : Ref sig .tc := ⟨.hbm, 286, rfl⟩
abbrev main_call1_v20 : Ref sig .tc := ⟨.hbm, 287, rfl⟩
abbrev main_call1_c_2 : Ref sig .tc := ⟨.hbm, 288, rfl⟩
abbrev main_call1_v21 : Ref sig .tc := ⟨.hbm, 289, rfl⟩
abbrev main_call1_v22 : Ref sig .tc := ⟨.hbm, 290, rfl⟩
abbrev main_call1_c_3 : Ref sig .tc := ⟨.hbm, 291, rfl⟩
abbrev main_call1_v23 : Ref sig .tc := ⟨.hbm, 292, rfl⟩
abbrev main_call1_v24 : Ref sig .tc := ⟨.hbm, 293, rfl⟩
abbrev main_call1_v25 : Ref sig .tc := ⟨.hbm, 294, rfl⟩
abbrev main_call1_cst : Ref sig .tc := ⟨.hbm, 295, rfl⟩
abbrev main_call1_v26 : Ref sig .tc := ⟨.hbm, 296, rfl⟩
abbrev main_call1_v27 : Ref sig .tc := ⟨.hbm, 297, rfl⟩
abbrev main_call1_v28 : Ref sig .tc := ⟨.hbm, 298, rfl⟩
abbrev main_call1_v29 : Ref sig .tc := ⟨.hbm, 299, rfl⟩
abbrev main_call1_v30 : Ref sig .tc := ⟨.hbm, 300, rfl⟩
abbrev main_call1_v31 : Ref sig .tc := ⟨.hbm, 301, rfl⟩
abbrev main_call1_v32 : Ref sig .tc := ⟨.hbm, 302, rfl⟩
abbrev main_call1_v33 : Ref sig .tc := ⟨.hbm, 303, rfl⟩
abbrev main_v27 : Ref sig .tc := ⟨.hbm, 304, rfl⟩
abbrev main_cst_10 : Ref sig .tc := ⟨.hbm, 305, rfl⟩
abbrev main_v28 : Ref sig .tc := ⟨.hbm, 306, rfl⟩
abbrev main_v29 : Ref sig .tc := ⟨.hbm, 307, rfl⟩
abbrev main_cst_11 : Ref sig .tc := ⟨.hbm, 308, rfl⟩
abbrev main_v30 : Ref sig .tc := ⟨.hbm, 309, rfl⟩
abbrev main_v31 : Ref sig .tc := ⟨.hbm, 310, rfl⟩
abbrev main_cst_12 : Ref sig .tc := ⟨.hbm, 311, rfl⟩
abbrev main_v32 : Ref sig .tc := ⟨.hbm, 312, rfl⟩
abbrev main_v33 : Ref sig .tc := ⟨.hbm, 313, rfl⟩
abbrev main_v34 : Ref sig .tc := ⟨.hbm, 314, rfl⟩
abbrev main_v35 : Ref sig .tc := ⟨.hbm, 315, rfl⟩
abbrev main_v36 : Ref sig .tc := ⟨.hbm, 316, rfl⟩
abbrev main_v37 : Ref sig .tc := ⟨.hbm, 317, rfl⟩
abbrev main_v38 : Ref sig .tc := ⟨.hbm, 318, rfl⟩
abbrev main_call2_v0 : Ref sig .tc := ⟨.hbm, 319, rfl⟩
abbrev main_call2_cst : Ref sig .tc := ⟨.hbm, 320, rfl⟩
abbrev main_call2_c : Ref sig .tc := ⟨.hbm, 321, rfl⟩
abbrev main_call2_v1_0 : Ref sig .tc := ⟨.hbm, 322, rfl⟩
abbrev main_v39 : Ref sig .tc := ⟨.hbm, 323, rfl⟩
abbrev main_v40 : Ref sig .tc := ⟨.hbm, 324, rfl⟩
abbrev main_v41 : Ref sig .tc := ⟨.hbm, 325, rfl⟩
abbrev main_v42 : Ref sig .tc := ⟨.hbm, 326, rfl⟩
abbrev main_v43 : Ref sig .tc := ⟨.hbm, 327, rfl⟩
abbrev main_v44 : Ref sig .tc := ⟨.hbm, 328, rfl⟩
abbrev main_v45 : Ref sig .tc := ⟨.hbm, 329, rfl⟩
abbrev main_v46 : Ref sig .tc := ⟨.hbm, 330, rfl⟩
abbrev main_cst_13 : Ref sig .tc := ⟨.hbm, 331, rfl⟩
abbrev main_v47 : Ref sig .tc := ⟨.hbm, 332, rfl⟩
abbrev main_v48 : Ref sig .tc := ⟨.hbm, 333, rfl⟩

abbrev nD : Nat := 1
abbrev τ : Topo := Topo.v7x

variable {F : FTy → Type} [FloatOps F]
-- ==== Proof.KernelIdealRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

/-! The run of the kernel's program: its two regions and the host operations around them, from the launch to the end. -/

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions

variable (V : (c : Dev nD) → (b : Ref sig .tc) → Buf (Elt F) ((c : Thread nD τ).loc b))

/-- The block of a window of region 0 at a grid point, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0 of region 0 holds its block when the body starts, for any record of the region with these arrays. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1 of region 0 holds its block when the body starts, for any record of the region with these arrays. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Test number 0 of region 0, as the body computes it. -/
abbrev cond0_0 (i : grid0.Coords) : Prop := k0_cond1 i = 1#1

/-- Test number 0 of region 0 in closed form in the grid point. -/
theorem hcond0_0 : ∀ t : Fin cfg0.N, cond0_0 (grid0.coords t) ↔ t.val / 8 % 8 ≤ t.val % 8 :=
  (by decide +kernel : ∀ t : Fin grid0.N, cond0_0 (grid0.coords t) ↔ t.val / 8 % 8 ≤ t.val % 8)

/-- Test number 1 of region 0, as the body computes it. -/
abbrev cond0_1 (i : grid0.Coords) : Prop := k0_cond2 i = 1#1

/-- Test number 1 of region 0 in closed form in the grid point. -/
theorem hcond0_1 : ∀ t : Fin cfg0.N, cond0_1 (grid0.coords t) ↔ t.val / 8 % 8 ≤ t.val % 8 :=
  (by decide +kernel : ∀ t : Fin grid0.N, cond0_1 (grid0.coords t) ↔ t.val / 8 % 8 ≤ t.val % 8)

/-- Test number 2 of region 0, as the body computes it. -/
abbrev cond0_2 (i : grid0.Coords) : Prop := k0_cond3 i = 1#1

/-- Test number 2 of region 0 in closed form in the grid point. -/
theorem hcond0_2 : ∀ t : Fin cfg0.N, cond0_2 (grid0.coords t) ↔ t.val / 8 % 8 ≤ t.val % 8 :=
  (by decide +kernel : ∀ t : Fin grid0.N, cond0_2 (grid0.coords t) ↔ t.val / 8 % 8 ≤ t.val % 8)

/-- Test number 3 of region 0, as the body computes it. -/
abbrev cond0_3 (i : grid0.Coords) : Prop := k0_cond4 i = 1#1

/-- Test number 3 of region 0 in closed form in the grid point. -/
theorem hcond0_3 : ∀ t : Fin cfg0.N, cond0_3 (grid0.coords t) ↔ t.val / 8 % 8 ≤ t.val % 8 :=
  (by decide +kernel : ∀ t : Fin grid0.N, cond0_3 (grid0.coords t) ↔ t.val / 8 % 8 ≤ t.val % 8)

/-- Window 0 of region 0 is in use at these points. -/
theorem liveAt0_0 : ∀ t : Fin cfg0.N, cfg0.idle 0 (grid0.coords t) = false := fun _ => rfl

/-- Window 1 of region 0 is in use at these points. -/
theorem liveAt0_1 : ∀ t : Fin cfg0.N, cfg0.idle 1 (grid0.coords t) = false := fun _ => rfl

/-- Window 2 of region 0 is in use at these points. -/
theorem liveAt0_2 : ∀ t : Fin cfg0.N, cfg0.idle 2 (grid0.coords t) = false := fun _ => rfl

/-- The tests of case A of region 0. -/
abbrev conds0_A (i : grid0.Coords) : Prop := cond0_0 i ∧ cond0_1 i ∧ cond0_2 i ∧ cond0_3 i
instance conds0_A.dec (i : grid0.Coords) : Decidable (conds0_A i) :=
  @instDecidableAnd _ _ inferInstance (@instDecidableAnd _ _ inferInstance (@instDecidableAnd _ _ inferInstance inferInstance))

/-- The tests of case B of region 0. -/
abbrev conds0_B (i : grid0.Coords) : Prop := ¬cond0_0 i ∧ ¬cond0_1 i ∧ ¬cond0_2 i ∧ ¬cond0_3 i
instance conds0_B.dec (i : grid0.Coords) : Decidable (conds0_B i) :=
  @instDecidableAnd _ _ inferInstance (@instDecidableAnd _ _ inferInstance (@instDecidableAnd _ _ inferInstance inferInstance))

/-- Window 3 of region 0 is in use at these points. -/
theorem liveAt0_3_A : ∀ t : Fin cfg0.N, cond0_0 (grid0.coords t) → cond0_1 (grid0.coords t) → cond0_2 (grid0.coords t) → cond0_3 (grid0.coords t) → cfg0.idle 3 (grid0.coords t) = false :=
  fun t h0 h1 h2 h3 => (by decide +kernel : ∀ t : Fin cfg0.N, conds0_A (grid0.coords t) → cfg0.idle 3 (grid0.coords t) = false) t ⟨h0, h1, h2, h3⟩

/-- Window 3 of region 0 is left alone at these points. -/
theorem idleAt0_3_B : ∀ t : Fin cfg0.N, ¬cond0_0 (grid0.coords t) → ¬cond0_1 (grid0.coords t) → ¬cond0_2 (grid0.coords t) → ¬cond0_3 (grid0.coords t) → cfg0.idle 3 (grid0.coords t) = true :=
  fun t h0 h1 h2 h3 => (by decide +kernel : ∀ t : Fin cfg0.N, conds0_B (grid0.coords t) → cfg0.idle 3 (grid0.coords t) = true) t ⟨h0, h1, h2, h3⟩

/-- Window 3 of region 0 is not written back at these points. -/
theorem noFlush0_3_B : ∀ t : Fin cfg0.N, ¬cond0_0 (grid0.coords t) → ¬cond0_1 (grid0.coords t) → ¬cond0_2 (grid0.coords t) → ¬cond0_3 (grid0.coords t) → (cfg0.win 3).flush t = false :=
  fun t h0 h1 h2 h3 => (by decide +kernel : ∀ t : Fin cfg0.N, conds0_B (grid0.coords t) → (cfg0.win 3).flush t = false) t ⟨h0, h1, h2, h3⟩

/-- The staging buffer of window 2 of region 0, seen whole. -/
abbrev VO0_2 : View sig .tc .vmem S512x8x128 .f32 := (Memref.whole cc0_stg2_0 : Memref sig .tc .vmem S512x8x128 .f32).view

/-- The staging buffer of window 3 of region 0, seen whole. -/
abbrev VO0_3 : View sig .tc .vmem S512x512 .i32 := (Memref.whole cc0_stg3_0 : Memref sig .tc .vmem S512x512 .i32).view

/-- The staging buffer window 0 of region 0 uses at a point. -/
abbrev ms0_0 (t : Fin cfg0.N) : Memref sig .tc .smem S8 .f32 := win0_0.stage (cfg0.slots t 0)
/-- That staging buffer is whole. -/
abbrev hs0_0 (t : Fin cfg0.N) : (ms0_0 t).IsWhole := hstage0_0 ((cfg0.slots t 0).cast nbuf0_0)
/-- The staging buffer window 1 of region 0 uses at a point. -/
abbrev ms0_1 (t : Fin cfg0.N) : Memref sig .tc .vmem S512x8x128 .f32 := win0_1.stage (cfg0.slots t 1)
/-- That staging buffer is whole. -/
abbrev hs0_1 (t : Fin cfg0.N) : (ms0_1 t).IsWhole := hstage0_1 ((cfg0.slots t 1).cast nbuf0_1)
/-- The staging buffer window 2 of region 0 uses at a point. -/
abbrev ms0_2 (t : Fin cfg0.N) : Memref sig .tc .vmem S512x8x128 .f32 := win0_2.stage (cfg0.slots t 2)
/-- That staging buffer is whole. -/
abbrev hs0_2 (t : Fin cfg0.N) : (ms0_2 t).IsWhole := hstage0_2 ((cfg0.slots t 2).cast nbuf0_2)
/-- The staging buffer window 3 of region 0 uses at a point. -/
abbrev ms0_3 (t : Fin cfg0.N) : Memref sig .tc .vmem S512x512 .i32 := win0_3.stage (cfg0.slots t 3)
/-- That staging buffer is whole. -/
abbrev hs0_3 (t : Fin cfg0.N) : (ms0_3 t).IsWhole := hstage0_3 ((cfg0.slots t 3).cast nbuf0_3)

set_option maxHeartbeats 1000000 in

/-- What the body of region 0 stores in case A, and that it runs from the blocks to those stores. -/
noncomputable def kernelRun0_A (c : Dev nD) (i : grid0.Coords) (arg2 : Memref sig .tc .smem S8 .f32) (harg2 : arg2.IsWhole) (arg3 : Memref sig .tc .vmem S512x8x128 .f32) (harg3 : arg3.IsWhole) (arg4 : Memref sig .tc .vmem S512x8x128 .f32) (harg4 : arg4.IsWhole) (arg5 : Memref sig .tc .vmem S512x512 .i32) (harg5 : arg5.IsWhole) (hc0 : cond0_0 i) (hc1 : cond0_1 i) (hc2 : cond0_2 i) (hc3 : cond0_3 i)
    (x0 : Vec F S8 .f32) (x1 : Vec F S512x8x128 .f32) :
    Σ' (L2 : List (View.Piece (Elt F) S512x8x128 .f32)), { L3 : List (View.Piece (Elt F) S512x512 .i32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__body i arg2 harg2 arg3 harg3 arg4 harg4 arg5 harg5) K } := by
  refine ⟨?_, ?_, fun E K => ?run⟩
  case run =>
    simp only [cc0__body_eq_skeleton]; unfold cc0__body_skel
    simp only [k0_part37_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part38_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

/-- In case A the stores into window 2 of region 0 fill its block. -/
theorem cover0_A_2 (c : Dev nD) (i : grid0.Coords) (arg2 : Memref sig .tc .smem S8 .f32) (harg2 : arg2.IsWhole) (arg3 : Memref sig .tc .vmem S512x8x128 .f32) (harg3 : arg3.IsWhole) (arg4 : Memref sig .tc .vmem S512x8x128 .f32) (harg4 : arg4.IsWhole) (arg5 : Memref sig .tc .vmem S512x512 .i32) (harg5 : arg5.IsWhole) (hc0 : cond0_0 i) (hc1 : cond0_1 i) (hc2 : cond0_2 i) (hc3 : cond0_3 i)
    (x0 : Vec F S8 .f32) (x1 : Vec F S512x8x128 .f32) (y : S512x8x128.Idx) :
    ∃ pc ∈ (kernelRun0_A c i arg2 harg2 arg3 harg3 arg4 harg4 arg5 harg5 hc0 hc1 hc2 hc3 x0 x1).1, y ∈ pc.1.set :=
  View.cover_of_tiledL (kernelRun0_A c i arg2 harg2 arg3 harg3 arg4 harg4 arg5 harg5 hc0 hc1 hc2 hc3 x0 x1).1 S512x1x128.size (by sl_kernel_rfl) y

/-- What case A leaves in window 2 of region 0. -/
def out0_A_2 (c : Dev nD) (i : grid0.Coords) (arg2 : Memref sig .tc .smem S8 .f32) (harg2 : arg2.IsWhole) (arg3 : Memref sig .tc .vmem S512x8x128 .f32) (harg3 : arg3.IsWhole) (arg4 : Memref sig .tc .vmem S512x8x128 .f32) (harg4 : arg4.IsWhole) (arg5 : Memref sig .tc .vmem S512x512 .i32) (harg5 : arg5.IsWhole) (hc0 : cond0_0 i) (hc1 : cond0_1 i) (hc2 : cond0_2 i) (hc3 : cond0_3 i)
    (x0 : Vec F S8 .f32) (x1 : Vec F S512x8x128 .f32) : Vec F S512x8x128 .f32 :=
  VO0_2.read (Elt F) (VO0_2.writes (Elt F) VO0_2.junk (kernelRun0_A c i arg2 harg2 arg3 harg3 arg4 harg4 arg5 harg5 hc0 hc1 hc2 hc3 x0 x1).1)

/-- In case A the stores into window 3 of region 0 fill its block. -/
theorem cover0_A_3 (c : Dev nD) (i : grid0.Coords) (arg2 : Memref sig .tc .smem S8 .f32) (harg2 : arg2.IsWhole) (arg3 : Memref sig .tc .vmem S512x8x128 .f32) (harg3 : arg3.IsWhole) (arg4 : Memref sig .tc .vmem S512x8x128 .f32) (harg4 : arg4.IsWhole) (arg5 : Memref sig .tc .vmem S512x512 .i32) (harg5 : arg5.IsWhole) (hc0 : cond0_0 i) (hc1 : cond0_1 i) (hc2 : cond0_2 i) (hc3 : cond0_3 i)
    (x0 : Vec F S8 .f32) (x1 : Vec F S512x8x128 .f32) (y : S512x512.Idx) :
    ∃ pc ∈ (kernelRun0_A c i arg2 harg2 arg3 harg3 arg4 harg4 arg5 harg5 hc0 hc1 hc2 hc3 x0 x1).2.1, y ∈ pc.1.set :=
  View.cover_of_tiledL (kernelRun0_A c i arg2 harg2 arg3 harg3 arg4 harg4 arg5 harg5 hc0 hc1 hc2 hc3 x0 x1).2.1 S512x128.size (by sl_kernel_rfl) y

/-- What case A leaves in window 3 of region 0. -/
def out0_A_3 (c : Dev nD) (i : grid0.Coords) (arg2 : Memref sig .tc .smem S8 .f32) (harg2 : arg2.IsWhole) (arg3 : Memref sig .tc .vmem S512x8x128 .f32) (harg3 : arg3.IsWhole) (arg4 : Memref sig .tc .vmem S512x8x128 .f32) (harg4 : arg4.IsWhole) (arg5 : Memref sig .tc .vmem S512x512 .i32) (harg5 : arg5.IsWhole) (hc0 : cond0_0 i) (hc1 : cond0_1 i) (hc2 : cond0_2 i) (hc3 : cond0_3 i)
    (x0 : Vec F S8 .f32) (x1 : Vec F S512x8x128 .f32) : Vec F S512x512 .i32 :=
  VO0_3.read (Elt F) (VO0_3.writes (Elt F) VO0_3.junk (kernelRun0_A c i arg2 harg2 arg3 harg3 arg4 harg4 arg5 harg5 hc0 hc1 hc2 hc3 x0 x1).2.1)

set_option maxHeartbeats 1000000 in

/-- What the body of region 0 stores in case B, and that it runs from the blocks to those stores. -/
noncomputable def kernelRun0_B (c : Dev nD) (i : grid0.Coords) (arg2 : Memref sig .tc .smem S8 .f32) (harg2 : arg2.IsWhole) (arg3 : Memref sig .tc .vmem S512x8x128 .f32) (harg3 : arg3.IsWhole) (arg4 : Memref sig .tc .vmem S512x8x128 .f32) (harg4 : arg4.IsWhole) (arg5 : Memref sig .tc .vmem S512x512 .i32) (harg5 : arg5.IsWhole) (hc0 : ¬cond0_0 i) (hc1 : ¬cond0_1 i) (hc2 : ¬cond0_2 i) (hc3 : ¬cond0_3 i)
    (x0 : Vec F S8 .f32) (x1 : Vec F S512x8x128 .f32) :
    Σ' (L2 : List (View.Piece (Elt F) S512x8x128 .f32)), { L3 : List (View.Piece (Elt F) S512x512 .i32) //
      ∀ (xi3 : Vec F S512x512 .i32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3) -∗ K ⟨⟩))
          ⊢ wp frame (wpE (defs₀ (F := F)) Variants.none c none) E (cc0__body i arg2 harg2 arg3 harg3 arg4 harg4 arg5 harg5) K } := by
  refine ⟨?_, [], fun xi3 E K => ?run⟩
  case run =>
    simp only [cc0__body_eq_skeleton]; unfold cc0__body_skel
    simp only [k0_part37_eq_skeleton, k0_part38_eq_skeleton]
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; isplitr; · ipureintro; exact harg5.read_unread _
    iexact H3

/-- In case B the stores into window 2 of region 0 fill its block. -/
theorem cover0_B_2 (c : Dev nD) (i : grid0.Coords) (arg2 : Memref sig .tc .smem S8 .f32) (harg2 : arg2.IsWhole) (arg3 : Memref sig .tc .vmem S512x8x128 .f32) (harg3 : arg3.IsWhole) (arg4 : Memref sig .tc .vmem S512x8x128 .f32) (harg4 : arg4.IsWhole) (arg5 : Memref sig .tc .vmem S512x512 .i32) (harg5 : arg5.IsWhole) (hc0 : ¬cond0_0 i) (hc1 : ¬cond0_1 i) (hc2 : ¬cond0_2 i) (hc3 : ¬cond0_3 i)
    (x0 : Vec F S8 .f32) (x1 : Vec F S512x8x128 .f32) (y : S512x8x128.Idx) :
    ∃ pc ∈ (kernelRun0_B c i arg2 harg2 arg3 harg3 arg4 harg4 arg5 harg5 hc0 hc1 hc2 hc3 x0 x1).1, y ∈ pc.1.set :=
  View.cover_of_tiledL (kernelRun0_B c i arg2 harg2 arg3 harg3 arg4 harg4 arg5 harg5 hc0 hc1 hc2 hc3 x0 x1).1 S512x1x128.size (by sl_kernel_rfl) y

/-- What case B leaves in window 2 of region 0. -/
def out0_B_2 (c : Dev nD) (i : grid0.Coords) (arg2 : Memref sig .tc .smem S8 .f32) (harg2 : arg2.IsWhole) (arg3 : Memref sig .tc .vmem S512x8x128 .f32) (harg3 : arg3.IsWhole) (arg4 : Memref sig .tc .vmem S512x8x128 .f32) (harg4 : arg4.IsWhole) (arg5 : Memref sig .tc .vmem S512x512 .i32) (harg5 : arg5.IsWhole) (hc0 : ¬cond0_0 i) (hc1 : ¬cond0_1 i) (hc2 : ¬cond0_2 i) (hc3 : ¬cond0_3 i)
    (x0 : Vec F S8 .f32) (x1 : Vec F S512x8x128 .f32) : Vec F S512x8x128 .f32 :=
  VO0_2.read (Elt F) (VO0_2.writes (Elt F) VO0_2.junk (kernelRun0_B c i arg2 harg2 arg3 harg3 arg4 harg4 arg5 harg5 hc0 hc1 hc2 hc3 x0 x1).1)

/-- What case B leaves in window 3 of region 0. -/
def out0_B_3 (c : Dev nD) (i : grid0.Coords) (arg2 : Memref sig .tc .smem S8 .f32) (harg2 : arg2.IsWhole) (arg3 : Memref sig .tc .vmem S512x8x128 .f32) (harg3 : arg3.IsWhole) (arg4 : Memref sig .tc .vmem S512x8x128 .f32) (harg4 : arg4.IsWhole) (arg5 : Memref sig .tc .vmem S512x512 .i32) (harg5 : arg5.IsWhole) (hc0 : ¬cond0_0 i) (hc1 : ¬cond0_1 i) (hc2 : ¬cond0_2 i) (hc3 : ¬cond0_3 i)
    (x0 : Vec F S8 .f32) (x1 : Vec F S512x8x128 .f32) : Vec F S512x512 .i32 :=
  VO0_3.read (Elt F) (VO0_3.writes (Elt F) VO0_3.junk (kernelRun0_B c i arg2 harg2 arg3 harg3 arg4 harg4 arg5 harg5 hc0 hc1 hc2 hc3 x0 x1).2.1)

/-- What the body of region 0 leaves at a grid point. -/
def outsAt0 (c : Dev nD) : (n : ℕ) → n < cfg0.N → Vec F S512x8x128 .f32 × Vec F S512x512 .i32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (by (try dsimp only) <;> omega)) ((hcond0_1 ⟨0, hn⟩).mpr (by (try dsimp only) <;> omega)) ((hcond0_2 ⟨0, hn⟩).mpr (by (try dsimp only) <;> omega)) ((hcond0_3 ⟨0, hn⟩).mpr (by (try dsimp only) <;> omega)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (by (try dsimp only) <;> omega)) ((hcond0_1 ⟨0, hn⟩).mpr (by (try dsimp only) <;> omega)) ((hcond0_2 ⟨0, hn⟩).mpr (by (try dsimp only) <;> omega)) ((hcond0_3 ⟨0, hn⟩).mpr (by (try dsimp only) <;> omega)) (iblk0 V c 0 ⟨0, hn⟩) (iblk0 V c 1 ⟨0, hn⟩))
  | n + 1, hn =>
    if h0 : (n + 1) / 8 % 8 ≤ (n + 1) % 8 then
      if h1 : (n + 1) / 8 % 8 ≤ (n + 1) % 8 then
        if h2 : (n + 1) / 8 % 8 ≤ (n + 1) % 8 then
          if h3 : (n + 1) / 8 % 8 ≤ (n + 1) % 8 then
            (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) ((hcond0_1 ⟨n + 1, hn⟩).mpr h1) ((hcond0_2 ⟨n + 1, hn⟩).mpr h2) ((hcond0_3 ⟨n + 1, hn⟩).mpr h3) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) ((hcond0_1 ⟨n + 1, hn⟩).mpr h1) ((hcond0_2 ⟨n + 1, hn⟩).mpr h2) ((hcond0_3 ⟨n + 1, hn⟩).mpr h3) (iblk0 V c 0 ⟨n + 1, hn⟩) (iblk0 V c 1 ⟨n + 1, hn⟩))
          else
            False.elim (by have hN : n + 1 < 64 := lt_of_lt_of_eq hn (show cfg0.N = 64 from N_0); omega)
        else
          False.elim (by have hN : n + 1 < 64 := lt_of_lt_of_eq hn (show cfg0.N = 64 from N_0); omega)
      else
        False.elim (by have hN : n + 1 < 64 := lt_of_lt_of_eq hn (show cfg0.N = 64 from N_0); omega)
    else
      if h1 : (n + 1) / 8 % 8 ≤ (n + 1) % 8 then
        False.elim (by have hN : n + 1 < 64 := lt_of_lt_of_eq hn (show cfg0.N = 64 from N_0); omega)
      else
        if h2 : (n + 1) / 8 % 8 ≤ (n + 1) % 8 then
          False.elim (by have hN : n + 1 < 64 := lt_of_lt_of_eq hn (show cfg0.N = 64 from N_0); omega)
        else
          if h3 : (n + 1) / 8 % 8 ≤ (n + 1) % 8 then
            False.elim (by have hN : n + 1 < 64 := lt_of_lt_of_eq hn (show cfg0.N = 64 from N_0); omega)
          else
            (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (iblk0 V c 0 ⟨n + 1, hn⟩) (iblk0 V c 1 ⟨n + 1, hn⟩), out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (iblk0 V c 0 ⟨n + 1, hn⟩) (iblk0 V c 1 ⟨n + 1, hn⟩))

/-- At a point of case A the body of region 0 leaves what that case leaves. -/
theorem outsAt0_A (c : Dev nD) (t : Fin cfg0.N) (h0 : t.val / 8 % 8 ≤ t.val % 8) (h1 : t.val / 8 % 8 ≤ t.val % 8) (h2 : t.val / 8 % 8 ≤ t.val % 8) (h3 : t.val / 8 % 8 ≤ t.val % 8) :
    outsAt0 V c t.val t.isLt = (out0_A_2 c (grid0.coords t) (ms0_0 t) (hs0_0 t) (ms0_1 t) (hs0_1 t) (ms0_2 t) (hs0_2 t) (ms0_3 t) (hs0_3 t) ((hcond0_0 t).mpr h0) ((hcond0_1 t).mpr h1) ((hcond0_2 t).mpr h2) ((hcond0_3 t).mpr h3) (iblk0 V c 0 t) (iblk0 V c 1 t), out0_A_3 c (grid0.coords t) (ms0_0 t) (hs0_0 t) (ms0_1 t) (hs0_1 t) (ms0_2 t) (hs0_2 t) (ms0_3 t) (hs0_3 t) ((hcond0_0 t).mpr h0) ((hcond0_1 t).mpr h1) ((hcond0_2 t).mpr h2) ((hcond0_3 t).mpr h3) (iblk0 V c 0 t) (iblk0 V c 1 t)) := by
  obtain ⟨n, hn⟩ := t
  cases n with
  | zero => exact rfl
  | succ n => exact (dif_pos h0).trans ((dif_pos h1).trans ((dif_pos h2).trans ((dif_pos h3).trans rfl)))

/-- At a point of case B the body of region 0 leaves what that case leaves. -/
theorem outsAt0_B (c : Dev nD) (t : Fin cfg0.N) (h0 : ¬t.val / 8 % 8 ≤ t.val % 8) (h1 : ¬t.val / 8 % 8 ≤ t.val % 8) (h2 : ¬t.val / 8 % 8 ≤ t.val % 8) (h3 : ¬t.val / 8 % 8 ≤ t.val % 8) :
    outsAt0 V c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (fun h => h1 ((hcond0_1 t).mp h)) (fun h => h2 ((hcond0_2 t).mp h)) (fun h => h3 ((hcond0_3 t).mp h)) (iblk0 V c 0 t) (iblk0 V c 1 t), out0_B_3 c (grid0.coords t) (ms0_0 t) (hs0_0 t) (ms0_1 t) (hs0_1 t) (ms0_2 t) (hs0_2 t) (ms0_3 t) (hs0_3 t) (fun h => h0 ((hcond0_0 t).mp h)) (fun h => h1 ((hcond0_1 t).mp h)) (fun h => h2 ((hcond0_2 t).mp h)) (fun h => h3 ((hcond0_3 t).mp h)) (iblk0 V c 0 t) (iblk0 V c 1 t)) := by
  obtain ⟨n, hn⟩ := t
  cases n with
  | zero => exact (by exfalso; (try dsimp only at h0); exact by omega)
  | succ n => exact (dif_neg h0).trans ((dif_neg h1).trans ((dif_neg h2).trans ((dif_neg h3).trans rfl)))

/-- The record of region 0: the arrays at its start and what each point leaves. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q _ := fullShare
  owed _ := 0

/-- The arrays in the record of region 0. -/
theorem A_eq0 (c : Dev nD) (w : Fin cfg0.W) : (dat0 V c).A w = V c (Pipeline.arrRef spec0 w) := by
  dsimp only [dat0]

/-- What a point of region 0 leaves in window 0. -/
theorem after0_0 (c : Dev nD) (t : Fin cfg0.N) : (dat0 V c).after 0 t = iblk0 V c 0 t := by dsimp only [dat0]
/-- What a point of region 0 leaves in window 1. -/
theorem after0_1 (c : Dev nD) (t : Fin cfg0.N) : (dat0 V c).after 1 t = iblk0 V c 1 t := by dsimp only [dat0]
/-- What a point of region 0 leaves in window 2. -/
theorem after0_2 (c : Dev nD) (t : Fin cfg0.N) : (dat0 V c).after 2 t = (outsAt0 V c t.val t.isLt).1 := by dsimp only [dat0]
/-- What a point of region 0 leaves in window 3. -/
theorem after0_3 (c : Dev nD) (t : Fin cfg0.N) : (dat0 V c).after 3 t = (outsAt0 V c t.val t.isLt).2 := by dsimp only [dat0]

/-- What a point of region 0 finds in window 0. -/
theorem before0_0 (c : Dev nD) (t : Fin cfg0.N) (d) : (dat0 V c).before 0 t d = iblk0 V c 0 t :=
  before0_0_of V (dat0 V c) (A_eq0 V c 0) (after0_0 V c) t d
/-- What a point of region 0 finds in window 1. -/
theorem before0_1 (c : Dev nD) (t : Fin cfg0.N) (d) : (dat0 V c).before 1 t d = iblk0 V c 1 t :=
  before0_1_of V (dat0 V c) (A_eq0 V c 1) (after0_1 V c) t d

/-- What the body of region 0 is given at a point. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- What the body of region 0 gives back at a point. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 800000 in

/-- The body of region 0 runs at every point from what it is given to what it gives back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl]
  have hN : t.val < 64 := lt_of_lt_of_eq t.isLt (show cfg0.N = 64 from N_0)
  by_cases h0 : t.val / 8 % 8 ≤ t.val % 8
  · by_cases h1 : t.val / 8 % 8 ≤ t.val % 8
    · by_cases h2 : t.val / 8 % 8 ≤ t.val % 8
      · by_cases h3 : t.val / 8 % 8 ≤ t.val % 8
        · rw [show (dat0 V c).leavesExact 0 t = owns (c : Thread nD τ) (ms0_0 t) fullShare ((dat0 V c).after 0 t) from by
      unfold Dat.leavesExact; rw [liveAt0_0 t], after0_0]
          rw [show (dat0 V c).leavesExact 1 t = owns (c : Thread nD τ) (ms0_1 t) fullShare ((dat0 V c).after 1 t) from by
      unfold Dat.leavesExact; rw [liveAt0_1 t], after0_1]
          rw [show (dat0 V c).leavesExact 2 t = owns (c : Thread nD τ) (ms0_2 t) fullShare ((dat0 V c).after 2 t) from by
      unfold Dat.leavesExact; rw [liveAt0_2 t], after0_2]
          rw [show (dat0 V c).leavesExact 3 t = owns (c : Thread nD τ) (ms0_3 t) fullShare ((dat0 V c).after 3 t) from by
      unfold Dat.leavesExact; rw [liveAt0_3_A t ((hcond0_0 t).mpr h0) ((hcond0_1 t).mpr h1) ((hcond0_2 t).mpr h2) ((hcond0_3 t).mpr h3)], after0_3]
          rw [outsAt0_A V c t h0 h1 h2 h3]
          unfold out0_A_2 out0_A_3; (try dsimp only)
          iintro ⟨HΦ, Ho, ⟨%d0, H0⟩, ⟨%d1, H1⟩, ⟨%d2, H2⟩, ⟨%d3, H3⟩⟩
          iapply ((kernelRun0_A c (grid0.coords t) _ _ _ _ _ _ _ _ ((hcond0_0 t).mpr h0) ((hcond0_1 t).mpr h1) ((hcond0_2 t).mpr h2) ((hcond0_3 t).mpr h3) (iblk0 V c 0 t) (iblk0 V c 1 t)).2.2 Set.univ _)
          isplitl [H0]; · iexact H0
          isplitl [H1]; · iexact H1
          isplitl [H2]; · iexists _; iexact H2
          isplitl [H3]; · iexists _; iexact H3
          iintro ⟨H0, H1, ⟨%e2, H2⟩, ⟨%e3, H3⟩⟩
          isplitl [HΦ]; · iexact HΦ
          isplitl [Ho]; · iexact Ho
          isplitl [H0]; · iexact H0
          isplitl [H1]; · iexact H1
          isplitl [H2]
          · unfold owns; iexists _; isplitr
            swap; · iexact H2
            ipureintro; exact View.read_writes_of_cover _ _ _ _ _ (cover0_A_2 c _ _ _ _ _ _ _ _ _ _ _ _ _ _ _)
          unfold owns; iexists _; isplitr
          swap; · iexact H3
          ipureintro; exact View.read_writes_of_cover _ _ _ _ _ (cover0_A_3 c _ _ _ _ _ _ _ _ _ _ _ _ _ _ _)
        · exfalso; omega
      · exfalso; omega
    · exfalso; omega
  · by_cases h1 : t.val / 8 % 8 ≤ t.val % 8
    · exfalso; omega
    · by_cases h2 : t.val / 8 % 8 ≤ t.val % 8
      · exfalso; omega
      · by_cases h3 : t.val / 8 % 8 ≤ t.val % 8
        · exfalso; omega
        · rw [show (dat0 V c).leavesExact 0 t = owns (c : Thread nD τ) (ms0_0 t) fullShare ((dat0 V c).after 0 t) from by
      unfold Dat.leavesExact; rw [liveAt0_0 t], after0_0]
          rw [show (dat0 V c).leavesExact 1 t = owns (c : Thread nD τ) (ms0_1 t) fullShare ((dat0 V c).after 1 t) from by
      unfold Dat.leavesExact; rw [liveAt0_1 t], after0_1]
          rw [show (dat0 V c).leavesExact 2 t = owns (c : Thread nD τ) (ms0_2 t) fullShare ((dat0 V c).after 2 t) from by
      unfold Dat.leavesExact; rw [liveAt0_2 t], after0_2]
          rw [Dat.leavesExact_idle (dat0 V c) 3 t (idleAt0_3_B t (fun h => h0 ((hcond0_0 t).mp h)) (fun h => h1 ((hcond0_1 t).mp h)) (fun h => h2 ((hcond0_2 t).mp h)) (fun h => h3 ((hcond0_3 t).mp h))) (noFlush0_3_B t (fun h => h0 ((hcond0_0 t).mp h)) (fun h => h1 ((hcond0_1 t).mp h)) (fun h => h2 ((hcond0_2 t).mp h)) (fun h => h3 ((hcond0_3 t).mp h)))]
          rw [outsAt0_B V c t h0 h1 h2 h3]
          unfold out0_B_2; (try dsimp only)
          iintro ⟨HΦ, Ho, ⟨%d0, H0⟩, ⟨%d1, H1⟩, ⟨%d2, H2⟩, ⟨%d3, H3⟩⟩
          iapply ((kernelRun0_B c (grid0.coords t) _ _ _ _ _ _ _ _ (fun h => h0 ((hcond0_0 t).mp h)) (fun h => h1 ((hcond0_1 t).mp h)) (fun h => h2 ((hcond0_2 t).mp h)) (fun h => h3 ((hcond0_3 t).mp h)) (iblk0 V c 0 t) (iblk0 V c 1 t)).2.2 _ Set.univ _)
          isplitl [H0]; · iexact H0
          isplitl [H1]; · iexact H1
          isplitl [H2]; · iexists _; iexact H2
          isplitl [H3]; · iexact H3
          iintro ⟨H0, H1, ⟨%e2, H2⟩, H3⟩
          isplitl [HΦ]; · iexact HΦ
          isplitl [Ho]; · iexact Ho
          isplitl [H0]; · iexact H0
          isplitl [H1]; · iexact H1
          isplitl [H2]
          · unfold owns; iexists _; isplitr
            swap; · iexact H2
            ipureintro; exact View.read_writes_of_cover _ _ _ _ _ (cover0_B_2 c _ _ _ _ _ _ _ _ _ _ _ _ _ _ _)
          iexists _; iexact H3

/-- The body the program runs in region 0 at a point. -/
theorem defs₀_row0 (t : Fin cfg0.N) :
    defs₀ (F := F) .tc cfg0.body (cfg0.bodyArgs t (cfg0.slots t)) = bodyAt0 t := by
  unfold defs₀; rw [Defs.onTc_tc]

/-- The body of region 0 meets its obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The block of a window of region 1 at a grid point, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0 of region 1 holds its block when the body starts, for any record of the region with these arrays. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Test number 0 of region 1, as the body computes it. -/
abbrev cond1_0 (i : grid1.Coords) : Prop := k1_cond1 i = 1#1

/-- Test number 0 of region 1 in closed form in the grid point. -/
theorem hcond1_0 : ∀ t : Fin cfg1.N, cond1_0 (grid1.coords t) ↔ t.val % 4 + 1 ≤ t.val / 4 % 4 :=
  (by decide +kernel : ∀ t : Fin grid1.N, cond1_0 (grid1.coords t) ↔ t.val % 4 + 1 ≤ t.val / 4 % 4)

/-- Test number 1 of region 1, as the body computes it. -/
abbrev cond1_1 (i : grid1.Coords) : Prop := k1_cond2 i = 1#1

/-- Test number 1 of region 1 in closed form in the grid point. -/
theorem hcond1_1 : ∀ t : Fin cfg1.N, cond1_1 (grid1.coords t) ↔ t.val / 4 % 4 + 1 ≤ t.val % 4 :=
  (by decide +kernel : ∀ t : Fin grid1.N, cond1_1 (grid1.coords t) ↔ t.val / 4 % 4 + 1 ≤ t.val % 4)

/-- Test number 2 of region 1, as the body computes it. -/
abbrev cond1_2 (i : grid1.Coords) : Prop := k1_cond3 i = 1#1

/-- Test number 2 of region 1 in closed form in the grid point. -/
theorem hcond1_2 : ∀ t : Fin cfg1.N, cond1_2 (grid1.coords t) ↔ t.val % 5 = 0 :=
  (by decide +kernel : ∀ t : Fin grid1.N, cond1_2 (grid1.coords t) ↔ t.val % 5 = 0)

/-- Window 0 of region 1 is in use at these points. -/
theorem liveAt1_0 : ∀ t : Fin cfg1.N, cfg1.idle 0 (grid1.coords t) = false := fun _ => rfl

/-- Window 1 of region 1 is in use at these points. -/
theorem liveAt1_1_A : ∀ t : Fin cfg1.N, ¬cond1_0 (grid1.coords t) → ¬cond1_1 (grid1.coords t) → cond1_2 (grid1.coords t) → cfg1.idle 1 (grid1.coords t) = false := by decide +kernel

/-- Window 1 of region 1 is in use at these points. -/
theorem liveAt1_1_B : ∀ t : Fin cfg1.N, ¬cond1_0 (grid1.coords t) → cond1_1 (grid1.coords t) → ¬cond1_2 (grid1.coords t) → cfg1.idle 1 (grid1.coords t) = false := by decide +kernel

/-- Window 1 of region 1 is in use at these points. -/
theorem liveAt1_1_C : ∀ t : Fin cfg1.N, cond1_0 (grid1.coords t) → ¬cond1_1 (grid1.coords t) → ¬cond1_2 (grid1.coords t) → cfg1.idle 1 (grid1.coords t) = false := by decide +kernel

/-- The staging buffer of window 1 of region 1, seen whole. -/
abbrev VO1_1 : View sig .tc .vmem S1024x1024 .i32 := (Memref.whole cc1_stg1_0 : Memref sig .tc .vmem S1024x1024 .i32).view

/-- The staging buffer window 0 of region 1 uses at a point. -/
abbrev ms1_0 (t : Fin cfg1.N) : Memref sig .tc .vmem S1024x1024 .i32 := win1_0.stage (cfg1.slots t 0)
/-- That staging buffer is whole. -/
abbrev hs1_0 (t : Fin cfg1.N) : (ms1_0 t).IsWhole := hstage1_0 ((cfg1.slots t 0).cast nbuf1_0)
/-- The staging buffer window 1 of region 1 uses at a point. -/
abbrev ms1_1 (t : Fin cfg1.N) : Memref sig .tc .vmem S1024x1024 .i32 := win1_1.stage (cfg1.slots t 1)
/-- That staging buffer is whole. -/
abbrev hs1_1 (t : Fin cfg1.N) : (ms1_1 t).IsWhole := hstage1_1 ((cfg1.slots t 1).cast nbuf1_1)

set_option maxHeartbeats 1000000 in

/-- What the body of region 1 stores in case A, and that it runs from the blocks to those stores. -/
noncomputable def kernelRun1_A (c : Dev nD) (i : grid1.Coords) (arg2 : Memref sig .tc .vmem S1024x1024 .i32) (harg2 : arg2.IsWhole) (arg3 : Memref sig .tc .vmem S1024x1024 .i32) (harg3 : arg3.IsWhole) (hc0 : ¬cond1_0 i) (hc1 : ¬cond1_1 i) (hc2 : cond1_2 i)
    (x0 : Vec F S1024x1024 .i32) :
    { L1 : List (View.Piece (Elt F) S1024x1024 .i32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc1__mirror_body i arg2 harg2 arg3 harg3) K } := by
  refine ⟨?_, fun E K => ?run⟩
  case run =>
    simp only [cc1__mirror_body_eq_skeleton]; unfold cc1__mirror_body_skel
    unfold owns
    iintro ⟨⟨%f0, %hf0, H0⟩, ⟨%d1, %f1, -, H1⟩, Hk⟩
    obtain rfl := harg2.eq_unread hf0
    sl_exec (disch := first | sl_exact hc0 | sl_exact hc1 | sl_exact hc2)
    sl_step
    iapply Hk
    isplitl [H0]
    · iexists _; isplitr; · ipureintro; exact harg2.read_unread _
      iexact H0
    iexists _; iexact H1

/-- In case A the stores into window 1 of region 1 fill its block. -/
theorem cover1_A_1 (c : Dev nD) (i : grid1.Coords) (arg2 : Memref sig .tc .vmem S1024x1024 .i32) (harg2 : arg2.IsWhole) (arg3 : Memref sig .tc .vmem S1024x1024 .i32) (harg3 : arg3.IsWhole) (hc0 : ¬cond1_0 i) (hc1 : ¬cond1_1 i) (hc2 : cond1_2 i)
    (x0 : Vec F S1024x1024 .i32) (y : S1024x1024.Idx) :
    ∃ pc ∈ (kernelRun1_A c i arg2 harg2 arg3 harg3 hc0 hc1 hc2 x0).1, y ∈ pc.1.set :=
  View.cover_of_tiledL (kernelRun1_A c i arg2 harg2 arg3 harg3 hc0 hc1 hc2 x0).1 S1024x1024.size (by sl_kernel_rfl) y

/-- What case A leaves in window 1 of region 1. -/
def out1_A_1 (c : Dev nD) (i : grid1.Coords) (arg2 : Memref sig .tc .vmem S1024x1024 .i32) (harg2 : arg2.IsWhole) (arg3 : Memref sig .tc .vmem S1024x1024 .i32) (harg3 : arg3.IsWhole) (hc0 : ¬cond1_0 i) (hc1 : ¬cond1_1 i) (hc2 : cond1_2 i)
    (x0 : Vec F S1024x1024 .i32) : Vec F S1024x1024 .i32 :=
  VO1_1.read (Elt F) (VO1_1.writes (Elt F) VO1_1.junk (kernelRun1_A c i arg2 harg2 arg3 harg3 hc0 hc1 hc2 x0).1)

set_option maxHeartbeats 1000000 in

/-- What the body of region 1 stores in case B, and that it runs from the blocks to those stores. -/
noncomputable def kernelRun1_B (c : Dev nD) (i : grid1.Coords) (arg2 : Memref sig .tc .vmem S1024x1024 .i32) (harg2 : arg2.IsWhole) (arg3 : Memref sig .tc .vmem S1024x1024 .i32) (harg3 : arg3.IsWhole) (hc0 : ¬cond1_0 i) (hc1 : cond1_1 i) (hc2 : ¬cond1_2 i)
    (x0 : Vec F S1024x1024 .i32) :
    { L1 : List (View.Piece (Elt F) S1024x1024 .i32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc1__mirror_body i arg2 harg2 arg3 harg3) K } := by
  refine ⟨?_, fun E K => ?run⟩
  case run =>
    simp only [cc1__mirror_body_eq_skeleton]; unfold cc1__mirror_body_skel
    unfold owns
    iintro ⟨⟨%f0, %hf0, H0⟩, ⟨%d1, %f1, -, H1⟩, Hk⟩
    obtain rfl := harg2.eq_unread hf0
    sl_exec (disch := first | sl_exact hc0 | sl_exact hc1 | sl_exact hc2)
    sl_step
    iapply Hk
    isplitl [H0]
    · iexists _; isplitr; · ipureintro; exact harg2.read_unread _
      iexact H0
    iexists _; iexact H1

/-- In case B the stores into window 1 of region 1 fill its block. -/
theorem cover1_B_1 (c : Dev nD) (i : grid1.Coords) (arg2 : Memref sig .tc .vmem S1024x1024 .i32) (harg2 : arg2.IsWhole) (arg3 : Memref sig .tc .vmem S1024x1024 .i32) (harg3 : arg3.IsWhole) (hc0 : ¬cond1_0 i) (hc1 : cond1_1 i) (hc2 : ¬cond1_2 i)
    (x0 : Vec F S1024x1024 .i32) (y : S1024x1024.Idx) :
    ∃ pc ∈ (kernelRun1_B c i arg2 harg2 arg3 harg3 hc0 hc1 hc2 x0).1, y ∈ pc.1.set :=
  View.cover_of_tiledL (kernelRun1_B c i arg2 harg2 arg3 harg3 hc0 hc1 hc2 x0).1 S1024x1024.size (by sl_kernel_rfl) y

/-- What case B leaves in window 1 of region 1. -/
def out1_B_1 (c : Dev nD) (i : grid1.Coords) (arg2 : Memref sig .tc .vmem S1024x1024 .i32) (harg2 : arg2.IsWhole) (arg3 : Memref sig .tc .vmem S1024x1024 .i32) (harg3 : arg3.IsWhole) (hc0 : ¬cond1_0 i) (hc1 : cond1_1 i) (hc2 : ¬cond1_2 i)
    (x0 : Vec F S1024x1024 .i32) : Vec F S1024x1024 .i32 :=
  VO1_1.read (Elt F) (VO1_1.writes (Elt F) VO1_1.junk (kernelRun1_B c i arg2 harg2 arg3 harg3 hc0 hc1 hc2 x0).1)

set_option maxHeartbeats 1000000 in

/-- What the body of region 1 stores in case C, and that it runs from the blocks to those stores. -/
noncomputable def kernelRun1_C (c : Dev nD) (i : grid1.Coords) (arg2 : Memref sig .tc .vmem S1024x1024 .i32) (harg2 : arg2.IsWhole) (arg3 : Memref sig .tc .vmem S1024x1024 .i32) (harg3 : arg3.IsWhole) (hc0 : cond1_0 i) (hc1 : ¬cond1_1 i) (hc2 : ¬cond1_2 i)
    (x0 : Vec F S1024x1024 .i32) :
    { L1 : List (View.Piece (Elt F) S1024x1024 .i32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc1__mirror_body i arg2 harg2 arg3 harg3) K } := by
  refine ⟨?_, fun E K => ?run⟩
  case run =>
    simp only [cc1__mirror_body_eq_skeleton]; unfold cc1__mirror_body_skel
    unfold owns
    iintro ⟨⟨%f0, %hf0, H0⟩, ⟨%d1, %f1, -, H1⟩, Hk⟩
    obtain rfl := harg2.eq_unread hf0
    sl_exec (disch := first | sl_exact hc0 | sl_exact hc1 | sl_exact hc2)
    sl_step
    iapply Hk
    isplitl [H0]
    · iexists _; isplitr; · ipureintro; exact harg2.read_unread _
      iexact H0
    iexists _; iexact H1

/-- In case C the stores into window 1 of region 1 fill its block. -/
theorem cover1_C_1 (c : Dev nD) (i : grid1.Coords) (arg2 : Memref sig .tc .vmem S1024x1024 .i32) (harg2 : arg2.IsWhole) (arg3 : Memref sig .tc .vmem S1024x1024 .i32) (harg3 : arg3.IsWhole) (hc0 : cond1_0 i) (hc1 : ¬cond1_1 i) (hc2 : ¬cond1_2 i)
    (x0 : Vec F S1024x1024 .i32) (y : S1024x1024.Idx) :
    ∃ pc ∈ (kernelRun1_C c i arg2 harg2 arg3 harg3 hc0 hc1 hc2 x0).1, y ∈ pc.1.set :=
  View.cover_of_tiledL (kernelRun1_C c i arg2 harg2 arg3 harg3 hc0 hc1 hc2 x0).1 S1024x1024.size (by sl_kernel_rfl) y

/-- What case C leaves in window 1 of region 1. -/
def out1_C_1 (c : Dev nD) (i : grid1.Coords) (arg2 : Memref sig .tc .vmem S1024x1024 .i32) (harg2 : arg2.IsWhole) (arg3 : Memref sig .tc .vmem S1024x1024 .i32) (harg3 : arg3.IsWhole) (hc0 : cond1_0 i) (hc1 : ¬cond1_1 i) (hc2 : ¬cond1_2 i)
    (x0 : Vec F S1024x1024 .i32) : Vec F S1024x1024 .i32 :=
  VO1_1.read (Elt F) (VO1_1.writes (Elt F) VO1_1.junk (kernelRun1_C c i arg2 harg2 arg3 harg3 hc0 hc1 hc2 x0).1)

/-- What the body of region 1 leaves at a grid point. -/
def outsAt1 (c : Dev nD) : (n : ℕ) → n < cfg1.N → Vec F S1024x1024 .i32
  | 0, hn => out1_A_1 c (grid1.coords ⟨0, hn⟩) (ms1_0 ⟨0, hn⟩) (hs1_0 ⟨0, hn⟩) (ms1_1 ⟨0, hn⟩) (hs1_1 ⟨0, hn⟩) (fun h => (fun h => by (try dsimp only at h); omega) ((hcond1_0 ⟨0, hn⟩).mp h)) (fun h => (fun h => by (try dsimp only at h); omega) ((hcond1_1 ⟨0, hn⟩).mp h)) ((hcond1_2 ⟨0, hn⟩).mpr (Nat.zero_mod _)) (iblk1 V c 0 ⟨0, hn⟩)
  | n + 1, hn =>
    if h0 : (n + 1) % 4 + 1 ≤ (n + 1) / 4 % 4 then
      if h1 : (n + 1) / 4 % 4 + 1 ≤ (n + 1) % 4 then
        False.elim (by have hN : n + 1 < 16 := lt_of_lt_of_eq hn (show cfg1.N = 16 from N_1); have hd : (n + 1) / 4 / 4 = 0 := (by omega); omega)
      else
        if h2 : (n + 1) % 5 = 0 then
          False.elim (by have hN : n + 1 < 16 := lt_of_lt_of_eq hn (show cfg1.N = 16 from N_1); have hd : (n + 1) / 4 / 4 = 0 := (by omega); omega)
        else
          out1_C_1 c (grid1.coords ⟨n + 1, hn⟩) (ms1_0 ⟨n + 1, hn⟩) (hs1_0 ⟨n + 1, hn⟩) (ms1_1 ⟨n + 1, hn⟩) (hs1_1 ⟨n + 1, hn⟩) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩)
    else
      if h1 : (n + 1) / 4 % 4 + 1 ≤ (n + 1) % 4 then
        if h2 : (n + 1) % 5 = 0 then
          False.elim (by have hN : n + 1 < 16 := lt_of_lt_of_eq hn (show cfg1.N = 16 from N_1); have hd : (n + 1) / 4 / 4 = 0 := (by omega); omega)
        else
          out1_B_1 c (grid1.coords ⟨n + 1, hn⟩) (ms1_0 ⟨n + 1, hn⟩) (hs1_0 ⟨n + 1, hn⟩) (ms1_1 ⟨n + 1, hn⟩) (hs1_1 ⟨n + 1, hn⟩) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩)
      else
        if h2 : (n + 1) % 5 = 0 then
          out1_A_1 c (grid1.coords ⟨n + 1, hn⟩) (ms1_0 ⟨n + 1, hn⟩) (hs1_0 ⟨n + 1, hn⟩) (ms1_1 ⟨n + 1, hn⟩) (hs1_1 ⟨n + 1, hn⟩) (fun h => h0 ((hcond1_0 ⟨n + 1, hn⟩).mp h)) (fun h => h1 ((hcond1_1 ⟨n + 1, hn⟩).mp h)) ((hcond1_2 ⟨n + 1, hn⟩).mpr h2) (iblk1 V c 0 ⟨n + 1, hn⟩)
        else
          False.elim (by have hN : n + 1 < 16 := lt_of_lt_of_eq hn (show cfg1.N = 16 from N_1); have hd : (n + 1) / 4 / 4 = 0 := (by omega); omega)

/-- At a point of case A the body of region 1 leaves what that case leaves. -/
theorem outsAt1_A (c : Dev nD) (t : Fin cfg1.N) (h0 : ¬t.val % 4 + 1 ≤ t.val / 4 % 4) (h1 : ¬t.val / 4 % 4 + 1 ≤ t.val % 4) (h2 : t.val % 5 = 0) :
    outsAt1 V c t.val t.isLt = out1_A_1 c (grid1.coords t) (ms1_0 t) (hs1_0 t) (ms1_1 t) (hs1_1 t) (fun h => h0 ((hcond1_0 t).mp h)) (fun h => h1 ((hcond1_1 t).mp h)) ((hcond1_2 t).mpr h2) (iblk1 V c 0 t) := by
  obtain ⟨n, hn⟩ := t
  cases n with
  | zero => exact rfl
  | succ n => exact (dif_neg h0).trans ((dif_neg h1).trans ((dif_pos h2).trans rfl))

/-- At a point of case B the body of region 1 leaves what that case leaves. -/
theorem outsAt1_B (c : Dev nD) (t : Fin cfg1.N) (h0 : ¬t.val % 4 + 1 ≤ t.val / 4 % 4) (h1 : t.val / 4 % 4 + 1 ≤ t.val % 4) (h2 : ¬t.val % 5 = 0) :
    outsAt1 V c t.val t.isLt = out1_B_1 c (grid1.coords t) (ms1_0 t) (hs1_0 t) (ms1_1 t) (hs1_1 t) (fun h => h0 ((hcond1_0 t).mp h)) ((hcond1_1 t).mpr h1) (fun h => h2 ((hcond1_2 t).mp h)) (iblk1 V c 0 t) := by
  obtain ⟨n, hn⟩ := t
  cases n with
  | zero => exact (by exfalso; (try dsimp only at h1); exact by omega)
  | succ n => exact (dif_neg h0).trans ((dif_pos h1).trans ((dif_neg h2).trans rfl))

/-- At a point of case C the body of region 1 leaves what that case leaves. -/
theorem outsAt1_C (c : Dev nD) (t : Fin cfg1.N) (h0 : t.val % 4 + 1 ≤ t.val / 4 % 4) (h1 : ¬t.val / 4 % 4 + 1 ≤ t.val % 4) (h2 : ¬t.val % 5 = 0) :
    outsAt1 V c t.val t.isLt = out1_C_1 c (grid1.coords t) (ms1_0 t) (hs1_0 t) (ms1_1 t) (hs1_1 t) ((hcond1_0 t).mpr h0) (fun h => h1 ((hcond1_1 t).mp h)) (fun h => h2 ((hcond1_2 t).mp h)) (iblk1 V c 0 t) := by
  obtain ⟨n, hn⟩ := t
  cases n with
  | zero => exact (by exfalso; (try dsimp only at h0); exact by omega)
  | succ n => exact (dif_pos h0).trans ((dif_neg h1).trans ((dif_neg h2).trans rfl))

/-- The record of region 1: the arrays at its start and what each point leaves. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt)
  Φ _ := Pipeline.ΦA spec1 c
  q _ := fullShare
  owed _ := 0

/-- The arrays in the record of region 1. -/
theorem A_eq1 (c : Dev nD) (w : Fin cfg1.W) : (dat1 V c).A w = V c (Pipeline.arrRef spec1 w) := by
  dsimp only [dat1]

/-- What a point of region 1 leaves in window 0. -/
theorem after1_0 (c : Dev nD) (t : Fin cfg1.N) : (dat1 V c).after 0 t = iblk1 V c 0 t := by dsimp only [dat1]
/-- What a point of region 1 leaves in window 1. -/
theorem after1_1 (c : Dev nD) (t : Fin cfg1.N) : (dat1 V c).after 1 t = (outsAt1 V c t.val t.isLt) := by dsimp only [dat1]

/-- What a point of region 1 finds in window 0. -/
theorem before1_0 (c : Dev nD) (t : Fin cfg1.N) (d) : (dat1 V c).before 0 t d = iblk1 V c 0 t :=
  before1_0_of V (dat1 V c) (A_eq1 V c 0) (after1_0 V c) t d

/-- What the body of region 1 is given at a point. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

/-- What the body of region 1 gives back at a point. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 1200000 in

/-- The body of region 1 runs at every point from what it is given to what it gives back. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl]
  have hN : t.val < 16 := lt_of_lt_of_eq t.isLt (show cfg1.N = 16 from N_1)
  have hd : t.val / 4 / 4 = 0 := by omega
  by_cases h0 : t.val % 4 + 1 ≤ t.val / 4 % 4
  · by_cases h1 : t.val / 4 % 4 + 1 ≤ t.val % 4
    · exfalso; omega
    · by_cases h2 : t.val % 5 = 0
      · exfalso; omega
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1_C t ((hcond1_0 t).mpr h0) (fun h => h1 ((hcond1_1 t).mp h)) (fun h => h2 ((hcond1_2 t).mp h))], after1_1]
        rw [outsAt1_C V c t h0 h1 h2]
        unfold out1_C_1
        iintro ⟨HΦ, Ho, ⟨%d0, H0⟩, ⟨%d1, H1⟩⟩
        iapply ((kernelRun1_C c (grid1.coords t) _ _ _ _ ((hcond1_0 t).mpr h0) (fun h => h1 ((hcond1_1 t).mp h)) (fun h => h2 ((hcond1_2 t).mp h)) (iblk1 V c 0 t)).2 Set.univ _)
        isplitl [H0]; · iexact H0
        isplitl [H1]; · iexists _; iexact H1
        iintro ⟨H0, ⟨%e1, H1⟩⟩
        isplitl [HΦ]; · iexact HΦ
        isplitl [Ho]; · iexact Ho
        isplitl [H0]; · iexact H0
        unfold owns; iexists _; isplitr
        swap; · iexact H1
        ipureintro; exact View.read_writes_of_cover _ _ _ _ _ (cover1_C_1 c _ _ _ _ _ _ _ _ _)
  · by_cases h1 : t.val / 4 % 4 + 1 ≤ t.val % 4
    · by_cases h2 : t.val % 5 = 0
      · exfalso; omega
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1_B t (fun h => h0 ((hcond1_0 t).mp h)) ((hcond1_1 t).mpr h1) (fun h => h2 ((hcond1_2 t).mp h))], after1_1]
        rw [outsAt1_B V c t h0 h1 h2]
        unfold out1_B_1
        iintro ⟨HΦ, Ho, ⟨%d0, H0⟩, ⟨%d1, H1⟩⟩
        iapply ((kernelRun1_B c (grid1.coords t) _ _ _ _ (fun h => h0 ((hcond1_0 t).mp h)) ((hcond1_1 t).mpr h1) (fun h => h2 ((hcond1_2 t).mp h)) (iblk1 V c 0 t)).2 Set.univ _)
        isplitl [H0]; · iexact H0
        isplitl [H1]; · iexists _; iexact H1
        iintro ⟨H0, ⟨%e1, H1⟩⟩
        isplitl [HΦ]; · iexact HΦ
        isplitl [Ho]; · iexact Ho
        isplitl [H0]; · iexact H0
        unfold owns; iexists _; isplitr
        swap; · iexact H1
        ipureintro; exact View.read_writes_of_cover _ _ _ _ _ (cover1_B_1 c _ _ _ _ _ _ _ _ _)
    · by_cases h2 : t.val % 5 = 0
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1_A t (fun h => h0 ((hcond1_0 t).mp h)) (fun h => h1 ((hcond1_1 t).mp h)) ((hcond1_2 t).mpr h2)], after1_1]
        rw [outsAt1_A V c t h0 h1 h2]
        unfold out1_A_1
        iintro ⟨HΦ, Ho, ⟨%d0, H0⟩, ⟨%d1, H1⟩⟩
        iapply ((kernelRun1_A c (grid1.coords t) _ _ _ _ (fun h => h0 ((hcond1_0 t).mp h)) (fun h => h1 ((hcond1_1 t).mp h)) ((hcond1_2 t).mpr h2) (iblk1 V c 0 t)).2 Set.univ _)
        isplitl [H0]; · iexact H0
        isplitl [H1]; · iexists _; iexact H1
        iintro ⟨H0, ⟨%e1, H1⟩⟩
        isplitl [HΦ]; · iexact HΦ
        isplitl [Ho]; · iexact Ho
        isplitl [H0]; · iexact H0
        unfold owns; iexists _; isplitr
        swap; · iexact H1
        ipureintro; exact View.read_writes_of_cover _ _ _ _ _ (cover1_A_1 c _ _ _ _ _ _ _ _ _)
      · exfalso; omega

/-- The body the program runs in region 1 at a point. -/
theorem defs₀_row1 (t : Fin cfg1.N) :
    defs₀ (F := F) .tc cfg1.body (cfg1.bodyArgs t (cfg1.slots t)) = bodyAt1 t := by
  unfold defs₀; rw [Defs.onTc_tc]

/-- The body of region 1 meets its obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-- The two argument arrays. -/
abbrev argRefs : List (Ref sig .tc) := [main_arg0, main_arg1]

/-- This stretch of host operations allocates nothing. -/
theorem hostOps0_fresh : (hostOps0 : List (HloOp τ sig (Elt F))).Forall fun op => op.fresh = ∅ := by
  simp only [List.Forall]; repeat' constructor

/-- The arrays this stretch of host operations writes. -/
abbrev hostOps0_W : List (Ref sig .tc) := [main_cst, main_cst_0, main_cst_1, main_c, main_v0, main_v1, main_c_2, main_v2, main_v3, main_v4, main_v5, main_v6, main_v7, main_v8, main_v9, main_cst_3, main_v10, main_v11, main_v12, main_v13, main_v14, main_v15, main_v16, main_v17, main_cst_4]
/-- This stretch of host operations writes only the listed arrays. -/
theorem hostOps0_writes : (hostOps0 : List (HloOp τ sig (Elt F))).Forall fun op => op.writes ⊆ (hostOps0_W.map (Proc.devRef (τ := τ) .tc)).toFinset :=
  StableHlo.forall_writes_sub_of_map rfl

/-- This stretch of host operations writes no argument. -/
theorem hostOps0_args : ∀ a ∈ argRefs, a ∉ hostOps0_W := ListAll.forall_mem_of_all_decide (by decide +kernel)

/-- This stretch of host operations allocates nothing. -/
theorem hostOps0_1_fresh : (hostOps0_1 : List (HloOp τ sig (Elt F))).Forall fun op => op.fresh = ∅ := by
  simp only [List.Forall]; repeat' constructor

/-- The arrays this stretch of host operations writes. -/
abbrev hostOps0_1_W : List (Ref sig .tc) := [main_call0_v0, main_call0_v1, main_v18]
/-- This stretch of host operations writes only the listed arrays. -/
theorem hostOps0_1_writes : (hostOps0_1 : List (HloOp τ sig (Elt F))).Forall fun op => op.writes ⊆ (hostOps0_1_W.map (Proc.devRef (τ := τ) .tc)).toFinset :=
  StableHlo.forall_writes_sub_of_map rfl

/-- This stretch of host operations writes no argument. -/
theorem hostOps0_1_args : ∀ a ∈ argRefs, a ∉ hostOps0_1_W := ListAll.forall_mem_of_all_decide (by decide +kernel)

/-- This stretch of host operations allocates nothing. -/
theorem hostOps0_2_fresh : (hostOps0_2 : List (HloOp τ sig (Elt F))).Forall fun op => op.fresh = ∅ := by
  simp only [List.Forall]; repeat' constructor

/-- The arrays this stretch of host operations writes. -/
abbrev hostOps0_2_W : List (Ref sig .tc) := [main_v19, main_v20, main_v21, main_v22, main_v23, main_v24, main_v25]
/-- This stretch of host operations writes only the listed arrays. -/
theorem hostOps0_2_writes : (hostOps0_2 : List (HloOp τ sig (Elt F))).Forall fun op => op.writes ⊆ (hostOps0_2_W.map (Proc.devRef (τ := τ) .tc)).toFinset :=
  StableHlo.forall_writes_sub_of_map rfl

/-- This stretch of host operations writes no argument. -/
theorem hostOps0_2_args : ∀ a ∈ argRefs, a ∉ hostOps0_2_W := ListAll.forall_mem_of_all_decide (by decide +kernel)

/-- This stretch of host operations allocates nothing. -/
theorem hostOps2_fresh : (hostOps2 : List (HloOp τ sig (Elt F))).Forall fun op => op.fresh = ∅ := by
  simp only [List.Forall]; repeat' constructor

/-- The arrays this stretch of host operations writes. -/
abbrev hostOps2_W : List (Ref sig .tc) := [main_v28, main_v29, main_v30, main_v31, main_cst_5, main_v32, main_v33]
/-- This stretch of host operations writes only the listed arrays. -/
theorem hostOps2_writes : (hostOps2 : List (HloOp τ sig (Elt F))).Forall fun op => op.writes ⊆ (hostOps2_W.map (Proc.devRef (τ := τ) .tc)).toFinset :=
  StableHlo.forall_writes_sub_of_map rfl

/-- This stretch of host operations writes no argument. -/
theorem hostOps2_args : ∀ a ∈ argRefs, a ∉ hostOps2_W := ListAll.forall_mem_of_all_decide (by decide +kernel)

/-- The contents of every array at boundary 0 of the program. -/
abbrev W0 : Dev nD → Valuation τ sig (Elt F) := fun c b => (s₀ m ρ).mem ((c : Dev nD), b)
/-- Both arguments are as launched at boundary 0. -/
theorem W0_args (c : Dev nD) : ∀ a ∈ argRefs, W0 m ρ c (Proc.devRef .tc a) = m ((c : Thread nD τ).loc a) := fun _ _ => rfl

/-- The contents of every array at boundary 1 of the program. -/
abbrev W1 : Dev nD → Valuation τ sig (Elt F) := fun c => StableHlo.after hostOps0 (W0 m ρ c)

/-- An array the piece before boundary 1 does not change. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- Both arguments are as launched at boundary 1. -/
theorem W1_args (c : Dev nD) : ∀ a ∈ argRefs, W1 m ρ c (Proc.devRef .tc a) = m ((c : Thread nD τ).loc a) :=
  fun a ha => (W1_of m ρ c a (hostOps0_args a ha)).trans (W0_args m ρ c a ha)

/-- The contents of every array at boundary 2 of the program. -/
abbrev W2 : Dev nD → Valuation τ sig (Elt F) := fun c => StableHlo.after hostOps0_1 (W1 m ρ c)

/-- An array the piece before boundary 2 does not change. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
/-- Both arguments are as launched at boundary 2. -/
theorem W2_args (c : Dev nD) : ∀ a ∈ argRefs, W2 m ρ c (Proc.devRef .tc a) = m ((c : Thread nD τ).loc a) :=
  fun a ha => (W2_of m ρ c a (hostOps0_1_args a ha)).trans (W1_args m ρ c a ha)

/-- The contents of every array at boundary 3 of the program. -/
abbrev W3 : Dev nD → Valuation τ sig (Elt F) := fun c => StableHlo.after hostOps0_2 (W2 m ρ c)

/-- An array the piece before boundary 3 does not change. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
/-- Both arguments are as launched at boundary 3. -/
theorem W3_args (c : Dev nD) : ∀ a ∈ argRefs, W3 m ρ c (Proc.devRef .tc a) = m ((c : Thread nD τ).loc a) :=
  fun a ha => (W3_of m ρ c a (hostOps0_2_args a ha)).trans (W2_args m ρ c a ha)

/-- The contents at boundary 3, by array. -/
abbrev V3 : (c : Dev nD) → (b : Ref sig .tc) → Buf (Elt F) ((c : Thread nD τ).loc b) := fun c b => W3 m ρ c b

/-- The contents of every array at boundary 4 of the program. -/
def W4 (c : Dev nD) : Valuation τ sig (Elt F) :=
  Pipeline.withArrays spec0 c (W3 m ρ c) fun w => (dat0 (V3 m ρ) c).arrAt w cfg0.N
/-- A window of the region before boundary 4 holds what its write-backs left. -/
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
/-- An array that is no window of the region before boundary 4 is unchanged. -/
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb

/-- An array the piece before boundary 4 does not change. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩

/-- Region 0 writes no argument. -/
theorem argsIn0 : ∀ a ∈ argRefs, ∀ w : Fin cfg0.W, Pipeline.arrRef spec0 w = a → (cfg0.win w).isOut = false :=
  ListAll.forall_mem_of_all_decide (by decide +kernel)
/-- Both arguments are as launched at boundary 4. -/
theorem W4_args (c : Dev nD) : ∀ a ∈ argRefs, W4 m ρ c (Proc.devRef .tc a) = m ((c : Thread nD τ).loc a) :=
  fun a ha => (W4_of m ρ c a (argsIn0 a ha)).trans (W3_args m ρ c a ha)

/-- The contents at boundary 4, by array. -/
abbrev V4 : (c : Dev nD) → (b : Ref sig .tc) → Buf (Elt F) ((c : Thread nD τ).loc b) := fun c b => W4 m ρ c b

/-- The windows of region 0 when it ends. -/
theorem hF0 (c : Dev nD) (w : Fin cfg0.W) : (dat0 (V3 m ρ) c).arrAt w cfg0.N = V4 m ρ c (Pipeline.arrRef spec0 w) :=
  (W4_arr m ρ c w).symm
/-- The other arrays when region 0 ends. -/
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- The contents of every array at boundary 5 of the program. -/
def W5 (c : Dev nD) : Valuation τ sig (Elt F) :=
  Pipeline.withArrays spec1 c (W4 m ρ c) fun w => (dat1 (V4 m ρ) c).arrAt w cfg1.N
/-- A window of the region before boundary 5 holds what its write-backs left. -/
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
/-- An array that is no window of the region before boundary 5 is unchanged. -/
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb

/-- An array the piece before boundary 5 does not change. -/
theorem W5_of (c : Dev nD) (r : Ref sig .tc) (h : ∀ w : Fin cfg1.W, Pipeline.arrRef spec1 w = r → (cfg1.win w).isOut = false) :
    W5 m ρ c (Proc.devRef .tc r) = W4 m ρ c (Proc.devRef .tc r) := by
  by_cases hw : ∃ w : Fin cfg1.W, Pipeline.arrRef spec1 w = r
  · obtain ⟨w, rfl⟩ := hw
    exact (W5_arr m ρ c w).trans (((dat1 (V4 m ρ) c).arrAt_in w (h w rfl) _).trans (A_eq1 (V4 m ρ) c w))
  · exact W5_of_ne m ρ c r fun w e => hw ⟨w, e⟩

/-- Region 1 writes no argument. -/
theorem argsIn1 : ∀ a ∈ argRefs, ∀ w : Fin cfg1.W, Pipeline.arrRef spec1 w = a → (cfg1.win w).isOut = false :=
  ListAll.forall_mem_of_all_decide (by decide +kernel)
/-- Both arguments are as launched at boundary 5. -/
theorem W5_args (c : Dev nD) : ∀ a ∈ argRefs, W5 m ρ c (Proc.devRef .tc a) = m ((c : Thread nD τ).loc a) :=
  fun a ha => (W5_of m ρ c a (argsIn1 a ha)).trans (W4_args m ρ c a ha)

/-- The contents at boundary 5, by array. -/
abbrev V5 : (c : Dev nD) → (b : Ref sig .tc) → Buf (Elt F) ((c : Thread nD τ).loc b) := fun c b => W5 m ρ c b

/-- The windows of region 1 when it ends. -/
theorem hF1 (c : Dev nD) (w : Fin cfg1.W) : (dat1 (V4 m ρ) c).arrAt w cfg1.N = V5 m ρ c (Pipeline.arrRef spec1 w) :=
  (W5_arr m ρ c w).symm
/-- The other arrays when region 1 ends. -/
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- The contents of every array at boundary 6 of the program. -/
abbrev W6 : Dev nD → Valuation τ sig (Elt F) := fun c => StableHlo.after hostOps2 (W5 m ρ c)

/-- An array the piece before boundary 6 does not change. -/
theorem W6_of (c : Dev nD) (r : Ref sig .tc) (h : r ∉ hostOps2_W) : W6 m ρ c (Proc.devRef .tc r) = W5 m ρ c (Proc.devRef .tc r) :=
  StableHlo.after_of_writes_sub hostOps2 _ hostOps2_writes h
/-- Both arguments are as launched at boundary 6. -/
theorem W6_args (c : Dev nD) : ∀ a ∈ argRefs, W6 m ρ c (Proc.devRef .tc a) = m ((c : Thread nD τ).loc a) :=
  fun a ha => (W6_of m ρ c a (hostOps2_args a ha)).trans (W5_args m ρ c a ha)

/-- Argument 0 is as launched at boundary 6. -/
theorem W6_main_arg0 (c : Dev nD) : W6 m ρ c (Proc.devRef .tc main_arg0) = m ((c : Thread nD τ).loc main_arg0) :=
  W6_args m ρ c main_arg0 (by decide)
/-- Argument 1 is as launched at boundary 6. -/
theorem W6_main_arg1 (c : Dev nD) : W6 m ρ c (Proc.devRef .tc main_arg1) = m ((c : Thread nD τ).loc main_arg1) :=
  W6_args m ρ c main_arg1 (by decide)

/-- Both regions are well formed. -/
abbrev adm : (p : Fin 2) → (pcfgs (F := F) p).Adm := fun p => (cfgs p).toPCfg_adm

/-- The records of both regions, at their entry contents. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
/-- No loop variants are needed. -/
abbrev 𝒱₀ : Variants := Variants.none

/-- No signal is ever owed. -/
abbrev L : GSem nD τ sig → Finset Unit := fun _ => ∅
/-- No levels are needed. -/
abbrev lv : GSem nD τ sig → Unit → ℕ := fun _ _ => 0

/-- What a thread carries between pieces besides its arrays. -/
abbrev R (c : Dev nD) : sProp 𝕄 := iprop((∃ r, prngReg c r) ∗ ∃ W, owes (c : Thread nD τ) (0 : CellTallies nD τ sig Unit) W)

/-- A stretch of host operations as a piece of the program. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An array outside every scope is among those carried along. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What a thread holds at the end. -/
abbrev Tₙ (c : Dev nD) : sProp 𝕄 := iprop(StableHlo.held (c : Thread nD τ) (Pipeline.ucRefs τ sig) (W6 m ρ c) ∗ ∃ r, prngReg c r)

set_option backward.isDefEq.respectTransparency.types false in

/-- Region 0 as a piece of the program. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

/-- Region 1 as a piece of the program. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) (A_eq1 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The pieces of the program in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .host (hseg hostOps2 hostOps2_sub hostOps2_fresh (W5 m ρ)) ]

/-- The program is the run of its pieces. -/
theorem main_run (c : Dev nD) : main (F := F) c = Pipeline.Seg.run (segs m ρ) := (main_chain c).trans (by chain_rfl)

/-- Every counter belongs to a scope. -/
theorem no_unscoped : ∀ sm : SemLoc sig, sm.isScoped .tc = true := by decide

set_option backward.isDefEq.respectTransparency.types false in
/-- Every run of the kernel's program ends; at the end each of its three results holds what the last
    boundary's contents say, both arguments are as launched and every counter is at zero. -/
theorem run : θ_run defs (onTc (τ := τ) (main (F := F))) ⟨m, fun _ => 0, ρ⟩ (fun r => (∀ c : Dev nD,
      r.2.mem ((c.tc : Thread nD τ).loc main_v33) = W6 m ρ c (Proc.devRef .tc main_v33)
      ∧ r.2.mem ((c.tc : Thread nD τ).loc main_v27) = W6 m ρ c (Proc.devRef .tc main_v27)
      ∧ r.2.mem ((c.tc : Thread nD τ).loc main_v30) = W6 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨fun c =>
      ⟨h c _ (mem_uc main_v33 (by decide)), h c _ (mem_uc main_v27 (by decide)), h c _ (mem_uc main_v30 (by decide)),
       (h c _ (mem_uc main_arg0 (by decide))).trans (W6_main_arg0 m ρ c),
       (h c _ (mem_uc main_arg1 (by decide))).trans (W6_main_arg1 m ρ c)⟩, funext fun g => hz g (.inr (no_unscoped g.2))⟩)

/-- Every run of the kernel's program ends with both arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2.2.2, h.2⟩) (run m ρ)

end Cert.KernelIdeal.Run

end
-- ==== Proof.RefOps.lean ====
module

public import proofs.«01_k».proof.Proof.Gen.ReferenceIdeal
public import Idealize.ShloMosaic.Lib.StableHlo.Run
public import Idealize.ShloMosaic.Lib.Pipeline.Frame
/-! The reference program's @main as a list of its host operations, and a named term of the arguments for every
    intermediate array that is used more than once. -/

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v26`, named. It packs its operands into a list of dependent pairs
    whose shapes a later argument's type mentions, so `simp` cannot rewrite an operand where it stands; applied by
    name, the operands are plain arguments, which the window lemmas below rewrite before the name unfolds. -/
def fn_main_v26 : (⟨S1, .i32⟩ : BufTy).Contents (Elt F) → (⟨S1, .i32⟩ : BufTy).Contents (Elt F) → (⟨S2, .i32⟩ : BufTy).Contents (Elt F) :=
  (fun a b => concatenate S2 0 [⟨S1, a⟩, ⟨S1, b⟩] concatenates_S1_S1_S2_d0)

/-- @main's operations 1 … 30 of 332 (window `main_part0`). -/
abbrev ops_part0_0 : List (HloOp τ sig (Elt F)) :=
  [ nullary main_cst (fun i => FloatOps.ofBits .f32 (lit0 (S1001.rowMajor i))),
    nullary main_cst_0 (fun i => FloatOps.ofBits .f32 (lit1 (S2x2.rowMajor i))),
    nullary main_cst_1 (fun i => FloatOps.ofBits .f32 (lit2 (S2x2.rowMajor i))),
    nullary main_c (constantI S_ 32 0#32),
    unary main_c main_v0 (broadcastInDim S1 ![] bcast_S_S1 : (⟨S_, .i32⟩ : BufTy).Contents (Elt F) → (⟨S1, .i32⟩ : BufTy).Contents (Elt F)),
    binary main_arg1 main_v0 main_v1 (cmpi .slt : (⟨S1, .i32⟩ : BufTy).Contents (Elt F) → (⟨S1, .i32⟩ : BufTy).Contents (Elt F) → (⟨S1, .i1⟩ : BufTy).Contents (Elt F)),
    nullary main_c_2 (constantI S_ 32 1001#32),
    unary main_c_2 main_v2 (broadcastInDim S1 ![] bcast_S_S1 : (⟨S_, .i32⟩ : BufTy).Contents (Elt F) → (⟨S1, .i32⟩ : BufTy).Contents (Elt F)),
    binary main_arg1 main_v2 main_v3 (addi : (⟨S1, .i32⟩ : BufTy).Contents (Elt F) → (⟨S1, .i32⟩ : BufTy).Contents (Elt F) → (⟨S1, .i32⟩ : BufTy).Contents (Elt F)),
    ternary main_v1 main_v3 main_arg1 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_cst main_v5 main_v6 ((fun x i => Host.gather gather_S1001_S1x1_S1_n_0_n_n_0_1_1 x i) : (⟨S1001, .f32⟩ : BufTy).Contents (Elt F) → (⟨S1x1, .i32⟩ : BufTy).Contents (Elt F) → (⟨S1, .f32⟩ : BufTy).Contents (Elt F)),
    unary main_v6 main_v7 (broadcastInDim S1x1 ![1] bcast_S1_S1x1_1 : (⟨S1, .f32⟩ : BufTy).Contents (Elt F) → (⟨S1x1, .f32⟩ : BufTy).Contents (Elt F)),
    unary main_v7 main_v8 (broadcastInDim S2x2 ![0, 1] bcast_S1x1_S2x2_0_1 : (⟨S1x1, .f32⟩ : BufTy).Contents (Elt F) → (⟨S2x2, .f32⟩ : BufTy).Contents (Elt F)),
    binary main_v8 main_cst_0 main_v9 (mulf : (⟨S2x2, .f32⟩ : BufTy).Contents (Elt F) → (⟨S2x2, .f32⟩ : BufTy).Contents (Elt F) → (⟨S2x2, .f32⟩ : BufTy).Contents (Elt F)),
    nullary main_cst_3 (constant S_ .f32 0x3F800000#32),
    unary main_cst_3 main_v10 (broadcastInDim S1 ![] bcast_S_S1 : (⟨S_, .f32⟩ : BufTy).Contents (Elt F) → (⟨S1, .f32⟩ : BufTy).Contents (Elt F)),
    binary main_v10 main_v6 main_v11 (subf : (⟨S1, .f32⟩ : BufTy).Contents (Elt F) → (⟨S1, .f32⟩ : BufTy).Contents (Elt F) → (⟨S1, .f32⟩ : BufTy).Contents (Elt F)),
    unary main_v11 main_v12 (broadcastInDim S1x1 ![1] bcast_S1_S1x1_1 : (⟨S1, .f32⟩ : BufTy).Contents (Elt F) → (⟨S1x1, .f32⟩ : BufTy).Contents (Elt F)),
    unary main_v12 main_v13 (broadcastInDim S2x2 ![0, 1] bcast_S1x1_S2x2_0_1 : (⟨S1x1, .f32⟩ : BufTy).Contents (Elt F) → (⟨S2x2, .f32⟩ : BufTy).Contents (Elt F)),
    binary main_v13 main_cst_1 main_v14 (mulf : (⟨S2x2, .f32⟩ : BufTy).Contents (Elt F) → (⟨S2x2, .f32⟩ : BufTy).Contents (Elt F) → (⟨S2x2, .f32⟩ : BufTy).Contents (Elt F)),
    binary main_v9 main_v14 main_v15 (addf : (⟨S2x2, .f32⟩ : BufTy).Contents (Elt F) → (⟨S2x2, .f32⟩ : BufTy).Contents (Elt F) → (⟨S2x2, .f32⟩ : BufTy).Contents (Elt F)),
    binary main_arg0 main_v15 main_v16 ((fun l r => Host.dotGeneral dot_S4096x4096x2_S2x2_S4096x4096x2_2_0_01_1_n_n none l r) : (⟨S4096x4096x2, .f32⟩ : BufTy).Contents (Elt F) → (⟨S2x2, .f32⟩ : BufTy).Contents (Elt F) → (⟨S4096x4096x2, .f32⟩ : BufTy).Contents (Elt F)),
    reshape main_v16 main_v17 (rfl : (.f32 : EltTy) = .f32) shapeCasts_S4096x4096x2_S16777216x2,
    nullary main_cst_4 (constant S_ .f32 0x0DA24260#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S16777216x2, .f32⟩) main_call0_v1) (broadcastInDim S16777216x2 ![] bcast_S_S16777216x2),
    TRef.binary (TRef.of (T := ⟨S16777216x2, .f32⟩) main_call0_v1) (TRef.of (T := ⟨S16777216x2, .f32⟩) main_v17) (TRef.of (T := ⟨S16777216x2, .f32⟩) main_v18) maximumf,
    unary main_v18 main_v19 (Host.log : (⟨S16777216x2, .f32⟩ : BufTy).Contents (Elt F) → (⟨S16777216x2, .f32⟩ : BufTy).Contents (Elt F)),
    nullary main_c_5 (constantI S_ 32 1#32) ]

/-- @main's operations 31 … 60 of 332 (window `main_part0`). -/
abbrev ops_part0_1 : List (HloOp τ sig (Elt F)) :=
  [ nullary main_c_6 (constantI S_ 32 32#32),
    binary main_c_5 main_c_6 main_v20 (Host.shrui : (⟨S_, .i32⟩ : BufTy).Contents (Elt F) → (⟨S_, .i32⟩ : BufTy).Contents (Elt F) → (⟨S_, .i32⟩ : BufTy).Contents (Elt F)),
    unary main_v20 main_v21 (id : (⟨S_, .i32⟩ : BufTy).Contents (Elt F) → (⟨S_, .i32⟩ : BufTy).Contents (Elt F)),
    unary main_v21 main_v22 (broadcastInDim S1 ![] bcast_S_S1 : (⟨S_, .i32⟩ : BufTy).Contents (Elt F) → (⟨S1, .i32⟩ : BufTy).Contents (Elt F)),
    nullary main_c_7 (constantI S_ 32 4294967295#32),
    binary main_c_5 main_c_7 main_v23 (andi : (⟨S_, .i32⟩ : BufTy).Contents (Elt F) → (⟨S_, .i32⟩ : BufTy).Contents (Elt F) → (⟨S_, .i32⟩ : BufTy).Contents (Elt F)),
    unary main_v23 main_v24 (id : (⟨S_, .i32⟩ : BufTy).Contents (Elt F) → (⟨S_, .i32⟩ : BufTy).Contents (Elt F)),
    unary main_v24 main_v25 (broadcastInDim S1 ![] bcast_S_S1 : (⟨S_, .i32⟩ : BufTy).Contents (Elt F) → (⟨S1, .i32⟩ : BufTy).Contents (Elt F)),
    binary main_v22 main_v25 main_v26 (fn_main_v26 (F := F)),
    nullary main_cst_8 (constant S_ .f32 0x00000000#32),
    nullary main_cst_9 (constant S_ .f32 0x3F800000#32),
    TRef.unary (TRef.of (T := ⟨S_, .f32⟩) main_cst_8) (TRef.of (T := ⟨S_, .f32⟩) main_call1_v0) id,
    TRef.unary (TRef.of (T := ⟨S_, .f32⟩) main_cst_9) (TRef.of (T := ⟨S_, .f32⟩) main_call1_v1) id,
    TRef.unary (TRef.of (T := ⟨S_, .f32⟩) main_call1_v0) (TRef.of (T := ⟨S1x1, .f32⟩) main_call1_v2) (broadcastInDim S1x1 ![] bcast_S_S1x1),
    TRef.unary (TRef.of (T := ⟨S_, .f32⟩) main_call1_v1) (TRef.of (T := ⟨S1x1, .f32⟩) main_call1_v3) (broadcastInDim S1x1 ![] bcast_S_S1x1),
    TRef.unary (TRef.of (T := ⟨S2, .i32⟩) main_v26) (TRef.of (T := ⟨S1, .i32⟩) main_call1_v4) (extractStridedSlice S1 ![0] · slices_S2_S1_0),
    TRef.reshape (TRef.of (T := ⟨S1, .i32⟩) main_call1_v4) (TRef.of (T := ⟨S_, .i32⟩) main_call1_v5) (rfl : (.i32 : EltTy) = .i32) shapeCasts_S1_S_,
    TRef.unary (TRef.of (T := ⟨S2, .i32⟩) main_v26) (TRef.of (T := ⟨S1, .i32⟩) main_call1_v6) (extractStridedSlice S1 ![1] · slices_S2_S1_1),
    TRef.reshape (TRef.of (T := ⟨S1, .i32⟩) main_call1_v6) (TRef.of (T := ⟨S_, .i32⟩) main_call1_v7) (rfl : (.i32 : EltTy) = .i32) shapeCasts_S1_S_,
    TRef.nullary (TRef.of (T := ⟨S16777216x2, .i64⟩) main_call1_v8) (iotaInDim S16777216x2 64 0),
    TRef.nullary (TRef.of (T := ⟨S16777216x2, .i64⟩) main_call1_v9) (iotaInDim S16777216x2 64 1),
    TRef.nullary (TRef.of (T := ⟨S_, .i64⟩) main_call1_c) (constantI S_ 64 2#64),
    TRef.unary (TRef.of (T := ⟨S_, .i64⟩) main_call1_c) (TRef.of (T := ⟨S16777216x2, .i64⟩) main_call1_v10) (broadcastInDim S16777216x2 ![] bcast_S_S16777216x2),
    TRef.binary (TRef.of (T := ⟨S16777216x2, .i64⟩) main_call1_v10) (TRef.of (T := ⟨S16777216x2, .i64⟩) main_call1_v8) (TRef.of (T := ⟨S16777216x2, .i64⟩) main_call1_v11) muli,
    TRef.nullary (TRef.of (T := ⟨S_, .i64⟩) main_call1_c_0) (constantI S_ 64 1#64),
    TRef.unary (TRef.of (T := ⟨S_, .i64⟩) main_call1_c_0) (TRef.of (T := ⟨S16777216x2, .i64⟩) main_call1_v12) (broadcastInDim S16777216x2 ![] bcast_S_S16777216x2),
    TRef.binary (TRef.of (T := ⟨S16777216x2, .i64⟩) main_call1_v12) (TRef.of (T := ⟨S16777216x2, .i64⟩) main_call1_v9) (TRef.of (T := ⟨S16777216x2, .i64⟩) main_call1_v13) muli,
    TRef.binary (TRef.of (T := ⟨S16777216x2, .i64⟩) main_call1_v11) (TRef.of (T := ⟨S16777216x2, .i64⟩) main_call1_v13) (TRef.of (T := ⟨S16777216x2, .i64⟩) main_call1_v14) addi,
    TRef.nullary (TRef.of (T := ⟨S_, .i64⟩) main_call1_c_1) (constantI S_ 64 32#64),
    TRef.unary (TRef.of (T := ⟨S_, .i64⟩) main_call1_c_1) (TRef.of (T := ⟨S16777216x2, .i64⟩) main_call1_v15) (broadcastInDim S16777216x2 ![] bcast_S_S16777216x2) ]

/-- @main's operations 61 … 90 of 332 (window `main_part0`). -/
abbrev ops_part0_2 : List (HloOp τ sig (Elt F)) :=
  [ TRef.binary (TRef.of (T := ⟨S16777216x2, .i64⟩) main_call1_v14) (TRef.of (T := ⟨S16777216x2, .i64⟩) main_call1_v15) (TRef.of (T := ⟨S16777216x2, .i64⟩) main_call1_v16) Host.shrui,
    TRef.unary (TRef.of (T := ⟨S16777216x2, .i64⟩) main_call1_v14) (TRef.of (T := ⟨S16777216x2, .i32⟩) main_call1_v17) (trunci 32 · natLt_32_64),
    TRef.unary (TRef.of (T := ⟨S16777216x2, .i64⟩) main_call1_v16) (TRef.of (T := ⟨S16777216x2, .i32⟩) main_call1_v18) (trunci 32 · natLt_32_64),
    TRef.binary (TRef.of (T := ⟨S_, .i32⟩) main_call1_v5) (TRef.of (T := ⟨S_, .i32⟩) main_call1_v7) (TRef.of (T := ⟨S_, .i32⟩) main_call1_call0_v0) xori,
    TRef.nullary (TRef.of (T := ⟨S_, .i32⟩) main_call1_call0_c) (constantI S_ 32 466688986#32),
    TRef.binary (TRef.of (T := ⟨S_, .i32⟩) main_call1_call0_v0) (TRef.of (T := ⟨S_, .i32⟩) main_call1_call0_c) (TRef.of (T := ⟨S_, .i32⟩) main_call1_call0_v1) xori,
    TRef.unary (TRef.of (T := ⟨S_, .i32⟩) main_call1_v5) (TRef.of (T := ⟨S16777216x2, .i32⟩) main_call1_call0_v2) (broadcastInDim S16777216x2 ![] bcast_S_S16777216x2),
    TRef.binary (TRef.of (T := ⟨S16777216x2, .i32⟩) main_call1_v18) (TRef.of (T := ⟨S16777216x2, .i32⟩) main_call1_call0_v2) (TRef.of (T := ⟨S16777216x2, .i32⟩) main_call1_call0_v3) addi,
    TRef.unary (TRef.of (T := ⟨S_, .i32⟩) main_call1_v7) (TRef.of (T := ⟨S16777216x2, .i32⟩) main_call1_call0_v4) (broadcastInDim S16777216x2 ![] bcast_S_S16777216x2),
    TRef.binary (TRef.of (T := ⟨S16777216x2, .i32⟩) main_call1_v17) (TRef.of (T := ⟨S16777216x2, .i32⟩) main_call1_call0_v4) (TRef.of (T := ⟨S16777216x2, .i32⟩) main_call1_call0_v5) addi,
    TRef.binary (TRef.of (T := ⟨S16777216x2, .i32⟩) main_call1_call0_v3) (TRef.of (T := ⟨S16777216x2, .i32⟩) main_call1_call0_v5) (TRef.of (T := ⟨S16777216x2, .i32⟩) main_call1_call0_v6) addi,
    TRef.nullary (TRef.of (T := ⟨S_, .i32⟩) main_call1_call0_c_0) (constantI S_ 32 13#32),
    TRef.unary (TRef.of (T := ⟨S_, .i32⟩) main_call1_call0_c_0) (TRef.of (T := ⟨S16777216x2, .i32⟩) main_call1_call0_v7) (broadcastInDim S16777216x2 ![] bcast_S_S16777216x2),
    TRef.binary (TRef.of (T := ⟨S16777216x2, .i32⟩) main_call1_call0_v5) (TRef.of (T := ⟨S16777216x2, .i32⟩) main_call1_call0_v7) (TRef.of (T := ⟨S16777216x2, .i32⟩) main_call1_call0_v8) Host.shli,
    TRef.nullary (TRef.of (T := ⟨S_, .i32⟩) main_call1_call0_c_1) (constantI S_ 32 19#32),
    TRef.unary (TRef.of (T := ⟨S_, .i32⟩) main_call1_call0_c_1) (TRef.of (T := ⟨S16777216x2, .i32⟩) main_call1_call0_v9) (broadcastInDim S16777216x2 ![] bcast_S_S16777216x2),
    TRef.binary (TRef.of (T := ⟨S16777216x2, .i32⟩) main_call1_call0_v5) (TRef.of (T := ⟨S16777216x2, .i32⟩) main_call1_call0_v9) (TRef.of (T := ⟨S16777216x2, .i32⟩) main_call1_call0_v10) Host.shrui,
    TRef.binary (TRef.of (T := ⟨S16777216x2, .i32⟩) main_call1_call0_v8) (TRef.of (T := ⟨S16777216x2, .i32⟩) main_call1_call0_v10) (TRef.of (T := ⟨S16777216x2, .i32⟩) main_call1_call0_v11) ori,
    TRef.binary (TRef.of (T := ⟨S16777216x2, .i32⟩) main_call1_call0_v6) (TRef.of (T := ⟨S16777216x2, .i32⟩) main_call1_call0_v11) (TRef.of (T := ⟨S16777216x2, .i32⟩) main_call1_call0_v12) xori,
    TRef.binary (TRef.of (T := ⟨S16777216x2, .i32⟩) main_call1_call0_v6) (TRef.of (T := ⟨S16777216x2, .i32⟩) main_call1_call0_v12) (TRef.of (T := ⟨S16777216x2, .i32⟩) main_call1_call0_v13) addi,
    TRef.nullary (TRef.of (T := ⟨S_, .i32⟩) main_call1_call0_c_2) (constantI S_ 32 15#32),
    TRef.unary (TRef.of (T := ⟨S_, .i32⟩) main_call1_call0_c_2) (TRef.of (T := ⟨S16777216x2, .i32⟩) main_call1_call0_v14) (broadcastInDim S16777216x2 ![] bcast_S_S16777216x2),
    TRef.binary (TRef.of (T := ⟨S16777216x2, .i32⟩) main_call1_call0_v12) (TRef.of (T := ⟨S16777216x2, .i32⟩) main_call1_call0_v14) (TRef.of (T := ⟨S16777216x2, .i32⟩) main_call1_call0_v15) Host.shli,
    TRef.nullary (TRef.of (T := ⟨S_, .i32⟩) main_call1_call0_c_3) (constantI S_ 32 17#32),
    TRef.unary (TRef.of (T := ⟨S_, .i32⟩) main_call1_call0_c_3) (TRef.of (T := ⟨S16777216x2, .i32⟩) main_call1_call0_v16) (broadcastInDim S16777216x2 ![] bcast_S_S16777216x2),
    TRef.binary (TRef.of (T := ⟨S16777216x2, .i32⟩) main_call1_call0_v12) (TRef.of (T := ⟨S16777216x2, .i32⟩) main_call1_call0_v16) (TRef.of (T := ⟨S16777216x2, .i32⟩) main_call1_call0_v17) Host.shrui,
    TRef.binary (TRef.of (T := ⟨S16777216x2, .i32⟩) main_call1_call0_v15) (TRef.of (T := ⟨S16777216x2, .i32⟩) main_call1_call0_v17) (TRef.of (T := ⟨S16777216x2, .i32⟩) main_call1_call0_v18) ori,
    TRef.binary (TRef.of (T := ⟨S16777216x2, .i32⟩) main_call1_call0_v13) (TRef.of (T := ⟨S16777216x2, .i32⟩) main_call1_call0_v18) (TRef.of (T := ⟨S16777216x2, .i32⟩) main_call1_call0_v19) xori,
    TRef.binary (TRef.of (T := ⟨S16777216x2, .i32⟩) main_call1_call0_v13) (TRef.of (T := ⟨S16777216x2, .i32⟩) main_call1_call0_v19) (TRef.of (T := ⟨S16777216x2, .i32⟩) main_call1_call0_v20) addi,
    TRef.nullary (TRef.of (T := ⟨S_, .i32⟩) main_call1_call0_c_4) (constantI S_ 32 26#32) ]

/-- @main's operations 91 … 120 of 332 (window `main_part0`). -/
abbrev ops_part0_3 : List (HloOp τ sig (Elt F)) :=
  [ TRef.unary (TRef.of (T := ⟨S_, .i32⟩) main_call1_call0_c_4) (TRef.of (T := ⟨S16777216x2, .i32⟩) main_call1_call0_v21) (broadcastInDim S16777216x2 ![] bcast_S_S16777216x2),
    TRef.binary (TRef.of (T := ⟨S16777216x2, .i32⟩) main_call1_call0_v19) (TRef.of (T := ⟨S16777216x2, .i32⟩) main_call1_call0_v21) (TRef.of (T := ⟨S16777216x2, .i32⟩) main_call1_call0_v22) Host.shli,
    TRef.nullary (TRef.of (T := ⟨S_, .i32⟩) main_call1_call0_c_5) (constantI S_ 32 6#32),
    TRef.unary (TRef.of (T := ⟨S_, .i32⟩) main_call1_call0_c_5) (TRef.of (T := ⟨S16777216x2, .i32⟩) main_call1_call0_v23) (broadcastInDim S16777216x2 ![] bcast_S_S16777216x2),
    TRef.binary (TRef.of (T := ⟨S16777216x2, .i32⟩) main_call1_call0_v19) (TRef.of (T := ⟨S16777216x2, .i32⟩) main_call1_call0_v23) (TRef.of (T := ⟨S16777216x2, .i32⟩) main_call1_call0_v24) Host.shrui,
    TRef.binary (TRef.of (T := ⟨S16777216x2, .i32⟩) main_call1_call0_v22) (TRef.of (T := ⟨S16777216x2, .i32⟩) main_call1_call0_v24) (TRef.of (T := ⟨S16777216x2, .i32⟩) main_call1_call0_v25) ori,
    TRef.binary (TRef.of (T := ⟨S16777216x2, .i32⟩) main_call1_call0_v20) (TRef.of (T := ⟨S16777216x2, .i32⟩) main_call1_call0_v25) (TRef.of (T := ⟨S16777216x2, .i32⟩) main_call1_call0_v26) xori,
    TRef.binary (TRef.of (T := ⟨S16777216x2, .i32⟩) main_call1_call0_v20) (TRef.of (T := ⟨S16777216x2, .i32⟩) main_call1_call0_v26) (TRef.of (T := ⟨S16777216x2, .i32⟩) main_call1_call0_v27) addi,
    TRef.nullary (TRef.of (T := ⟨S_, .i32⟩) main_call1_call0_c_6) (constantI S_ 32 6#32),
    TRef.unary (TRef.of (T := ⟨S_, .i32⟩) main_call1_call0_c_6) (TRef.of (T := ⟨S16777216x2, .i32⟩) main_call1_call0_v28) (broadcastInDim S16777216x2 ![] bcast_S_S16777216x2),
    TRef.binary (TRef.of (T := ⟨S16777216x2, .i32⟩) main_call1_call0_v26) (TRef.of (T := ⟨S16777216x2, .i32⟩) main_call1_call0_v28) (TRef.of (T := ⟨S16777216x2, .i32⟩) main_call1_call0_v29) Host.shli,
    TRef.nullary (TRef.of (T := ⟨S_, .i32⟩) main_call1_call0_c_7) (constantI S_ 32 26#32),
    TRef.unary (TRef.of (T := ⟨S_, .i32⟩) main_call1_call0_c_7) (TRef.of (T := ⟨S16777216x2, .i32⟩) main_call1_call0_v30) (broadcastInDim S16777216x2 ![] bcast_S_S16777216x2),
    TRef.binary (TRef.of (T := ⟨S16777216x2, .i32⟩) main_call1_call0_v26) (TRef.of (T := ⟨S16777216x2, .i32⟩) main_call1_call0_v30) (TRef.of (T := ⟨S16777216x2, .i32⟩) main_call1_call0_v31) Host.shrui,
    TRef.binary (TRef.of (T := ⟨S16777216x2, .i32⟩) main_call1_call0_v29) (TRef.of (T := ⟨S16777216x2, .i32⟩) main_call1_call0_v31) (TRef.of (T := ⟨S16777216x2, .i32⟩) main_call1_call0_v32) ori,
    TRef.binary (TRef.of (T := ⟨S16777216x2, .i32⟩) main_call1_call0_v27) (TRef.of (T := ⟨S16777216x2, .i32⟩) main_call1_call0_v32) (TRef.of (T := ⟨S16777216x2, .i32⟩) main_call1_call0_v33) xori,
    TRef.unary (TRef.of (T := ⟨S_, .i32⟩) main_call1_v7) (TRef.of (T := ⟨S16777216x2, .i32⟩) main_call1_call0_v34) (broadcastInDim S16777216x2 ![] bcast_S_S16777216x2),
    TRef.binary (TRef.of (T := ⟨S16777216x2, .i32⟩) main_call1_call0_v27) (TRef.of (T := ⟨S16777216x2, .i32⟩) main_call1_call0_v34) (TRef.of (T := ⟨S16777216x2, .i32⟩) main_call1_call0_v35) addi,
    TRef.unary (TRef.of (T := ⟨S_, .i32⟩) main_call1_call0_v1) (TRef.of (T := ⟨S16777216x2, .i32⟩) main_call1_call0_v36) (broadcastInDim S16777216x2 ![] bcast_S_S16777216x2),
    TRef.binary (TRef.of (T := ⟨S16777216x2, .i32⟩) main_call1_call0_v33) (TRef.of (T := ⟨S16777216x2, .i32⟩) main_call1_call0_v36) (TRef.of (T := ⟨S16777216x2, .i32⟩) main_call1_call0_v37) addi,
    TRef.nullary (TRef.of (T := ⟨S_, .i32⟩) main_call1_call0_c_8) (constantI S_ 32 1#32),
    TRef.unary (TRef.of (T := ⟨S_, .i32⟩) main_call1_call0_c_8) (TRef.of (T := ⟨S16777216x2, .i32⟩) main_call1_call0_v38) (broadcastInDim S16777216x2 ![] bcast_S_S16777216x2),
    TRef.binary (TRef.of (T := ⟨S16777216x2, .i32⟩) main_call1_call0_v37) (TRef.of (T := ⟨S16777216x2, .i32⟩) main_call1_call0_v38) (TRef.of (T := ⟨S16777216x2, .i32⟩) main_call1_call0_v39) addi,
    TRef.binary (TRef.of (T := ⟨S16777216x2, .i32⟩) main_call1_call0_v35) (TRef.of (T := ⟨S16777216x2, .i32⟩) main_call1_call0_v39) (TRef.of (T := ⟨S16777216x2, .i32⟩) main_call1_call0_v40) addi,
    TRef.nullary (TRef.of (T := ⟨S_, .i32⟩) main_call1_call0_c_9) (constantI S_ 32 17#32),
    TRef.unary (TRef.of (T := ⟨S_, .i32⟩) main_call1_call0_c_9) (TRef.of (T := ⟨S16777216x2, .i32⟩) main_call1_call0_v41) (broadcastInDim S16777216x2 ![] bcast_S_S16777216x2),
    TRef.binary (TRef.of (T := ⟨S16777216x2, .i32⟩) main_call1_call0_v39) (TRef.of (T := ⟨S16777216x2, .i32⟩) main_call1_call0_v41) (TRef.of (T := ⟨S16777216x2, .i32⟩) main_call1_call0_v42) Host.shli,
    TRef.nullary (TRef.of (T := ⟨S_, .i32⟩) main_call1_call0_c_10) (constantI S_ 32 15#32),
    TRef.unary (TRef.of (T := ⟨S_, .i32⟩) main_call1_call0_c_10) (TRef.of (T := ⟨S16777216x2, .i32⟩) main_call1_call0_v43) (broadcastInDim S16777216x2 ![] bcast_S_S16777216x2),
    TRef.binary (TRef.of (T := ⟨S16777216x2, .i32⟩) main_call1_call0_v39) (TRef.of (T := ⟨S16777216x2, .i32⟩) main_call1_call0_v43) (TRef.of (T := ⟨S16777216x2, .i32⟩) main_call1_call0_v44) Host.shrui ]

/-- @main's operations 121 … 150 of 332 (window `main_part0`). -/
abbrev ops_part0_4 : List (HloOp τ sig (Elt F)) :=
  [ TRef.binary (TRef.of (T := ⟨S16777216x2, .i32⟩) main_call1_call0_v42) (TRef.of (T := ⟨S16777216x2, .i32⟩) main_call1_call0_v44) (TRef.of (T := ⟨S16777216x2, .i32⟩) main_call1_call0_v45) ori,
    TRef.binary (TRef.of (T := ⟨S16777216x2, .i32⟩) main_call1_call0_v40) (TRef.of (T := ⟨S16777216x2, .i32⟩) main_call1_call0_v45) (TRef.of (T := ⟨S16777216x2, .i32⟩) main_call1_call0_v46) xori,
    TRef.binary (TRef.of (T := ⟨S16777216x2, .i32⟩) main_call1_call0_v40) (TRef.of (T := ⟨S16777216x2, .i32⟩) main_call1_call0_v46) (TRef.of (T := ⟨S16777216x2, .i32⟩) main_call1_call0_v47) addi,
    TRef.nullary (TRef.of (T := ⟨S_, .i32⟩) main_call1_call0_c_11) (constantI S_ 32 29#32),
    TRef.unary (TRef.of (T := ⟨S_, .i32⟩) main_call1_call0_c_11) (TRef.of (T := ⟨S16777216x2, .i32⟩) main_call1_call0_v48) (broadcastInDim S16777216x2 ![] bcast_S_S16777216x2),
    TRef.binary (TRef.of (T := ⟨S16777216x2, .i32⟩) main_call1_call0_v46) (TRef.of (T := ⟨S16777216x2, .i32⟩) main_call1_call0_v48) (TRef.of (T := ⟨S16777216x2, .i32⟩) main_call1_call0_v49) Host.shli,
    TRef.nullary (TRef.of (T := ⟨S_, .i32⟩) main_call1_call0_c_12) (constantI S_ 32 3#32),
    TRef.unary (TRef.of (T := ⟨S_, .i32⟩) main_call1_call0_c_12) (TRef.of (T := ⟨S16777216x2, .i32⟩) main_call1_call0_v50) (broadcastInDim S16777216x2 ![] bcast_S_S16777216x2),
    TRef.binary (TRef.of (T := ⟨S16777216x2, .i32⟩) main_call1_call0_v46) (TRef.of (T := ⟨S16777216x2, .i32⟩) main_call1_call0_v50) (TRef.of (T := ⟨S16777216x2, .i32⟩) main_call1_call0_v51) Host.shrui,
    TRef.binary (TRef.of (T := ⟨S16777216x2, .i32⟩) main_call1_call0_v49) (TRef.of (T := ⟨S16777216x2, .i32⟩) main_call1_call0_v51) (TRef.of (T := ⟨S16777216x2, .i32⟩) main_call1_call0_v52) ori,
    TRef.binary (TRef.of (T := ⟨S16777216x2, .i32⟩) main_call1_call0_v47) (TRef.of (T := ⟨S16777216x2, .i32⟩) main_call1_call0_v52) (TRef.of (T := ⟨S16777216x2, .i32⟩) main_call1_call0_v53) xori,
    TRef.binary (TRef.of (T := ⟨S16777216x2, .i32⟩) main_call1_call0_v47) (TRef.of (T := ⟨S16777216x2, .i32⟩) main_call1_call0_v53) (TRef.of (T := ⟨S16777216x2, .i32⟩) main_call1_call0_v54) addi,
    TRef.nullary (TRef.of (T := ⟨S_, .i32⟩) main_call1_call0_c_13) (constantI S_ 32 16#32),
    TRef.unary (TRef.of (T := ⟨S_, .i32⟩) main_call1_call0_c_13) (TRef.of (T := ⟨S16777216x2, .i32⟩) main_call1_call0_v55) (broadcastInDim S16777216x2 ![] bcast_S_S16777216x2),
    TRef.binary (TRef.of (T := ⟨S16777216x2, .i32⟩) main_call1_call0_v53) (TRef.of (T := ⟨S16777216x2, .i32⟩) main_call1_call0_v55) (TRef.of (T := ⟨S16777216x2, .i32⟩) main_call1_call0_v56) Host.shli,
    TRef.nullary (TRef.of (T := ⟨S_, .i32⟩) main_call1_call0_c_14) (constantI S_ 32 16#32),
    TRef.unary (TRef.of (T := ⟨S_, .i32⟩) main_call1_call0_c_14) (TRef.of (T := ⟨S16777216x2, .i32⟩) main_call1_call0_v57) (broadcastInDim S16777216x2 ![] bcast_S_S16777216x2),
    TRef.binary (TRef.of (T := ⟨S16777216x2, .i32⟩) main_call1_call0_v53) (TRef.of (T := ⟨S16777216x2, .i32⟩) main_call1_call0_v57) (TRef.of (T := ⟨S16777216x2, .i32⟩) main_call1_call0_v58) Host.shrui,
    TRef.binary (TRef.of (T := ⟨S16777216x2, .i32⟩) main_call1_call0_v56) (TRef.of (T := ⟨S16777216x2, .i32⟩) main_call1_call0_v58) (TRef.of (T := ⟨S16777216x2, .i32⟩) main_call1_call0_v59) ori,
    TRef.binary (TRef.of (T := ⟨S16777216x2, .i32⟩) main_call1_call0_v54) (TRef.of (T := ⟨S16777216x2, .i32⟩) main_call1_call0_v59) (TRef.of (T := ⟨S16777216x2, .i32⟩) main_call1_call0_v60) xori,
    TRef.binary (TRef.of (T := ⟨S16777216x2, .i32⟩) main_call1_call0_v54) (TRef.of (T := ⟨S16777216x2, .i32⟩) main_call1_call0_v60) (TRef.of (T := ⟨S16777216x2, .i32⟩) main_call1_call0_v61) addi,
    TRef.nullary (TRef.of (T := ⟨S_, .i32⟩) main_call1_call0_c_15) (constantI S_ 32 24#32),
    TRef.unary (TRef.of (T := ⟨S_, .i32⟩) main_call1_call0_c_15) (TRef.of (T := ⟨S16777216x2, .i32⟩) main_call1_call0_v62) (broadcastInDim S16777216x2 ![] bcast_S_S16777216x2),
    TRef.binary (TRef.of (T := ⟨S16777216x2, .i32⟩) main_call1_call0_v60) (TRef.of (T := ⟨S16777216x2, .i32⟩) main_call1_call0_v62) (TRef.of (T := ⟨S16777216x2, .i32⟩) main_call1_call0_v63) Host.shli,
    TRef.nullary (TRef.of (T := ⟨S_, .i32⟩) main_call1_call0_c_16) (constantI S_ 32 8#32),
    TRef.unary (TRef.of (T := ⟨S_, .i32⟩) main_call1_call0_c_16) (TRef.of (T := ⟨S16777216x2, .i32⟩) main_call1_call0_v64) (broadcastInDim S16777216x2 ![] bcast_S_S16777216x2),
    TRef.binary (TRef.of (T := ⟨S16777216x2, .i32⟩) main_call1_call0_v60) (TRef.of (T := ⟨S16777216x2, .i32⟩) main_call1_call0_v64) (TRef.of (T := ⟨S16777216x2, .i32⟩) main_call1_call0_v65) Host.shrui,
    TRef.binary (TRef.of (T := ⟨S16777216x2, .i32⟩) main_call1_call0_v63) (TRef.of (T := ⟨S16777216x2, .i32⟩) main_call1_call0_v65) (TRef.of (T := ⟨S16777216x2, .i32⟩) main_call1_call0_v66) ori,
    TRef.binary (TRef.of (T := ⟨S16777216x2, .i32⟩) main_call1_call0_v61) (TRef.of (T := ⟨S16777216x2, .i32⟩) main_call1_call0_v66) (TRef.of (T := ⟨S16777216x2, .i32⟩) main_call1_call0_v67) xori,
    TRef.unary (TRef.of (T := ⟨S_, .i32⟩) main_call1_call0_v1) (TRef.of (T := ⟨S16777216x2, .i32⟩) main_call1_call0_v68) (broadcastInDim S16777216x2 ![] bcast_S_S16777216x2) ]

/-- @main's operations 151 … 180 of 332 (window `main_part0`). -/
abbrev ops_part0_5 : List (HloOp τ sig (Elt F)) :=
  [ TRef.binary (TRef.of (T := ⟨S16777216x2, .i32⟩) main_call1_call0_v61) (TRef.of (T := ⟨S16777216x2, .i32⟩) main_call1_call0_v68) (TRef.of (T := ⟨S16777216x2, .i32⟩) main_call1_call0_v69) addi,
    TRef.unary (TRef.of (T := ⟨S_, .i32⟩) main_call1_v5) (TRef.of (T := ⟨S16777216x2, .i32⟩) main_call1_call0_v70) (broadcastInDim S16777216x2 ![] bcast_S_S16777216x2),
    TRef.binary (TRef.of (T := ⟨S16777216x2, .i32⟩) main_call1_call0_v67) (TRef.of (T := ⟨S16777216x2, .i32⟩) main_call1_call0_v70) (TRef.of (T := ⟨S16777216x2, .i32⟩) main_call1_call0_v71) addi,
    TRef.nullary (TRef.of (T := ⟨S_, .i32⟩) main_call1_call0_c_17) (constantI S_ 32 2#32),
    TRef.unary (TRef.of (T := ⟨S_, .i32⟩) main_call1_call0_c_17) (TRef.of (T := ⟨S16777216x2, .i32⟩) main_call1_call0_v72) (broadcastInDim S16777216x2 ![] bcast_S_S16777216x2),
    TRef.binary (TRef.of (T := ⟨S16777216x2, .i32⟩) main_call1_call0_v71) (TRef.of (T := ⟨S16777216x2, .i32⟩) main_call1_call0_v72) (TRef.of (T := ⟨S16777216x2, .i32⟩) main_call1_call0_v73) addi,
    TRef.binary (TRef.of (T := ⟨S16777216x2, .i32⟩) main_call1_call0_v69) (TRef.of (T := ⟨S16777216x2, .i32⟩) main_call1_call0_v73) (TRef.of (T := ⟨S16777216x2, .i32⟩) main_call1_call0_v74) addi,
    TRef.nullary (TRef.of (T := ⟨S_, .i32⟩) main_call1_call0_c_18) (constantI S_ 32 13#32),
    TRef.unary (TRef.of (T := ⟨S_, .i32⟩) main_call1_call0_c_18) (TRef.of (T := ⟨S16777216x2, .i32⟩) main_call1_call0_v75) (broadcastInDim S16777216x2 ![] bcast_S_S16777216x2),
    TRef.binary (TRef.of (T := ⟨S16777216x2, .i32⟩) main_call1_call0_v73) (TRef.of (T := ⟨S16777216x2, .i32⟩) main_call1_call0_v75) (TRef.of (T := ⟨S16777216x2, .i32⟩) main_call1_call0_v76) Host.shli,
    TRef.nullary (TRef.of (T := ⟨S_, .i32⟩) main_call1_call0_c_19) (constantI S_ 32 19#32),
    TRef.unary (TRef.of (T := ⟨S_, .i32⟩) main_call1_call0_c_19) (TRef.of (T := ⟨S16777216x2, .i32⟩) main_call1_call0_v77) (broadcastInDim S16777216x2 ![] bcast_S_S16777216x2),
    TRef.binary (TRef.of (T := ⟨S16777216x2, .i32⟩) main_call1_call0_v73) (TRef.of (T := ⟨S16777216x2, .i32⟩) main_call1_call0_v77) (TRef.of (T := ⟨S16777216x2, .i32⟩) main_call1_call0_v78) Host.shrui,
    TRef.binary (TRef.of (T := ⟨S16777216x2, .i32⟩) main_call1_call0_v76) (TRef.of (T := ⟨S16777216x2, .i32⟩) main_call1_call0_v78) (TRef.of (T := ⟨S16777216x2, .i32⟩) main_call1_call0_v79) ori,
    TRef.binary (TRef.of (T := ⟨S16777216x2, .i32⟩) main_call1_call0_v74) (TRef.of (T := ⟨S16777216x2, .i32⟩) main_call1_call0_v79) (TRef.of (T := ⟨S16777216x2, .i32⟩) main_call1_call0_v80) xori,
    TRef.binary (TRef.of (T := ⟨S16777216x2, .i32⟩) main_call1_call0_v74) (TRef.of (T := ⟨S16777216x2, .i32⟩) main_call1_call0_v80) (TRef.of (T := ⟨S16777216x2, .i32⟩) main_call1_call0_v81) addi,
    TRef.nullary (TRef.of (T := ⟨S_, .i32⟩) main_call1_call0_c_20) (constantI S_ 32 15#32),
    TRef.unary (TRef.of (T := ⟨S_, .i32⟩) main_call1_call0_c_20) (TRef.of (T := ⟨S16777216x2, .i32⟩) main_call1_call0_v82) (broadcastInDim S16777216x2 ![] bcast_S_S16777216x2),
    TRef.binary (TRef.of (T := ⟨S16777216x2, .i32⟩) main_call1_call0_v80) (TRef.of (T := ⟨S16777216x2, .i32⟩) main_call1_call0_v82) (TRef.of (T := ⟨S16777216x2, .i32⟩) main_call1_call0_v83) Host.shli,
    TRef.nullary (TRef.of (T := ⟨S_, .i32⟩) main_call1_call0_c_21) (constantI S_ 32 17#32),
    TRef.unary (TRef.of (T := ⟨S_, .i32⟩) main_call1_call0_c_21) (TRef.of (T := ⟨S16777216x2, .i32⟩) main_call1_call0_v84) (broadcastInDim S16777216x2 ![] bcast_S_S16777216x2),
    TRef.binary (TRef.of (T := ⟨S16777216x2, .i32⟩) main_call1_call0_v80) (TRef.of (T := ⟨S16777216x2, .i32⟩) main_call1_call0_v84) (TRef.of (T := ⟨S16777216x2, .i32⟩) main_call1_call0_v85) Host.shrui,
    TRef.binary (TRef.of (T := ⟨S16777216x2, .i32⟩) main_call1_call0_v83) (TRef.of (T := ⟨S16777216x2, .i32⟩) main_call1_call0_v85) (TRef.of (T := ⟨S16777216x2, .i32⟩) main_call1_call0_v86) ori,
    TRef.binary (TRef.of (T := ⟨S16777216x2, .i32⟩) main_call1_call0_v81) (TRef.of (T := ⟨S16777216x2, .i32⟩) main_call1_call0_v86) (TRef.of (T := ⟨S16777216x2, .i32⟩) main_call1_call0_v87) xori,
    TRef.binary (TRef.of (T := ⟨S16777216x2, .i32⟩) main_call1_call0_v81) (TRef.of (T := ⟨S16777216x2, .i32⟩) main_call1_call0_v87) (TRef.of (T := ⟨S16777216x2, .i32⟩) main_call1_call0_v88) addi,
    TRef.nullary (TRef.of (T := ⟨S_, .i32⟩) main_call1_call0_c_22) (constantI S_ 32 26#32),
    TRef.unary (TRef.of (T := ⟨S_, .i32⟩) main_call1_call0_c_22) (TRef.of (T := ⟨S16777216x2, .i32⟩) main_call1_call0_v89) (broadcastInDim S16777216x2 ![] bcast_S_S16777216x2),
    TRef.binary (TRef.of (T := ⟨S16777216x2, .i32⟩) main_call1_call0_v87) (TRef.of (T := ⟨S16777216x2, .i32⟩) main_call1_call0_v89) (TRef.of (T := ⟨S16777216x2, .i32⟩) main_call1_call0_v90) Host.shli,
    TRef.nullary (TRef.of (T := ⟨S_, .i32⟩) main_call1_call0_c_23) (constantI S_ 32 6#32),
    TRef.unary (TRef.of (T := ⟨S_, .i32⟩) main_call1_call0_c_23) (TRef.of (T := ⟨S16777216x2, .i32⟩) main_call1_call0_v91) (broadcastInDim S16777216x2 ![] bcast_S_S16777216x2) ]

/-- @main's operations 181 … 210 of 332 (window `main_part0`). -/
abbrev ops_part0_6 : List (HloOp τ sig (Elt F)) :=
  [ TRef.binary (TRef.of (T := ⟨S16777216x2, .i32⟩) main_call1_call0_v87) (TRef.of (T := ⟨S16777216x2, .i32⟩) main_call1_call0_v91) (TRef.of (T := ⟨S16777216x2, .i32⟩) main_call1_call0_v92) Host.shrui,
    TRef.binary (TRef.of (T := ⟨S16777216x2, .i32⟩) main_call1_call0_v90) (TRef.of (T := ⟨S16777216x2, .i32⟩) main_call1_call0_v92) (TRef.of (T := ⟨S16777216x2, .i32⟩) main_call1_call0_v93) ori,
    TRef.binary (TRef.of (T := ⟨S16777216x2, .i32⟩) main_call1_call0_v88) (TRef.of (T := ⟨S16777216x2, .i32⟩) main_call1_call0_v93) (TRef.of (T := ⟨S16777216x2, .i32⟩) main_call1_call0_v94) xori,
    TRef.binary (TRef.of (T := ⟨S16777216x2, .i32⟩) main_call1_call0_v88) (TRef.of (T := ⟨S16777216x2, .i32⟩) main_call1_call0_v94) (TRef.of (T := ⟨S16777216x2, .i32⟩) main_call1_call0_v95) addi,
    TRef.nullary (TRef.of (T := ⟨S_, .i32⟩) main_call1_call0_c_24) (constantI S_ 32 6#32),
    TRef.unary (TRef.of (T := ⟨S_, .i32⟩) main_call1_call0_c_24) (TRef.of (T := ⟨S16777216x2, .i32⟩) main_call1_call0_v96) (broadcastInDim S16777216x2 ![] bcast_S_S16777216x2),
    TRef.binary (TRef.of (T := ⟨S16777216x2, .i32⟩) main_call1_call0_v94) (TRef.of (T := ⟨S16777216x2, .i32⟩) main_call1_call0_v96) (TRef.of (T := ⟨S16777216x2, .i32⟩) main_call1_call0_v97) Host.shli,
    TRef.nullary (TRef.of (T := ⟨S_, .i32⟩) main_call1_call0_c_25) (constantI S_ 32 26#32),
    TRef.unary (TRef.of (T := ⟨S_, .i32⟩) main_call1_call0_c_25) (TRef.of (T := ⟨S16777216x2, .i32⟩) main_call1_call0_v98) (broadcastInDim S16777216x2 ![] bcast_S_S16777216x2),
    TRef.binary (TRef.of (T := ⟨S16777216x2, .i32⟩) main_call1_call0_v94) (TRef.of (T := ⟨S16777216x2, .i32⟩) main_call1_call0_v98) (TRef.of (T := ⟨S16777216x2, .i32⟩) main_call1_call0_v99) Host.shrui,
    TRef.binary (TRef.of (T := ⟨S16777216x2, .i32⟩) main_call1_call0_v97) (TRef.of (T := ⟨S16777216x2, .i32⟩) main_call1_call0_v99) (TRef.of (T := ⟨S16777216x2, .i32⟩) main_call1_call0_v100) ori,
    TRef.binary (TRef.of (T := ⟨S16777216x2, .i32⟩) main_call1_call0_v95) (TRef.of (T := ⟨S16777216x2, .i32⟩) main_call1_call0_v100) (TRef.of (T := ⟨S16777216x2, .i32⟩) main_call1_call0_v101) xori,
    TRef.unary (TRef.of (T := ⟨S_, .i32⟩) main_call1_v5) (TRef.of (T := ⟨S16777216x2, .i32⟩) main_call1_call0_v102) (broadcastInDim S16777216x2 ![] bcast_S_S16777216x2),
    TRef.binary (TRef.of (T := ⟨S16777216x2, .i32⟩) main_call1_call0_v95) (TRef.of (T := ⟨S16777216x2, .i32⟩) main_call1_call0_v102) (TRef.of (T := ⟨S16777216x2, .i32⟩) main_call1_call0_v103) addi,
    TRef.unary (TRef.of (T := ⟨S_, .i32⟩) main_call1_v7) (TRef.of (T := ⟨S16777216x2, .i32⟩) main_call1_call0_v104) (broadcastInDim S16777216x2 ![] bcast_S_S16777216x2),
    TRef.binary (TRef.of (T := ⟨S16777216x2, .i32⟩) main_call1_call0_v101) (TRef.of (T := ⟨S16777216x2, .i32⟩) main_call1_call0_v104) (TRef.of (T := ⟨S16777216x2, .i32⟩) main_call1_call0_v105) addi,
    TRef.nullary (TRef.of (T := ⟨S_, .i32⟩) main_call1_call0_c_26) (constantI S_ 32 3#32),
    TRef.unary (TRef.of (T := ⟨S_, .i32⟩) main_call1_call0_c_26) (TRef.of (T := ⟨S16777216x2, .i32⟩) main_call1_call0_v106) (broadcastInDim S16777216x2 ![] bcast_S_S16777216x2),
    TRef.binary (TRef.of (T := ⟨S16777216x2, .i32⟩) main_call1_call0_v105) (TRef.of (T := ⟨S16777216x2, .i32⟩) main_call1_call0_v106) (TRef.of (T := ⟨S16777216x2, .i32⟩) main_call1_call0_v107) addi,
    TRef.binary (TRef.of (T := ⟨S16777216x2, .i32⟩) main_call1_call0_v103) (TRef.of (T := ⟨S16777216x2, .i32⟩) main_call1_call0_v107) (TRef.of (T := ⟨S16777216x2, .i32⟩) main_call1_call0_v108) addi,
    TRef.nullary (TRef.of (T := ⟨S_, .i32⟩) main_call1_call0_c_27) (constantI S_ 32 17#32),
    TRef.unary (TRef.of (T := ⟨S_, .i32⟩) main_call1_call0_c_27) (TRef.of (T := ⟨S16777216x2, .i32⟩) main_call1_call0_v109) (broadcastInDim S16777216x2 ![] bcast_S_S16777216x2),
    TRef.binary (TRef.of (T := ⟨S16777216x2, .i32⟩) main_call1_call0_v107) (TRef.of (T := ⟨S16777216x2, .i32⟩) main_call1_call0_v109) (TRef.of (T := ⟨S16777216x2, .i32⟩) main_call1_call0_v110) Host.shli,
    TRef.nullary (TRef.of (T := ⟨S_, .i32⟩) main_call1_call0_c_28) (constantI S_ 32 15#32),
    TRef.unary (TRef.of (T := ⟨S_, .i32⟩) main_call1_call0_c_28) (TRef.of (T := ⟨S16777216x2, .i32⟩) main_call1_call0_v111) (broadcastInDim S16777216x2 ![] bcast_S_S16777216x2),
    TRef.binary (TRef.of (T := ⟨S16777216x2, .i32⟩) main_call1_call0_v107) (TRef.of (T := ⟨S16777216x2, .i32⟩) main_call1_call0_v111) (TRef.of (T := ⟨S16777216x2, .i32⟩) main_call1_call0_v112) Host.shrui,
    TRef.binary (TRef.of (T := ⟨S16777216x2, .i32⟩) main_call1_call0_v110) (TRef.of (T := ⟨S16777216x2, .i32⟩) main_call1_call0_v112) (TRef.of (T := ⟨S16777216x2, .i32⟩) main_call1_call0_v113) ori,
    TRef.binary (TRef.of (T := ⟨S16777216x2, .i32⟩) main_call1_call0_v108) (TRef.of (T := ⟨S16777216x2, .i32⟩) main_call1_call0_v113) (TRef.of (T := ⟨S16777216x2, .i32⟩) main_call1_call0_v114) xori,
    TRef.binary (TRef.of (T := ⟨S16777216x2, .i32⟩) main_call1_call0_v108) (TRef.of (T := ⟨S16777216x2, .i32⟩) main_call1_call0_v114) (TRef.of (T := ⟨S16777216x2, .i32⟩) main_call1_call0_v115) addi,
    TRef.nullary (TRef.of (T := ⟨S_, .i32⟩) main_call1_call0_c_29) (constantI S_ 32 29#32) ]

/-- @main's operations 211 … 240 of 332 (window `main_part0`). -/
abbrev ops_part0_7 : List (HloOp τ sig (Elt F)) :=
  [ TRef.unary (TRef.of (T := ⟨S_, .i32⟩) main_call1_call0_c_29) (TRef.of (T := ⟨S16777216x2, .i32⟩) main_call1_call0_v116) (broadcastInDim S16777216x2 ![] bcast_S_S16777216x2),
    TRef.binary (TRef.of (T := ⟨S16777216x2, .i32⟩) main_call1_call0_v114) (TRef.of (T := ⟨S16777216x2, .i32⟩) main_call1_call0_v116) (TRef.of (T := ⟨S16777216x2, .i32⟩) main_call1_call0_v117) Host.shli,
    TRef.nullary (TRef.of (T := ⟨S_, .i32⟩) main_call1_call0_c_30) (constantI S_ 32 3#32),
    TRef.unary (TRef.of (T := ⟨S_, .i32⟩) main_call1_call0_c_30) (TRef.of (T := ⟨S16777216x2, .i32⟩) main_call1_call0_v118) (broadcastInDim S16777216x2 ![] bcast_S_S16777216x2),
    TRef.binary (TRef.of (T := ⟨S16777216x2, .i32⟩) main_call1_call0_v114) (TRef.of (T := ⟨S16777216x2, .i32⟩) main_call1_call0_v118) (TRef.of (T := ⟨S16777216x2, .i32⟩) main_call1_call0_v119) Host.shrui,
    TRef.binary (TRef.of (T := ⟨S16777216x2, .i32⟩) main_call1_call0_v117) (TRef.of (T := ⟨S16777216x2, .i32⟩) main_call1_call0_v119) (TRef.of (T := ⟨S16777216x2, .i32⟩) main_call1_call0_v120) ori,
    TRef.binary (TRef.of (T := ⟨S16777216x2, .i32⟩) main_call1_call0_v115) (TRef.of (T := ⟨S16777216x2, .i32⟩) main_call1_call0_v120) (TRef.of (T := ⟨S16777216x2, .i32⟩) main_call1_call0_v121) xori,
    TRef.binary (TRef.of (T := ⟨S16777216x2, .i32⟩) main_call1_call0_v115) (TRef.of (T := ⟨S16777216x2, .i32⟩) main_call1_call0_v121) (TRef.of (T := ⟨S16777216x2, .i32⟩) main_call1_call0_v122) addi,
    TRef.nullary (TRef.of (T := ⟨S_, .i32⟩) main_call1_call0_c_31) (constantI S_ 32 16#32),
    TRef.unary (TRef.of (T := ⟨S_, .i32⟩) main_call1_call0_c_31) (TRef.of (T := ⟨S16777216x2, .i32⟩) main_call1_call0_v123) (broadcastInDim S16777216x2 ![] bcast_S_S16777216x2),
    TRef.binary (TRef.of (T := ⟨S16777216x2, .i32⟩) main_call1_call0_v121) (TRef.of (T := ⟨S16777216x2, .i32⟩) main_call1_call0_v123) (TRef.of (T := ⟨S16777216x2, .i32⟩) main_call1_call0_v124) Host.shli,
    TRef.nullary (TRef.of (T := ⟨S_, .i32⟩) main_call1_call0_c_32) (constantI S_ 32 16#32),
    TRef.unary (TRef.of (T := ⟨S_, .i32⟩) main_call1_call0_c_32) (TRef.of (T := ⟨S16777216x2, .i32⟩) main_call1_call0_v125) (broadcastInDim S16777216x2 ![] bcast_S_S16777216x2),
    TRef.binary (TRef.of (T := ⟨S16777216x2, .i32⟩) main_call1_call0_v121) (TRef.of (T := ⟨S16777216x2, .i32⟩) main_call1_call0_v125) (TRef.of (T := ⟨S16777216x2, .i32⟩) main_call1_call0_v126) Host.shrui,
    TRef.binary (TRef.of (T := ⟨S16777216x2, .i32⟩) main_call1_call0_v124) (TRef.of (T := ⟨S16777216x2, .i32⟩) main_call1_call0_v126) (TRef.of (T := ⟨S16777216x2, .i32⟩) main_call1_call0_v127) ori,
    TRef.binary (TRef.of (T := ⟨S16777216x2, .i32⟩) main_call1_call0_v122) (TRef.of (T := ⟨S16777216x2, .i32⟩) main_call1_call0_v127) (TRef.of (T := ⟨S16777216x2, .i32⟩) main_call1_call0_v128) xori,
    TRef.binary (TRef.of (T := ⟨S16777216x2, .i32⟩) main_call1_call0_v122) (TRef.of (T := ⟨S16777216x2, .i32⟩) main_call1_call0_v128) (TRef.of (T := ⟨S16777216x2, .i32⟩) main_call1_call0_v129) addi,
    TRef.nullary (TRef.of (T := ⟨S_, .i32⟩) main_call1_call0_c_33) (constantI S_ 32 24#32),
    TRef.unary (TRef.of (T := ⟨S_, .i32⟩) main_call1_call0_c_33) (TRef.of (T := ⟨S16777216x2, .i32⟩) main_call1_call0_v130) (broadcastInDim S16777216x2 ![] bcast_S_S16777216x2),
    TRef.binary (TRef.of (T := ⟨S16777216x2, .i32⟩) main_call1_call0_v128) (TRef.of (T := ⟨S16777216x2, .i32⟩) main_call1_call0_v130) (TRef.of (T := ⟨S16777216x2, .i32⟩) main_call1_call0_v131) Host.shli,
    TRef.nullary (TRef.of (T := ⟨S_, .i32⟩) main_call1_call0_c_34) (constantI S_ 32 8#32),
    TRef.unary (TRef.of (T := ⟨S_, .i32⟩) main_call1_call0_c_34) (TRef.of (T := ⟨S16777216x2, .i32⟩) main_call1_call0_v132) (broadcastInDim S16777216x2 ![] bcast_S_S16777216x2),
    TRef.binary (TRef.of (T := ⟨S16777216x2, .i32⟩) main_call1_call0_v128) (TRef.of (T := ⟨S16777216x2, .i32⟩) main_call1_call0_v132) (TRef.of (T := ⟨S16777216x2, .i32⟩) main_call1_call0_v133) Host.shrui,
    TRef.binary (TRef.of (T := ⟨S16777216x2, .i32⟩) main_call1_call0_v131) (TRef.of (T := ⟨S16777216x2, .i32⟩) main_call1_call0_v133) (TRef.of (T := ⟨S16777216x2, .i32⟩) main_call1_call0_v134) ori,
    TRef.binary (TRef.of (T := ⟨S16777216x2, .i32⟩) main_call1_call0_v129) (TRef.of (T := ⟨S16777216x2, .i32⟩) main_call1_call0_v134) (TRef.of (T := ⟨S16777216x2, .i32⟩) main_call1_call0_v135) xori,
    TRef.unary (TRef.of (T := ⟨S_, .i32⟩) main_call1_v7) (TRef.of (T := ⟨S16777216x2, .i32⟩) main_call1_call0_v136) (broadcastInDim S16777216x2 ![] bcast_S_S16777216x2),
    TRef.binary (TRef.of (T := ⟨S16777216x2, .i32⟩) main_call1_call0_v129) (TRef.of (T := ⟨S16777216x2, .i32⟩) main_call1_call0_v136) (TRef.of (T := ⟨S16777216x2, .i32⟩) main_call1_call0_v137) addi,
    TRef.unary (TRef.of (T := ⟨S_, .i32⟩) main_call1_call0_v1) (TRef.of (T := ⟨S16777216x2, .i32⟩) main_call1_call0_v138) (broadcastInDim S16777216x2 ![] bcast_S_S16777216x2),
    TRef.binary (TRef.of (T := ⟨S16777216x2, .i32⟩) main_call1_call0_v135) (TRef.of (T := ⟨S16777216x2, .i32⟩) main_call1_call0_v138) (TRef.of (T := ⟨S16777216x2, .i32⟩) main_call1_call0_v139) addi,
    TRef.nullary (TRef.of (T := ⟨S_, .i32⟩) main_call1_call0_c_35) (constantI S_ 32 4#32) ]

/-- @main's operations 241 … 270 of 332 (window `main_part0`). -/
abbrev ops_part0_8 : List (HloOp τ sig (Elt F)) :=
  [ TRef.unary (TRef.of (T := ⟨S_, .i32⟩) main_call1_call0_c_35) (TRef.of (T := ⟨S16777216x2, .i32⟩) main_call1_call0_v140) (broadcastInDim S16777216x2 ![] bcast_S_S16777216x2),
    TRef.binary (TRef.of (T := ⟨S16777216x2, .i32⟩) main_call1_call0_v139) (TRef.of (T := ⟨S16777216x2, .i32⟩) main_call1_call0_v140) (TRef.of (T := ⟨S16777216x2, .i32⟩) main_call1_call0_v141) addi,
    TRef.binary (TRef.of (T := ⟨S16777216x2, .i32⟩) main_call1_call0_v137) (TRef.of (T := ⟨S16777216x2, .i32⟩) main_call1_call0_v141) (TRef.of (T := ⟨S16777216x2, .i32⟩) main_call1_call0_v142) addi,
    TRef.nullary (TRef.of (T := ⟨S_, .i32⟩) main_call1_call0_c_36) (constantI S_ 32 13#32),
    TRef.unary (TRef.of (T := ⟨S_, .i32⟩) main_call1_call0_c_36) (TRef.of (T := ⟨S16777216x2, .i32⟩) main_call1_call0_v143) (broadcastInDim S16777216x2 ![] bcast_S_S16777216x2),
    TRef.binary (TRef.of (T := ⟨S16777216x2, .i32⟩) main_call1_call0_v141) (TRef.of (T := ⟨S16777216x2, .i32⟩) main_call1_call0_v143) (TRef.of (T := ⟨S16777216x2, .i32⟩) main_call1_call0_v144) Host.shli,
    TRef.nullary (TRef.of (T := ⟨S_, .i32⟩) main_call1_call0_c_37) (constantI S_ 32 19#32),
    TRef.unary (TRef.of (T := ⟨S_, .i32⟩) main_call1_call0_c_37) (TRef.of (T := ⟨S16777216x2, .i32⟩) main_call1_call0_v145) (broadcastInDim S16777216x2 ![] bcast_S_S16777216x2),
    TRef.binary (TRef.of (T := ⟨S16777216x2, .i32⟩) main_call1_call0_v141) (TRef.of (T := ⟨S16777216x2, .i32⟩) main_call1_call0_v145) (TRef.of (T := ⟨S16777216x2, .i32⟩) main_call1_call0_v146) Host.shrui,
    TRef.binary (TRef.of (T := ⟨S16777216x2, .i32⟩) main_call1_call0_v144) (TRef.of (T := ⟨S16777216x2, .i32⟩) main_call1_call0_v146) (TRef.of (T := ⟨S16777216x2, .i32⟩) main_call1_call0_v147) ori,
    TRef.binary (TRef.of (T := ⟨S16777216x2, .i32⟩) main_call1_call0_v142) (TRef.of (T := ⟨S16777216x2, .i32⟩) main_call1_call0_v147) (TRef.of (T := ⟨S16777216x2, .i32⟩) main_call1_call0_v148) xori,
    TRef.binary (TRef.of (T := ⟨S16777216x2, .i32⟩) main_call1_call0_v142) (TRef.of (T := ⟨S16777216x2, .i32⟩) main_call1_call0_v148) (TRef.of (T := ⟨S16777216x2, .i32⟩) main_call1_call0_v149) addi,
    TRef.nullary (TRef.of (T := ⟨S_, .i32⟩) main_call1_call0_c_38) (constantI S_ 32 15#32),
    TRef.unary (TRef.of (T := ⟨S_, .i32⟩) main_call1_call0_c_38) (TRef.of (T := ⟨S16777216x2, .i32⟩) main_call1_call0_v150) (broadcastInDim S16777216x2 ![] bcast_S_S16777216x2),
    TRef.binary (TRef.of (T := ⟨S16777216x2, .i32⟩) main_call1_call0_v148) (TRef.of (T := ⟨S16777216x2, .i32⟩) main_call1_call0_v150) (TRef.of (T := ⟨S16777216x2, .i32⟩) main_call1_call0_v151) Host.shli,
    TRef.nullary (TRef.of (T := ⟨S_, .i32⟩) main_call1_call0_c_39) (constantI S_ 32 17#32),
    TRef.unary (TRef.of (T := ⟨S_, .i32⟩) main_call1_call0_c_39) (TRef.of (T := ⟨S16777216x2, .i32⟩) main_call1_call0_v152) (broadcastInDim S16777216x2 ![] bcast_S_S16777216x2),
    TRef.binary (TRef.of (T := ⟨S16777216x2, .i32⟩) main_call1_call0_v148) (TRef.of (T := ⟨S16777216x2, .i32⟩) main_call1_call0_v152) (TRef.of (T := ⟨S16777216x2, .i32⟩) main_call1_call0_v153) Host.shrui,
    TRef.binary (TRef.of (T := ⟨S16777216x2, .i32⟩) main_call1_call0_v151) (TRef.of (T := ⟨S16777216x2, .i32⟩) main_call1_call0_v153) (TRef.of (T := ⟨S16777216x2, .i32⟩) main_call1_call0_v154) ori,
    TRef.binary (TRef.of (T := ⟨S16777216x2, .i32⟩) main_call1_call0_v149) (TRef.of (T := ⟨S16777216x2, .i32⟩) main_call1_call0_v154) (TRef.of (T := ⟨S16777216x2, .i32⟩) main_call1_call0_v155) xori,
    TRef.binary (TRef.of (T := ⟨S16777216x2, .i32⟩) main_call1_call0_v149) (TRef.of (T := ⟨S16777216x2, .i32⟩) main_call1_call0_v155) (TRef.of (T := ⟨S16777216x2, .i32⟩) main_call1_call0_v156) addi,
    TRef.nullary (TRef.of (T := ⟨S_, .i32⟩) main_call1_call0_c_40) (constantI S_ 32 26#32),
    TRef.unary (TRef.of (T := ⟨S_, .i32⟩) main_call1_call0_c_40) (TRef.of (T := ⟨S16777216x2, .i32⟩) main_call1_call0_v157) (broadcastInDim S16777216x2 ![] bcast_S_S16777216x2),
    TRef.binary (TRef.of (T := ⟨S16777216x2, .i32⟩) main_call1_call0_v155) (TRef.of (T := ⟨S16777216x2, .i32⟩) main_call1_call0_v157) (TRef.of (T := ⟨S16777216x2, .i32⟩) main_call1_call0_v158) Host.shli,
    TRef.nullary (TRef.of (T := ⟨S_, .i32⟩) main_call1_call0_c_41) (constantI S_ 32 6#32),
    TRef.unary (TRef.of (T := ⟨S_, .i32⟩) main_call1_call0_c_41) (TRef.of (T := ⟨S16777216x2, .i32⟩) main_call1_call0_v159) (broadcastInDim S16777216x2 ![] bcast_S_S16777216x2),
    TRef.binary (TRef.of (T := ⟨S16777216x2, .i32⟩) main_call1_call0_v155) (TRef.of (T := ⟨S16777216x2, .i32⟩) main_call1_call0_v159) (TRef.of (T := ⟨S16777216x2, .i32⟩) main_call1_call0_v160) Host.shrui,
    TRef.binary (TRef.of (T := ⟨S16777216x2, .i32⟩) main_call1_call0_v158) (TRef.of (T := ⟨S16777216x2, .i32⟩) main_call1_call0_v160) (TRef.of (T := ⟨S16777216x2, .i32⟩) main_call1_call0_v161) ori,
    TRef.binary (TRef.of (T := ⟨S16777216x2, .i32⟩) main_call1_call0_v156) (TRef.of (T := ⟨S16777216x2, .i32⟩) main_call1_call0_v161) (TRef.of (T := ⟨S16777216x2, .i32⟩) main_call1_call0_v162) xori,
    TRef.binary (TRef.of (T := ⟨S16777216x2, .i32⟩) main_call1_call0_v156) (TRef.of (T := ⟨S16777216x2, .i32⟩) main_call1_call0_v162) (TRef.of (T := ⟨S16777216x2, .i32⟩) main_call1_call0_v163) addi ]

/-- @main's operations 271 … 300 of 332 (window `main_part0`). -/
abbrev ops_part0_9 : List (HloOp τ sig (Elt F)) :=
  [ TRef.nullary (TRef.of (T := ⟨S_, .i32⟩) main_call1_call0_c_42) (constantI S_ 32 6#32),
    TRef.unary (TRef.of (T := ⟨S_, .i32⟩) main_call1_call0_c_42) (TRef.of (T := ⟨S16777216x2, .i32⟩) main_call1_call0_v164) (broadcastInDim S16777216x2 ![] bcast_S_S16777216x2),
    TRef.binary (TRef.of (T := ⟨S16777216x2, .i32⟩) main_call1_call0_v162) (TRef.of (T := ⟨S16777216x2, .i32⟩) main_call1_call0_v164) (TRef.of (T := ⟨S16777216x2, .i32⟩) main_call1_call0_v165) Host.shli,
    TRef.nullary (TRef.of (T := ⟨S_, .i32⟩) main_call1_call0_c_43) (constantI S_ 32 26#32),
    TRef.unary (TRef.of (T := ⟨S_, .i32⟩) main_call1_call0_c_43) (TRef.of (T := ⟨S16777216x2, .i32⟩) main_call1_call0_v166) (broadcastInDim S16777216x2 ![] bcast_S_S16777216x2),
    TRef.binary (TRef.of (T := ⟨S16777216x2, .i32⟩) main_call1_call0_v162) (TRef.of (T := ⟨S16777216x2, .i32⟩) main_call1_call0_v166) (TRef.of (T := ⟨S16777216x2, .i32⟩) main_call1_call0_v167) Host.shrui,
    TRef.binary (TRef.of (T := ⟨S16777216x2, .i32⟩) main_call1_call0_v165) (TRef.of (T := ⟨S16777216x2, .i32⟩) main_call1_call0_v167) (TRef.of (T := ⟨S16777216x2, .i32⟩) main_call1_call0_v168) ori,
    TRef.binary (TRef.of (T := ⟨S16777216x2, .i32⟩) main_call1_call0_v163) (TRef.of (T := ⟨S16777216x2, .i32⟩) main_call1_call0_v168) (TRef.of (T := ⟨S16777216x2, .i32⟩) main_call1_call0_v169) xori,
    TRef.unary (TRef.of (T := ⟨S_, .i32⟩) main_call1_call0_v1) (TRef.of (T := ⟨S16777216x2, .i32⟩) main_call1_call0_v170) (broadcastInDim S16777216x2 ![] bcast_S_S16777216x2),
    TRef.binary (TRef.of (T := ⟨S16777216x2, .i32⟩) main_call1_call0_v163) (TRef.of (T := ⟨S16777216x2, .i32⟩) main_call1_call0_v170) (TRef.of (T := ⟨S16777216x2, .i32⟩) main_call1_v19_0) addi,
    TRef.unary (TRef.of (T := ⟨S_, .i32⟩) main_call1_v5) (TRef.of (T := ⟨S16777216x2, .i32⟩) main_call1_call0_v172) (broadcastInDim S16777216x2 ![] bcast_S_S16777216x2),
    TRef.binary (TRef.of (T := ⟨S16777216x2, .i32⟩) main_call1_call0_v169) (TRef.of (T := ⟨S16777216x2, .i32⟩) main_call1_call0_v172) (TRef.of (T := ⟨S16777216x2, .i32⟩) main_call1_call0_v173) addi,
    TRef.nullary (TRef.of (T := ⟨S_, .i32⟩) main_call1_call0_c_44) (constantI S_ 32 5#32),
    TRef.unary (TRef.of (T := ⟨S_, .i32⟩) main_call1_call0_c_44) (TRef.of (T := ⟨S16777216x2, .i32⟩) main_call1_call0_v174) (broadcastInDim S16777216x2 ![] bcast_S_S16777216x2),
    TRef.binary (TRef.of (T := ⟨S16777216x2, .i32⟩) main_call1_call0_v173) (TRef.of (T := ⟨S16777216x2, .i32⟩) main_call1_call0_v174) (TRef.of (T := ⟨S16777216x2, .i32⟩) main_call1_v19_1) addi,
    TRef.binary (TRef.of (T := ⟨S16777216x2, .i32⟩) main_call1_v19_0) (TRef.of (T := ⟨S16777216x2, .i32⟩) main_call1_v19_1) (TRef.of (T := ⟨S16777216x2, .i32⟩) main_call1_v20) xori,
    TRef.nullary (TRef.of (T := ⟨S_, .i32⟩) main_call1_c_2) (constantI S_ 32 9#32),
    TRef.unary (TRef.of (T := ⟨S_, .i32⟩) main_call1_c_2) (TRef.of (T := ⟨S16777216x2, .i32⟩) main_call1_v21) (broadcastInDim S16777216x2 ![] bcast_S_S16777216x2),
    TRef.binary (TRef.of (T := ⟨S16777216x2, .i32⟩) main_call1_v20) (TRef.of (T := ⟨S16777216x2, .i32⟩) main_call1_v21) (TRef.of (T := ⟨S16777216x2, .i32⟩) main_call1_v22) Host.shrui,
    TRef.nullary (TRef.of (T := ⟨S_, .i32⟩) main_call1_c_3) (constantI S_ 32 1065353216#32),
    TRef.unary (TRef.of (T := ⟨S_, .i32⟩) main_call1_c_3) (TRef.of (T := ⟨S16777216x2, .i32⟩) main_call1_v23) (broadcastInDim S16777216x2 ![] bcast_S_S16777216x2),
    TRef.binary (TRef.of (T := ⟨S16777216x2, .i32⟩) main_call1_v22) (TRef.of (T := ⟨S16777216x2, .i32⟩) main_call1_v23) (TRef.of (T := ⟨S16777216x2, .i32⟩) main_call1_v24) ori,
    TRef.unary (TRef.of (T := ⟨S16777216x2, .i32⟩) main_call1_v24) (TRef.of (T := ⟨S16777216x2, .f32⟩) main_call1_v25) (bitcastToFloat (F := F) .f32),
    TRef.nullary (TRef.of (T := ⟨S_, .f32⟩) main_call1_cst) (constant S_ .f32 0x3F800000#32),
    TRef.unary (TRef.of (T := ⟨S_, .f32⟩) main_call1_cst) (TRef.of (T := ⟨S16777216x2, .f32⟩) main_call1_v26) (broadcastInDim S16777216x2 ![] bcast_S_S16777216x2),
    TRef.binary (TRef.of (T := ⟨S16777216x2, .f32⟩) main_call1_v25) (TRef.of (T := ⟨S16777216x2, .f32⟩) main_call1_v26) (TRef.of (T := ⟨S16777216x2, .f32⟩) main_call1_v27) subf,
    TRef.binary (TRef.of (T := ⟨S1x1, .f32⟩) main_call1_v3) (TRef.of (T := ⟨S1x1, .f32⟩) main_call1_v2) (TRef.of (T := ⟨S1x1, .f32⟩) main_call1_v28) subf,
    TRef.unary (TRef.of (T := ⟨S1x1, .f32⟩) main_call1_v28) (TRef.of (T := ⟨S16777216x2, .f32⟩) main_call1_v29) (broadcastInDim S16777216x2 ![0, 1] bcast_S1x1_S16777216x2_0_1),
    TRef.binary (TRef.of (T := ⟨S16777216x2, .f32⟩) main_call1_v27) (TRef.of (T := ⟨S16777216x2, .f32⟩) main_call1_v29) (TRef.of (T := ⟨S16777216x2, .f32⟩) main_call1_v30) mulf,
    TRef.unary (TRef.of (T := ⟨S1x1, .f32⟩) main_call1_v2) (TRef.of (T := ⟨S16777216x2, .f32⟩) main_call1_v31) (broadcastInDim S16777216x2 ![0, 1] bcast_S1x1_S16777216x2_0_1) ]

/-- @main's operations 301 … 327 of 332 (window `main_part0`). -/
abbrev ops_part0_10 : List (HloOp τ sig (Elt F)) :=
  [ TRef.binary (TRef.of (T := ⟨S16777216x2, .f32⟩) main_call1_v30) (TRef.of (T := ⟨S16777216x2, .f32⟩) main_call1_v31) (TRef.of (T := ⟨S16777216x2, .f32⟩) main_call1_v32) addf,
    TRef.unary (TRef.of (T := ⟨S1x1, .f32⟩) main_call1_v2) (TRef.of (T := ⟨S16777216x2, .f32⟩) main_call1_v33) (broadcastInDim S16777216x2 ![0, 1] bcast_S1x1_S16777216x2_0_1),
    TRef.binary (TRef.of (T := ⟨S16777216x2, .f32⟩) main_call1_v33) (TRef.of (T := ⟨S16777216x2, .f32⟩) main_call1_v32) (TRef.of (T := ⟨S16777216x2, .f32⟩) main_v27) maximumf,
    nullary main_cst_10 (constant S_ .f32 0x3F800000#32),
    unary main_cst_10 main_v28 (broadcastInDim S16777216x2 ![] bcast_S_S16777216x2 : (⟨S_, .f32⟩ : BufTy).Contents (Elt F) → (⟨S16777216x2, .f32⟩ : BufTy).Contents (Elt F)),
    binary main_v27 main_v28 main_v29 (mulf : (⟨S16777216x2, .f32⟩ : BufTy).Contents (Elt F) → (⟨S16777216x2, .f32⟩ : BufTy).Contents (Elt F) → (⟨S16777216x2, .f32⟩ : BufTy).Contents (Elt F)),
    nullary main_cst_11 (constant S_ .f32 0x00800000#32),
    unary main_cst_11 main_v30 (broadcastInDim S16777216x2 ![] bcast_S_S16777216x2 : (⟨S_, .f32⟩ : BufTy).Contents (Elt F) → (⟨S16777216x2, .f32⟩ : BufTy).Contents (Elt F)),
    binary main_v29 main_v30 main_v31 (addf : (⟨S16777216x2, .f32⟩ : BufTy).Contents (Elt F) → (⟨S16777216x2, .f32⟩ : BufTy).Contents (Elt F) → (⟨S16777216x2, .f32⟩ : BufTy).Contents (Elt F)),
    nullary main_cst_12 (constant S_ .f32 0x00800000#32),
    unary main_cst_12 main_v32 (broadcastInDim S16777216x2 ![] bcast_S_S16777216x2 : (⟨S_, .f32⟩ : BufTy).Contents (Elt F) → (⟨S16777216x2, .f32⟩ : BufTy).Contents (Elt F)),
    binary main_v32 main_v31 main_v33 (maximumf : (⟨S16777216x2, .f32⟩ : BufTy).Contents (Elt F) → (⟨S16777216x2, .f32⟩ : BufTy).Contents (Elt F) → (⟨S16777216x2, .f32⟩ : BufTy).Contents (Elt F)),
    unary main_v33 main_v34 (Host.log : (⟨S16777216x2, .f32⟩ : BufTy).Contents (Elt F) → (⟨S16777216x2, .f32⟩ : BufTy).Contents (Elt F)),
    unary main_v34 main_v35 (Host.negf : (⟨S16777216x2, .f32⟩ : BufTy).Contents (Elt F) → (⟨S16777216x2, .f32⟩ : BufTy).Contents (Elt F)),
    unary main_v35 main_v36 (Host.log : (⟨S16777216x2, .f32⟩ : BufTy).Contents (Elt F) → (⟨S16777216x2, .f32⟩ : BufTy).Contents (Elt F)),
    unary main_v36 main_v37 (Host.negf : (⟨S16777216x2, .f32⟩ : BufTy).Contents (Elt F) → (⟨S16777216x2, .f32⟩ : BufTy).Contents (Elt F)),
    binary main_v37 main_v19 main_v38 (addf : (⟨S16777216x2, .f32⟩ : BufTy).Contents (Elt F) → (⟨S16777216x2, .f32⟩ : BufTy).Contents (Elt F) → (⟨S16777216x2, .f32⟩ : BufTy).Contents (Elt F)),
    TRef.nullary (TRef.of (T := ⟨S16777216x2, .i32⟩) main_call2_v0) (iotaInDim S16777216x2 32 1),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S16777216x2, .f32⟩) main_v38) (TRef.of (T := ⟨S16777216x2, .i32⟩) main_call2_v0) (TRef.of (T := ⟨S_, .f32⟩) main_call2_cst) (TRef.of (T := ⟨S_, .i32⟩) main_call2_c) (TRef.of (T := ⟨S16777216, .f32⟩) main_call2_v1_0) (fun x y u v => fun j => (Host.argReduce reducer_argmax_f32_i32 x y u v reducesTo_S16777216x2_S16777216_d1 h_S_ j).1),
    TRef.quaternary (TRef.of (T := ⟨S16777216x2, .f32⟩) main_v38) (TRef.of (T := ⟨S16777216x2, .i32⟩) main_call2_v0) (TRef.of (T := ⟨S_, .f32⟩) main_call2_cst) (TRef.of (T := ⟨S_, .i32⟩) main_call2_c) (TRef.of (T := ⟨S16777216, .i32⟩) main_v39) (fun x y u v => fun j => (Host.argReduce reducer_argmax_f32_i32 x y u v reducesTo_S16777216x2_S16777216_d1 h_S_ j).2),
    reshape main_v39 main_v40 (rfl : (.i32 : EltTy) = .i32) shapeCasts_S16777216_S4096x4096,
    nullary main_v41 (iotaInDim S4096x4096 32 0),
    nullary main_v42 (iotaInDim S4096x4096 32 1),
    binary main_v41 main_v42 main_v43 (cmpi .sle : (⟨S4096x4096, .i32⟩ : BufTy).Contents (Elt F) → (⟨S4096x4096, .i32⟩ : BufTy).Contents (Elt F) → (⟨S4096x4096, .i1⟩ : BufTy).Contents (Elt F)),
    unary main_v40 main_v44 ((transpose S4096x4096 [1, 0] · transposes_S4096x4096_S4096x4096_1_0) : (⟨S4096x4096, .i32⟩ : BufTy).Contents (Elt F) → (⟨S4096x4096, .i32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3 ++ (ops_part0_4 ++ (ops_part0_5 ++ (ops_part0_6 ++ (ops_part0_7 ++ (ops_part0_8 ++ (ops_part0_9 ++ (ops_part0_10))))))))))

/-- @main's operations 328 … 332 of 332 (window `main_part1`). -/
abbrev ops_part1 : List (HloOp τ sig (Elt F)) :=
  [ TRef.ternary (TRef.of (T := ⟨S4096x4096, .i1⟩) main_v43) (TRef.of (T := ⟨S4096x4096, .i32⟩) main_v40) (TRef.of (T := ⟨S4096x4096, .i32⟩) main_v44) (TRef.of (T := ⟨S4096x4096, .i32⟩) main_v45) select,
    unary main_arg1 main_v46 (sitofp .f32 : (⟨S1, .i32⟩ : BufTy).Contents (Elt F) → (⟨S1, .f32⟩ : BufTy).Contents (Elt F)),
    nullary main_cst_13 (constant S_ .f32 0x447A0000#32),
    unary main_cst_13 main_v47 (broadcastInDim S1 ![] bcast_S_S1 : (⟨S_, .f32⟩ : BufTy).Contents (Elt F) → (⟨S1, .f32⟩ : BufTy).Contents (Elt F)),
    binary main_v46 main_v47 main_v48 (Host.divf : (⟨S1, .f32⟩ : BufTy).Contents (Elt F) → (⟨S1, .f32⟩ : BufTy).Contents (Elt F) → (⟨S1, .f32⟩ : BufTy).Contents (Elt F)) ]

/-- @main's 332 operations, in order (a called function's operations stand in its call's place, spelt `TRef.…`). -/
abbrev ops : List (HloOp τ sig (Elt F)) :=
  ops_part0 ++ (ops_part1)

set_option maxRecDepth 8192 in
set_option maxHeartbeats 4000000 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨nullary_bufs_sub .., nullary_bufs_sub .., nullary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., binary_bufs_sub .., reshape_bufs_sub .., nullary_bufs_sub .., unary_bufs_sub .., unary_bufs_sub .., binary_bufs_sub .., unary_bufs_sub .., nullary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨nullary_bufs_sub .., binary_bufs_sub .., unary_bufs_sub .., unary_bufs_sub .., nullary_bufs_sub .., binary_bufs_sub .., unary_bufs_sub .., unary_bufs_sub .., binary_bufs_sub .., nullary_bufs_sub .., nullary_bufs_sub .., unary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub .., binary_bufs_sub .., binary_bufs_sub .., nullary_bufs_sub .., unary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨binary_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_3_sub : (ops_part0_3 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub ..⟩
set_option maxRecDepth 8192 in
theorem ops_part0_3_fresh : (ops_part0_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_4_sub : (ops_part0_4 : List (HloOp τ sig (Elt F))).Forall fun op => op.bufs ⊆ tcRefs τ sig :=
  ⟨binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub ..⟩
set_option maxRecDepth 8192 in
theorem ops_part0_4_fresh : (ops_part0_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_5_sub : (ops_part0_5 : List (HloOp τ sig (Elt F))).Forall fun op => op.bufs ⊆ tcRefs τ sig :=
  ⟨binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub ..⟩
set_option maxRecDepth 8192 in
theorem ops_part0_5_fresh : (ops_part0_5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_6_sub : (ops_part0_6 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub ..⟩
set_option maxRecDepth 8192 in
theorem ops_part0_6_fresh : (ops_part0_6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_7_sub : (ops_part0_7 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub ..⟩
set_option maxRecDepth 8192 in
theorem ops_part0_7_fresh : (ops_part0_7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_8_sub : (ops_part0_8 : List (HloOp τ sig (Elt F))).Forall fun op => op.bufs ⊆ tcRefs τ sig :=
  ⟨unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩
set_option maxRecDepth 8192 in
theorem ops_part0_8_fresh : (ops_part0_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_9_sub : (ops_part0_9 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub ..⟩
set_option maxRecDepth 8192 in
theorem ops_part0_9_fresh : (ops_part0_9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_10_sub : (ops_part0_10 : List (HloOp τ sig (Elt F))).Forall fun op => op.bufs ⊆ tcRefs τ sig :=
  ⟨binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub .., nullary_bufs_sub .., nullary_bufs_sub .., nullary_bufs_sub .., quaternary_bufs_sub .., quaternary_bufs_sub .., reshape_bufs_sub .., nullary_bufs_sub .., nullary_bufs_sub .., binary_bufs_sub .., unary_bufs_sub ..⟩
set_option maxRecDepth 8192 in
theorem ops_part0_10_fresh : (ops_part0_10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_sub : (ops_part1 : List (HloOp τ sig (Elt F))).Forall fun op => op.bufs ⊆ tcRefs τ sig :=
  ⟨ternary_bufs_sub .., unary_bufs_sub .., nullary_bufs_sub .., unary_bufs_sub .., binary_bufs_sub ..⟩
set_option maxRecDepth 8192 in
theorem ops_part1_fresh : (ops_part1 : List (HloOp τ sig (Elt F))).Forall fun op => op.fresh = ∅ :=
  ⟨rfl, rfl, rfl, rfl, rfl⟩
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part0_4_sub op h, List.forall_iff_forall_mem.mp ops_part0_5_sub op h, List.forall_iff_forall_mem.mp ops_part0_6_sub op h, List.forall_iff_forall_mem.mp ops_part0_7_sub op h, List.forall_iff_forall_mem.mp ops_part0_8_sub op h, List.forall_iff_forall_mem.mp ops_part0_9_sub op h, List.forall_iff_forall_mem.mp ops_part0_10_sub op h, List.forall_iff_forall_mem.mp ops_part1_sub op h]
theorem ops_fresh : ∀ op ∈ (ops : List (HloOp τ sig (Elt F))), op.fresh = ∅ := fun op h => by
    simp only [ops, ops_part0, List.mem_append, or_assoc] at h
    rcases h with h | h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part0_4_fresh op h, List.forall_iff_forall_mem.mp ops_part0_5_fresh op h, List.forall_iff_forall_mem.mp ops_part0_6_fresh op h, List.forall_iff_forall_mem.mp ops_part0_7_fresh op h, List.forall_iff_forall_mem.mp ops_part0_8_fresh op h, List.forall_iff_forall_mem.mp ops_part0_9_fresh op h, List.forall_iff_forall_mem.mp ops_part0_10_fresh op h, List.forall_iff_forall_mem.mp ops_part1_fresh op h]

set_option maxRecDepth 8192 in
/-- `main_v6`'s composed term of the arguments (named: it is used 2 times). -/
def res_main_v6 (V0 : Valuation τ sig (Elt F)) : (Proc.devRef .tc main_v6 : DevRef τ sig).ty.Contents (Elt F) :=
  Host.gather gather_S1001_S1x1_S1_n_0_n_n_0_1_1 ((fun i => FloatOps.ofBits .f32 (lit0 (S1001.rowMajor i)))) (broadcastInDim S1x1 ![0] bcast_S1_S1x1_0 (select (cmpi .slt (V0 (Proc.devRef .tc main_arg1)) (broadcastInDim S1 ![] bcast_S_S1 (constantI S_ 32 0#32))) (addi (V0 (Proc.devRef .tc main_arg1)) (broadcastInDim S1 ![] bcast_S_S1 (constantI S_ 32 1001#32))) (V0 (Proc.devRef .tc main_arg1))))

set_option maxRecDepth 8192 in
/-- `main_c_5`'s composed term of the arguments (named: it is used 2 times). -/
def res_main_c_5 (V0 : Valuation τ sig (Elt F)) : (Proc.devRef .tc main_c_5 : DevRef τ sig).ty.Contents (Elt F) :=
  constantI S_ 32 1#32

set_option maxRecDepth 8192 in
/-- `main_v26`'s composed term of the arguments (named: it is used 2 times). -/
def res_main_v26 (V0 : Valuation τ sig (Elt F)) : (Proc.devRef .tc main_v26 : DevRef τ sig).ty.Contents (Elt F) :=
  concatenate S2 0 [⟨S1, (broadcastInDim S1 ![] bcast_S_S1 (id (Host.shrui (res_main_c_5 V0) (constantI S_ 32 32#32))))⟩, ⟨S1, (broadcastInDim S1 ![] bcast_S_S1 (id (andi (res_main_c_5 V0) (constantI S_ 32 4294967295#32))))⟩] concatenates_S1_S1_S2_d0

set_option maxRecDepth 8192 in
/-- `main_call1_v2`'s composed term of the arguments (named: it is used 3 times). -/
def res_main_call1_v2 (V0 : Valuation τ sig (Elt F)) : (Proc.devRef .tc main_call1_v2 : DevRef τ sig).ty.Contents (Elt F) :=
  broadcastInDim S1x1 ![] bcast_S_S1x1 (id (constant S_ .f32 0x00000000#32))

set_option maxRecDepth 8192 in
/-- `main_call1_v5`'s composed term of the arguments (named: it is used 5 times). -/
def res_main_call1_v5 (V0 : Valuation τ sig (Elt F)) : (Proc.devRef .tc main_call1_v5 : DevRef τ sig).ty.Contents (Elt F) :=
  shapeCast _ (extractStridedSlice S1 ![0] (res_main_v26 V0) slices_S2_S1_0) shapeCasts_S1_S_

set_option maxRecDepth 8192 in
/-- `main_call1_v7`'s composed term of the arguments (named: it is used 5 times). -/
def res_main_call1_v7 (V0 : Valuation τ sig (Elt F)) : (Proc.devRef .tc main_call1_v7 : DevRef τ sig).ty.Contents (Elt F) :=
  shapeCast _ (extractStridedSlice S1 ![1] (res_main_v26 V0) slices_S2_S1_1) shapeCasts_S1_S_

set_option maxRecDepth 8192 in
/-- `main_call1_v14`'s composed term of the arguments (named: it is used 2 times). -/
def res_main_call1_v14 (V0 : Valuation τ sig (Elt F)) : (Proc.devRef .tc main_call1_v14 : DevRef τ sig).ty.Contents (Elt F) :=
  addi (muli (broadcastInDim S16777216x2 ![] bcast_S_S16777216x2 (constantI S_ 64 2#64)) (iotaInDim S16777216x2 64 0)) (muli (broadcastInDim S16777216x2 ![] bcast_S_S16777216x2 (constantI S_ 64 1#64)) (iotaInDim S16777216x2 64 1))

set_option maxRecDepth 8192 in
/-- `main_call1_call0_v1`'s composed term of the arguments (named: it is used 4 times). -/
def res_main_call1_call0_v1 (V0 : Valuation τ sig (Elt F)) : (Proc.devRef .tc main_call1_call0_v1 : DevRef τ sig).ty.Contents (Elt F) :=
  xori (xori (res_main_call1_v5 V0) (res_main_call1_v7 V0)) (constantI S_ 32 466688986#32)

set_option maxRecDepth 8192 in
/-- `main_call1_call0_v5`'s composed term of the arguments (named: it is used 3 times). -/
def res_main_call1_call0_v5 (V0 : Valuation τ sig (Elt F)) : (Proc.devRef .tc main_call1_call0_v5 : DevRef τ sig).ty.Contents (Elt F) :=
  addi (trunci 32 (res_main_call1_v14 V0) natLt_32_64) (broadcastInDim S16777216x2 ![] bcast_S_S16777216x2 (res_main_call1_v7 V0))

set_option maxRecDepth 8192 in
/-- `main_call1_call0_v6`'s composed term of the arguments (named: it is used 2 times). -/
def res_main_call1_call0_v6 (V0 : Valuation τ sig (Elt F)) : (Proc.devRef .tc main_call1_call0_v6 : DevRef τ sig).ty.Contents (Elt F) :=
  addi (addi (trunci 32 (Host.shrui (res_main_call1_v14 V0) (broadcastInDim S16777216x2 ![] bcast_S_S16777216x2 (constantI S_ 64 32#64))) natLt_32_64) (broadcastInDim S16777216x2 ![] bcast_S_S16777216x2 (res_main_call1_v5 V0))) (res_main_call1_call0_v5 V0)

set_option maxRecDepth 8192 in
/-- `main_call1_call0_v12`'s composed term of the arguments (named: it is used 3 times). -/
def res_main_call1_call0_v12 (V0 : Valuation τ sig (Elt F)) : (Proc.devRef .tc main_call1_call0_v12 : DevRef τ sig).ty.Contents (Elt F) :=
  xori (res_main_call1_call0_v6 V0) (ori (Host.shli (res_main_call1_call0_v5 V0) (broadcastInDim S16777216x2 ![] bcast_S_S16777216x2 (constantI S_ 32 13#32))) (Host.shrui (res_main_call1_call0_v5 V0) (broadcastInDim S16777216x2 ![] bcast_S_S16777216x2 (constantI S_ 32 19#32))))

set_option maxRecDepth 8192 in
/-- `main_call1_call0_v13`'s composed term of the arguments (named: it is used 2 times). -/
def res_main_call1_call0_v13 (V0 : Valuation τ sig (Elt F)) : (Proc.devRef .tc main_call1_call0_v13 : DevRef τ sig).ty.Contents (Elt F) :=
  addi (res_main_call1_call0_v6 V0) (res_main_call1_call0_v12 V0)

set_option maxRecDepth 8192 in
/-- `main_call1_call0_v19`'s composed term of the arguments (named: it is used 3 times). -/
def res_main_call1_call0_v19 (V0 : Valuation τ sig (Elt F)) : (Proc.devRef .tc main_call1_call0_v19 : DevRef τ sig).ty.Contents (Elt F) :=
  xori (res_main_call1_call0_v13 V0) (ori (Host.shli (res_main_call1_call0_v12 V0) (broadcastInDim S16777216x2 ![] bcast_S_S16777216x2 (constantI S_ 32 15#32))) (Host.shrui (res_main_call1_call0_v12 V0) (broadcastInDim S16777216x2 ![] bcast_S_S16777216x2 (constantI S_ 32 17#32))))

set_option maxRecDepth 8192 in
/-- `main_call1_call0_v20`'s composed term of the arguments (named: it is used 2 times). -/
def res_main_call1_call0_v20 (V0 : Valuation τ sig (Elt F)) : (Proc.devRef .tc main_call1_call0_v20 : DevRef τ sig).ty.Contents (Elt F) :=
  addi (res_main_call1_call0_v13 V0) (res_main_call1_call0_v19 V0)

set_option maxRecDepth 8192 in
/-- `main_call1_call0_v26`'s composed term of the arguments (named: it is used 3 times). -/
def res_main_call1_call0_v26 (V0 : Valuation τ sig (Elt F)) : (Proc.devRef .tc main_call1_call0_v26 : DevRef τ sig).ty.Contents (Elt F) :=
  xori (res_main_call1_call0_v20 V0) (ori (Host.shli (res_main_call1_call0_v19 V0) (broadcastInDim S16777216x2 ![] bcast_S_S16777216x2 (constantI S_ 32 26#32))) (Host.shrui (res_main_call1_call0_v19 V0) (broadcastInDim S16777216x2 ![] bcast_S_S16777216x2 (constantI S_ 32 6#32))))

set_option maxRecDepth 8192 in
/-- `main_call1_call0_v27`'s composed term of the arguments (named: it is used 2 times). -/
def res_main_call1_call0_v27 (V0 : Valuation τ sig (Elt F)) : (Proc.devRef .tc main_call1_call0_v27 : DevRef τ sig).ty.Contents (Elt F) :=
  addi (res_main_call1_call0_v20 V0) (res_main_call1_call0_v26 V0)

set_option maxRecDepth 8192 in
/-- `main_call1_call0_v39`'s composed term of the arguments (named: it is used 3 times). -/
def res_main_call1_call0_v39 (V0 : Valuation τ sig (Elt F)) : (Proc.devRef .tc main_call1_call0_v39 : DevRef τ sig).ty.Contents (Elt F) :=
  addi (addi (xori (res_main_call1_call0_v27 V0) (ori (Host.shli (res_main_call1_call0_v26 V0) (broadcastInDim S16777216x2 ![] bcast_S_S16777216x2 (constantI S_ 32 6#32))) (Host.shrui (res_main_call1_call0_v26 V0) (broadcastInDim S16777216x2 ![] bcast_S_S16777216x2 (constantI S_ 32 26#32))))) (broadcastInDim S16777216x2 ![] bcast_S_S16777216x2 (res_main_call1_call0_v1 V0))) (broadcastInDim S16777216x2 ![] bcast_S_S16777216x2 (constantI S_ 32 1#32))

set_option maxRecDepth 8192 in
/-- `main_call1_call0_v40`'s composed term of the arguments (named: it is used 2 times). -/
def res_main_call1_call0_v40 (V0 : Valuation τ sig (Elt F)) : (Proc.devRef .tc main_call1_call0_v40 : DevRef τ sig).ty.Contents (Elt F) :=
  addi (addi (res_main_call1_call0_v27 V0) (broadcastInDim S16777216x2 ![] bcast_S_S16777216x2 (res_main_call1_v7 V0))) (res_main_call1_call0_v39 V0)

set_option maxRecDepth 8192 in
/-- `main_call1_call0_v46`'s composed term of the arguments (named: it is used 3 times). -/
def res_main_call1_call0_v46 (V0 : Valuation τ sig (Elt F)) : (Proc.devRef .tc main_call1_call0_v46 : DevRef τ sig).ty.Contents (Elt F) :=
  xori (res_main_call1_call0_v40 V0) (ori (Host.shli (res_main_call1_call0_v39 V0) (broadcastInDim S16777216x2 ![] bcast_S_S16777216x2 (constantI S_ 32 17#32))) (Host.shrui (res_main_call1_call0_v39 V0) (broadcastInDim S16777216x2 ![] bcast_S_S16777216x2 (constantI S_ 32 15#32))))

set_option maxRecDepth 8192 in
/-- `main_call1_call0_v47`'s composed term of the arguments (named: it is used 2 times). -/
def res_main_call1_call0_v47 (V0 : Valuation τ sig (Elt F)) : (Proc.devRef .tc main_call1_call0_v47 : DevRef τ sig).ty.Contents (Elt F) :=
  addi (res_main_call1_call0_v40 V0) (res_main_call1_call0_v46 V0)

set_option maxRecDepth 8192 in
/-- `main_call1_call0_v53`'s composed term of the arguments (named: it is used 3 times). -/
def res_main_call1_call0_v53 (V0 : Valuation τ sig (Elt F)) : (Proc.devRef .tc main_call1_call0_v53 : DevRef τ sig).ty.Contents (Elt F) :=
  xori (res_main_call1_call0_v47 V0) (ori (Host.shli (res_main_call1_call0_v46 V0) (broadcastInDim S16777216x2 ![] bcast_S_S16777216x2 (constantI S_ 32 29#32))) (Host.shrui (res_main_call1_call0_v46 V0) (broadcastInDim S16777216x2 ![] bcast_S_S16777216x2 (constantI S_ 32 3#32))))

set_option maxRecDepth 8192 in
/-- `main_call1_call0_v54`'s composed term of the arguments (named: it is used 2 times). -/
def res_main_call1_call0_v54 (V0 : Valuation τ sig (Elt F)) : (Proc.devRef .tc main_call1_call0_v54 : DevRef τ sig).ty.Contents (Elt F) :=
  addi (res_main_call1_call0_v47 V0) (res_main_call1_call0_v53 V0)

set_option maxRecDepth 8192 in
/-- `main_call1_call0_v60`'s composed term of the arguments (named: it is used 3 times). -/
def res_main_call1_call0_v60 (V0 : Valuation τ sig (Elt F)) : (Proc.devRef .tc main_call1_call0_v60 : DevRef τ sig).ty.Contents (Elt F) :=
  xori (res_main_call1_call0_v54 V0) (ori (Host.shli (res_main_call1_call0_v53 V0) (broadcastInDim S16777216x2 ![] bcast_S_S16777216x2 (constantI S_ 32 16#32))) (Host.shrui (res_main_call1_call0_v53 V0) (broadcastInDim S16777216x2 ![] bcast_S_S16777216x2 (constantI S_ 32 16#32))))

set_option maxRecDepth 8192 in
/-- `main_call1_call0_v61`'s composed term of the arguments (named: it is used 2 times). -/
def res_main_call1_call0_v61 (V0 : Valuation τ sig (Elt F)) : (Proc.devRef .tc main_call1_call0_v61 : DevRef τ sig).ty.Contents (Elt F) :=
  addi (res_main_call1_call0_v54 V0) (res_main_call1_call0_v60 V0)

set_option maxRecDepth 8192 in
/-- `main_call1_call0_v73`'s composed term of the arguments (named: it is used 3 times). -/
def res_main_call1_call0_v73 (V0 : Valuation τ sig (Elt F)) : (Proc.devRef .tc main_call1_call0_v73 : DevRef τ sig).ty.Contents (Elt F) :=
  addi (addi (xori (res_main_call1_call0_v61 V0) (ori (Host.shli (res_main_call1_call0_v60 V0) (broadcastInDim S16777216x2 ![] bcast_S_S16777216x2 (constantI S_ 32 24#32))) (Host.shrui (res_main_call1_call0_v60 V0) (broadcastInDim S16777216x2 ![] bcast_S_S16777216x2 (constantI S_ 32 8#32))))) (broadcastInDim S16777216x2 ![] bcast_S_S16777216x2 (res_main_call1_v5 V0))) (broadcastInDim S16777216x2 ![] bcast_S_S16777216x2 (constantI S_ 32 2#32))

set_option maxRecDepth 8192 in
/-- `main_call1_call0_v74`'s composed term of the arguments (named: it is used 2 times). -/
def res_main_call1_call0_v74 (V0 : Valuation τ sig (Elt F)) : (Proc.devRef .tc main_call1_call0_v74 : DevRef τ sig).ty.Contents (Elt F) :=
  addi (addi (res_main_call1_call0_v61 V0) (broadcastInDim S16777216x2 ![] bcast_S_S16777216x2 (res_main_call1_call0_v1 V0))) (res_main_call1_call0_v73 V0)

set_option maxRecDepth 8192 in
/-- `main_call1_call0_v80`'s composed term of the arguments (named: it is used 3 times). -/
def res_main_call1_call0_v80 (V0 : Valuation τ sig (Elt F)) : (Proc.devRef .tc main_call1_call0_v80 : DevRef τ sig).ty.Contents (Elt F) :=
  xori (res_main_call1_call0_v74 V0) (ori (Host.shli (res_main_call1_call0_v73 V0) (broadcastInDim S16777216x2 ![] bcast_S_S16777216x2 (constantI S_ 32 13#32))) (Host.shrui (res_main_call1_call0_v73 V0) (broadcastInDim S16777216x2 ![] bcast_S_S16777216x2 (constantI S_ 32 19#32))))

set_option maxRecDepth 8192 in
/-- `main_call1_call0_v81`'s composed term of the arguments (named: it is used 2 times). -/
def res_main_call1_call0_v81 (V0 : Valuation τ sig (Elt F)) : (Proc.devRef .tc main_call1_call0_v81 : DevRef τ sig).ty.Contents (Elt F) :=
  addi (res_main_call1_call0_v74 V0) (res_main_call1_call0_v80 V0)

set_option maxRecDepth 8192 in
/-- `main_call1_call0_v87`'s composed term of the arguments (named: it is used 3 times). -/
def res_main_call1_call0_v87 (V0 : Valuation τ sig (Elt F)) : (Proc.devRef .tc main_call1_call0_v87 : DevRef τ sig).ty.Contents (Elt F) :=
  xori (res_main_call1_call0_v81 V0) (ori (Host.shli (res_main_call1_call0_v80 V0) (broadcastInDim S16777216x2 ![] bcast_S_S16777216x2 (constantI S_ 32 15#32))) (Host.shrui (res_main_call1_call0_v80 V0) (broadcastInDim S16777216x2 ![] bcast_S_S16777216x2 (constantI S_ 32 17#32))))

set_option maxRecDepth 8192 in
/-- `main_call1_call0_v88`'s composed term of the arguments (named: it is used 2 times). -/
def res_main_call1_call0_v88 (V0 : Valuation τ sig (Elt F)) : (Proc.devRef .tc main_call1_call0_v88 : DevRef τ sig).ty.Contents (Elt F) :=
  addi (res_main_call1_call0_v81 V0) (res_main_call1_call0_v87 V0)

set_option maxRecDepth 8192 in
/-- `main_call1_call0_v94`'s composed term of the arguments (named: it is used 3 times). -/
def res_main_call1_call0_v94 (V0 : Valuation τ sig (Elt F)) : (Proc.devRef .tc main_call1_call0_v94 : DevRef τ sig).ty.Contents (Elt F) :=
  xori (res_main_call1_call0_v88 V0) (ori (Host.shli (res_main_call1_call0_v87 V0) (broadcastInDim S16777216x2 ![] bcast_S_S16777216x2 (constantI S_ 32 26#32))) (Host.shrui (res_main_call1_call0_v87 V0) (broadcastInDim S16777216x2 ![] bcast_S_S16777216x2 (constantI S_ 32 6#32))))

set_option maxRecDepth 8192 in
/-- `main_call1_call0_v95`'s composed term of the arguments (named: it is used 2 times). -/
def res_main_call1_call0_v95 (V0 : Valuation τ sig (Elt F)) : (Proc.devRef .tc main_call1_call0_v95 : DevRef τ sig).ty.Contents (Elt F) :=
  addi (res_main_call1_call0_v88 V0) (res_main_call1_call0_v94 V0)

set_option maxRecDepth 8192 in
/-- `main_call1_call0_v107`'s composed term of the arguments (named: it is used 3 times). -/
def res_main_call1_call0_v107 (V0 : Valuation τ sig (Elt F)) : (Proc.devRef .tc main_call1_call0_v107 : DevRef τ sig).ty.Contents (Elt F) :=
  addi (addi (xori (res_main_call1_call0_v95 V0) (ori (Host.shli (res_main_call1_call0_v94 V0) (broadcastInDim S16777216x2 ![] bcast_S_S16777216x2 (constantI S_ 32 6#32))) (Host.shrui (res_main_call1_call0_v94 V0) (broadcastInDim S16777216x2 ![] bcast_S_S16777216x2 (constantI S_ 32 26#32))))) (broadcastInDim S16777216x2 ![] bcast_S_S16777216x2 (res_main_call1_v7 V0))) (broadcastInDim S16777216x2 ![] bcast_S_S16777216x2 (constantI S_ 32 3#32))

set_option maxRecDepth 8192 in
/-- `main_call1_call0_v108`'s composed term of the arguments (named: it is used 2 times). -/
def res_main_call1_call0_v108 (V0 : Valuation τ sig (Elt F)) : (Proc.devRef .tc main_call1_call0_v108 : DevRef τ sig).ty.Contents (Elt F) :=
  addi (addi (res_main_call1_call0_v95 V0) (broadcastInDim S16777216x2 ![] bcast_S_S16777216x2 (res_main_call1_v5 V0))) (res_main_call1_call0_v107 V0)

set_option maxRecDepth 8192 in
/-- `main_call1_call0_v114`'s composed term of the arguments (named: it is used 3 times). -/
def res_main_call1_call0_v114 (V0 : Valuation τ sig (Elt F)) : (Proc.devRef .tc main_call1_call0_v114 : DevRef τ sig).ty.Contents (Elt F) :=
  xori (res_main_call1_call0_v108 V0) (ori (Host.shli (res_main_call1_call0_v107 V0) (broadcastInDim S16777216x2 ![] bcast_S_S16777216x2 (constantI S_ 32 17#32))) (Host.shrui (res_main_call1_call0_v107 V0) (broadcastInDim S16777216x2 ![] bcast_S_S16777216x2 (constantI S_ 32 15#32))))

set_option maxRecDepth 8192 in
/-- `main_call1_call0_v115`'s composed term of the arguments (named: it is used 2 times). -/
def res_main_call1_call0_v115 (V0 : Valuation τ sig (Elt F)) : (Proc.devRef .tc main_call1_call0_v115 : DevRef τ sig).ty.Contents (Elt F) :=
  addi (res_main_call1_call0_v108 V0) (res_main_call1_call0_v114 V0)

set_option maxRecDepth 8192 in
/-- `main_call1_call0_v121`'s composed term of the arguments (named: it is used 3 times). -/
def res_main_call1_call0_v121 (V0 : Valuation τ sig (Elt F)) : (Proc.devRef .tc main_call1_call0_v121 : DevRef τ sig).ty.Contents (Elt F) :=
  xori (res_main_call1_call0_v115 V0) (ori (Host.shli (res_main_call1_call0_v114 V0) (broadcastInDim S16777216x2 ![] bcast_S_S16777216x2 (constantI S_ 32 29#32))) (Host.shrui (res_main_call1_call0_v114 V0) (broadcastInDim S16777216x2 ![] bcast_S_S16777216x2 (constantI S_ 32 3#32))))

set_option maxRecDepth 8192 in
/-- `main_call1_call0_v122`'s composed term of the arguments (named: it is used 2 times). -/
def res_main_call1_call0_v122 (V0 : Valuation τ sig (Elt F)) : (Proc.devRef .tc main_call1_call0_v122 : DevRef τ sig).ty.Contents (Elt F) :=
  addi (res_main_call1_call0_v115 V0) (res_main_call1_call0_v121 V0)

set_option maxRecDepth 8192 in
/-- `main_call1_call0_v128`'s composed term of the arguments (named: it is used 3 times). -/
def res_main_call1_call0_v128 (V0 : Valuation τ sig (Elt F)) : (Proc.devRef .tc main_call1_call0_v128 : DevRef τ sig).ty.Contents (Elt F) :=
  xori (res_main_call1_call0_v122 V0) (ori (Host.shli (res_main_call1_call0_v121 V0) (broadcastInDim S16777216x2 ![] bcast_S_S16777216x2 (constantI S_ 32 16#32))) (Host.shrui (res_main_call1_call0_v121 V0) (broadcastInDim S16777216x2 ![] bcast_S_S16777216x2 (constantI S_ 32 16#32))))

set_option maxRecDepth 8192 in
/-- `main_call1_call0_v129`'s composed term of the arguments (named: it is used 2 times). -/
def res_main_call1_call0_v129 (V0 : Valuation τ sig (Elt F)) : (Proc.devRef .tc main_call1_call0_v129 : DevRef τ sig).ty.Contents (Elt F) :=
  addi (res_main_call1_call0_v122 V0) (res_main_call1_call0_v128 V0)

set_option maxRecDepth 8192 in
/-- `main_call1_call0_v141`'s composed term of the arguments (named: it is used 3 times). -/
def res_main_call1_call0_v141 (V0 : Valuation τ sig (Elt F)) : (Proc.devRef .tc main_call1_call0_v141 : DevRef τ sig).ty.Contents (Elt F) :=
  addi (addi (xori (res_main_call1_call0_v129 V0) (ori (Host.shli (res_main_call1_call0_v128 V0) (broadcastInDim S16777216x2 ![] bcast_S_S16777216x2 (constantI S_ 32 24#32))) (Host.shrui (res_main_call1_call0_v128 V0) (broadcastInDim S16777216x2 ![] bcast_S_S16777216x2 (constantI S_ 32 8#32))))) (broadcastInDim S16777216x2 ![] bcast_S_S16777216x2 (res_main_call1_call0_v1 V0))) (broadcastInDim S16777216x2 ![] bcast_S_S16777216x2 (constantI S_ 32 4#32))

set_option maxRecDepth 8192 in
/-- `main_call1_call0_v142`'s composed term of the arguments (named: it is used 2 times). -/
def res_main_call1_call0_v142 (V0 : Valuation τ sig (Elt F)) : (Proc.devRef .tc main_call1_call0_v142 : DevRef τ sig).ty.Contents (Elt F) :=
  addi (addi (res_main_call1_call0_v129 V0) (broadcastInDim S16777216x2 ![] bcast_S_S16777216x2 (res_main_call1_v7 V0))) (res_main_call1_call0_v141 V0)

set_option maxRecDepth 8192 in
/-- `main_call1_call0_v148`'s composed term of the arguments (named: it is used 3 times). -/
def res_main_call1_call0_v148 (V0 : Valuation τ sig (Elt F)) : (Proc.devRef .tc main_call1_call0_v148 : DevRef τ sig).ty.Contents (Elt F) :=
  xori (res_main_call1_call0_v142 V0) (ori (Host.shli (res_main_call1_call0_v141 V0) (broadcastInDim S16777216x2 ![] bcast_S_S16777216x2 (constantI S_ 32 13#32))) (Host.shrui (res_main_call1_call0_v141 V0) (broadcastInDim S16777216x2 ![] bcast_S_S16777216x2 (constantI S_ 32 19#32))))

set_option maxRecDepth 8192 in
/-- `main_call1_call0_v149`'s composed term of the arguments (named: it is used 2 times). -/
def res_main_call1_call0_v149 (V0 : Valuation τ sig (Elt F)) : (Proc.devRef .tc main_call1_call0_v149 : DevRef τ sig).ty.Contents (Elt F) :=
  addi (res_main_call1_call0_v142 V0) (res_main_call1_call0_v148 V0)

set_option maxRecDepth 8192 in
/-- `main_call1_call0_v155`'s composed term of the arguments (named: it is used 3 times). -/
def res_main_call1_call0_v155 (V0 : Valuation τ sig (Elt F)) : (Proc.devRef .tc main_call1_call0_v155 : DevRef τ sig).ty.Contents (Elt F) :=
  xori (res_main_call1_call0_v149 V0) (ori (Host.shli (res_main_call1_call0_v148 V0) (broadcastInDim S16777216x2 ![] bcast_S_S16777216x2 (constantI S_ 32 15#32))) (Host.shrui (res_main_call1_call0_v148 V0) (broadcastInDim S16777216x2 ![] bcast_S_S16777216x2 (constantI S_ 32 17#32))))

set_option maxRecDepth 8192 in
/-- `main_call1_call0_v156`'s composed term of the arguments (named: it is used 2 times). -/
def res_main_call1_call0_v156 (V0 : Valuation τ sig (Elt F)) : (Proc.devRef .tc main_call1_call0_v156 : DevRef τ sig).ty.Contents (Elt F) :=
  addi (res_main_call1_call0_v149 V0) (res_main_call1_call0_v155 V0)

set_option maxRecDepth 8192 in
/-- `main_call1_call0_v162`'s composed term of the arguments (named: it is used 3 times). -/
def res_main_call1_call0_v162 (V0 : Valuation τ sig (Elt F)) : (Proc.devRef .tc main_call1_call0_v162 : DevRef τ sig).ty.Contents (Elt F) :=
  xori (res_main_call1_call0_v156 V0) (ori (Host.shli (res_main_call1_call0_v155 V0) (broadcastInDim S16777216x2 ![] bcast_S_S16777216x2 (constantI S_ 32 26#32))) (Host.shrui (res_main_call1_call0_v155 V0) (broadcastInDim S16777216x2 ![] bcast_S_S16777216x2 (constantI S_ 32 6#32))))

set_option maxRecDepth 8192 in
/-- `main_call1_call0_v163`'s composed term of the arguments (named: it is used 2 times). -/
def res_main_call1_call0_v163 (V0 : Valuation τ sig (Elt F)) : (Proc.devRef .tc main_call1_call0_v163 : DevRef τ sig).ty.Contents (Elt F) :=
  addi (res_main_call1_call0_v156 V0) (res_main_call1_call0_v162 V0)

set_option maxRecDepth 8192 in
/-- `main_v38`'s composed term of the arguments (named: it is used 2 times). -/
def res_main_v38 (V0 : Valuation τ sig (Elt F)) : (Proc.devRef .tc main_v38 : DevRef τ sig).ty.Contents (Elt F) :=
  addf (Host.negf (Host.log (Host.negf (Host.log (maximumf (broadcastInDim S16777216x2 ![] bcast_S_S16777216x2 (constant S_ .f32 0x00800000#32)) (addf (mulf (maximumf (broadcastInDim S16777216x2 ![0, 1] bcast_S1x1_S16777216x2_0_1 (res_main_call1_v2 V0)) (addf (mulf (subf (bitcastToFloat (F := F) .f32 (ori (Host.shrui (xori (addi (res_main_call1_call0_v163 V0) (broadcastInDim S16777216x2 ![] bcast_S_S16777216x2 (res_main_call1_call0_v1 V0))) (addi (addi (xori (res_main_call1_call0_v163 V0) (ori (Host.shli (res_main_call1_call0_v162 V0) (broadcastInDim S16777216x2 ![] bcast_S_S16777216x2 (constantI S_ 32 6#32))) (Host.shrui (res_main_call1_call0_v162 V0) (broadcastInDim S16777216x2 ![] bcast_S_S16777216x2 (constantI S_ 32 26#32))))) (broadcastInDim S16777216x2 ![] bcast_S_S16777216x2 (res_main_call1_v5 V0))) (broadcastInDim S16777216x2 ![] bcast_S_S16777216x2 (constantI S_ 32 5#32)))) (broadcastInDim S16777216x2 ![] bcast_S_S16777216x2 (constantI S_ 32 9#32))) (broadcastInDim S16777216x2 ![] bcast_S_S16777216x2 (constantI S_ 32 1065353216#32)))) (broadcastInDim S16777216x2 ![] bcast_S_S16777216x2 (constant S_ .f32 0x3F800000#32))) (broadcastInDim S16777216x2 ![0, 1] bcast_S1x1_S16777216x2_0_1 (subf (broadcastInDim S1x1 ![] bcast_S_S1x1 (id (constant S_ .f32 0x3F800000#32))) (res_main_call1_v2 V0)))) (broadcastInDim S16777216x2 ![0, 1] bcast_S1x1_S16777216x2_0_1 (res_main_call1_v2 V0)))) (broadcastInDim S16777216x2 ![] bcast_S_S16777216x2 (constant S_ .f32 0x3F800000#32))) (broadcastInDim S16777216x2 ![] bcast_S_S16777216x2 (constant S_ .f32 0x00800000#32)))))))) (Host.log (maximumf (broadcastInDim S16777216x2 ![] bcast_S_S16777216x2 (id (constant S_ .f32 0x0DA24260#32))) (shapeCast _ (Host.dotGeneral dot_S4096x4096x2_S2x2_S4096x4096x2_2_0_01_1_n_n none (V0 (Proc.devRef .tc main_arg0)) (addf (mulf (broadcastInDim S2x2 ![0, 1] bcast_S1x1_S2x2_0_1 (broadcastInDim S1x1 ![1] bcast_S1_S1x1_1 (res_main_v6 V0))) ((fun i => FloatOps.ofBits .f32 (lit1 (S2x2.rowMajor i))))) (mulf (broadcastInDim S2x2 ![0, 1] bcast_S1x1_S2x2_0_1 (broadcastInDim S1x1 ![1] bcast_S1_S1x1_1 (subf (broadcastInDim S1 ![] bcast_S_S1 (constant S_ .f32 0x3F800000#32)) (res_main_v6 V0)))) ((fun i => FloatOps.ofBits .f32 (lit2 (S2x2.rowMajor i))))))) shapeCasts_S4096x4096x2_S16777216x2)))

set_option maxRecDepth 8192 in
/-- `main_call2_v0`'s composed term of the arguments (named: it is used 2 times). -/
def res_main_call2_v0 (V0 : Valuation τ sig (Elt F)) : (Proc.devRef .tc main_call2_v0 : DevRef τ sig).ty.Contents (Elt F) :=
  iotaInDim S16777216x2 32 1

set_option maxRecDepth 8192 in
/-- `main_call2_cst`'s composed term of the arguments (named: it is used 2 times). -/
def res_main_call2_cst (V0 : Valuation τ sig (Elt F)) : (Proc.devRef .tc main_call2_cst : DevRef τ sig).ty.Contents (Elt F) :=
  constant S_ .f32 0xFF800000#32

set_option maxRecDepth 8192 in
/-- `main_call2_c`'s composed term of the arguments (named: it is used 2 times). -/
def res_main_call2_c (V0 : Valuation τ sig (Elt F)) : (Proc.devRef .tc main_call2_c : DevRef τ sig).ty.Contents (Elt F) :=
  constantI S_ 32 0#32

set_option maxRecDepth 8192 in
/-- `main_v40`'s composed term of the arguments (named: it is used 2 times). -/
def res_main_v40 (V0 : Valuation τ sig (Elt F)) : (Proc.devRef .tc main_v40 : DevRef τ sig).ty.Contents (Elt F) :=
  shapeCast _ (fun j => (Host.argReduce reducer_argmax_f32_i32 (res_main_v38 V0) (res_main_call2_v0 V0) (res_main_call2_cst V0) (res_main_call2_c V0) reducesTo_S16777216x2_S16777216_d1 h_S_ j).2) shapeCasts_S16777216_S4096x4096

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl

end Cert.ReferenceIdeal.Value

end
-- ==== Proof.RefWin.lean ====
module

public import proofs.«01_k».proof.Proof.RefOps
public import Idealize.ShloMosaic.Lib.StableHlo.Run
public import Idealize.ShloMosaic.Lib.Pipeline.Frame
/-! The run of the reference program read back: each window of its operations leaves each array that is read later at
    its composed term of the arguments; every execution ends with the three results at their terms and the arguments
    unchanged. -/

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_cst, main_cst_0, main_cst_1, main_c, main_v0, main_v1, main_c_2, main_v2, main_v3, main_v4, main_v5, main_v6, main_v7, main_v8, main_v9, main_cst_3, main_v10, main_v11, main_v12, main_v13, main_v14, main_v15, main_v16, main_v17, main_cst_4, main_call0_v0, main_call0_v1, main_v18, main_v19, main_c_5]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]
     exact List.mem_map_of_mem (by decide))
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
set_option maxRecDepth 8192 in
set_option maxHeartbeats 2000000 in
theorem val0_1_main_v16 (V0 : Valuation τ sig (Elt F)) : val0_1 V0 (no_index (Proc.devRef .tc main_v16)) = Host.dotGeneral dot_S4096x4096x2_S2x2_S4096x4096x2_2_0_01_1_n_n none (V0 (Proc.devRef .tc main_arg0)) (addf (mulf (broadcastInDim S2x2 ![0, 1] bcast_S1x1_S2x2_0_1 (broadcastInDim S1x1 ![1] bcast_S1_S1x1_1 (res_main_v6 V0))) ((fun i => FloatOps.ofBits .f32 (lit1 (S2x2.rowMajor i))))) (mulf (broadcastInDim S2x2 ![0, 1] bcast_S1x1_S2x2_0_1 (broadcastInDim S1x1 ![1] bcast_S1_S1x1_1 (subf (broadcastInDim S1 ![] bcast_S_S1 (constant S_ .f32 0x3F800000#32)) (res_main_v6 V0)))) ((fun i => FloatOps.ofBits .f32 (lit2 (S2x2.rowMajor i)))))) := by
  unfold val0_1
  simp only [ops_part0_0, TRef.binary, TRef.unary, TRef.toBuf, TRef.ofBuf, cast_eq]
  after_results_simp
  simp only [val0_main_arg1, val0_main_arg0] <;> rfl
set_option maxRecDepth 8192 in
set_option maxHeartbeats 2000000 in
theorem val0_1_main_v19 (V0 : Valuation τ sig (Elt F)) : val0_1 V0 (no_index (Proc.devRef .tc main_v19)) = Host.log (maximumf (broadcastInDim S16777216x2 ![] bcast_S_S16777216x2 (id (constant S_ .f32 0x0DA24260#32))) (shapeCast _ (Host.dotGeneral dot_S4096x4096x2_S2x2_S4096x4096x2_2_0_01_1_n_n none (V0 (Proc.devRef .tc main_arg0)) (addf (mulf (broadcastInDim S2x2 ![0, 1] bcast_S1x1_S2x2_0_1 (broadcastInDim S1x1 ![1] bcast_S1_S1x1_1 (res_main_v6 V0))) ((fun i => FloatOps.ofBits .f32 (lit1 (S2x2.rowMajor i))))) (mulf (broadcastInDim S2x2 ![0, 1] bcast_S1x1_S2x2_0_1 (broadcastInDim S1x1 ![1] bcast_S1_S1x1_1 (subf (broadcastInDim S1 ![] bcast_S_S1 (constant S_ .f32 0x3F800000#32)) (res_main_v6 V0)))) ((fun i => FloatOps.ofBits .f32 (lit2 (S2x2.rowMajor i))))))) shapeCasts_S4096x4096x2_S16777216x2)) := by
  unfold val0_1
  simp only [ops_part0_0, TRef.binary, TRef.unary, TRef.toBuf, TRef.ofBuf, cast_eq]
  after_results_simp
  simp only [val0_main_arg1, val0_main_arg0] <;> rfl
set_option maxRecDepth 8192 in
set_option maxHeartbeats 2000000 in
theorem val0_1_main_c_5 (V0 : Valuation τ sig (Elt F)) : val0_1 V0 (no_index (Proc.devRef .tc main_c_5)) = res_main_c_5 V0 := by
  unfold val0_1
  simp only [ops_part0_0, TRef.binary, TRef.unary, TRef.toBuf, TRef.ofBuf, cast_eq]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_c_6, main_v20, main_v21, main_v22, main_c_7, main_v23, main_v24, main_v25, main_v26, main_cst_8, main_cst_9, main_call1_v0, main_call1_v1, main_call1_v2, main_call1_v3, main_call1_v4, main_call1_v5, main_call1_v6, main_call1_v7, main_call1_v8, main_call1_v9, main_call1_c, main_call1_v10, main_call1_v11, main_call1_c_0, main_call1_v12, main_call1_v13, main_call1_v14, main_call1_c_1, main_call1_v15]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]
     exact List.mem_map_of_mem (by decide))
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_v16 (V0 : Valuation τ sig (Elt F)) : val0_2 V0 (no_index (Proc.devRef .tc main_v16)) = Host.dotGeneral dot_S4096x4096x2_S2x2_S4096x4096x2_2_0_01_1_n_n none (V0 (Proc.devRef .tc main_arg0)) (addf (mulf (broadcastInDim S2x2 ![0, 1] bcast_S1x1_S2x2_0_1 (broadcastInDim S1x1 ![1] bcast_S1_S1x1_1 (res_main_v6 V0))) ((fun i => FloatOps.ofBits .f32 (lit1 (S2x2.rowMajor i))))) (mulf (broadcastInDim S2x2 ![0, 1] bcast_S1x1_S2x2_0_1 (broadcastInDim S1x1 ![1] bcast_S1_S1x1_1 (subf (broadcastInDim S1 ![] bcast_S_S1 (constant S_ .f32 0x3F800000#32)) (res_main_v6 V0)))) ((fun i => FloatOps.ofBits .f32 (lit2 (S2x2.rowMajor i)))))) :=
  (val0_2_keep V0 main_v16 (by decide)).trans (val0_1_main_v16 V0)
theorem val0_2_main_v19 (V0 : Valuation τ sig (Elt F)) : val0_2 V0 (no_index (Proc.devRef .tc main_v19)) = Host.log (maximumf (broadcastInDim S16777216x2 ![] bcast_S_S16777216x2 (id (constant S_ .f32 0x0DA24260#32))) (shapeCast _ (Host.dotGeneral dot_S4096x4096x2_S2x2_S4096x4096x2_2_0_01_1_n_n none (V0 (Proc.devRef .tc main_arg0)) (addf (mulf (broadcastInDim S2x2 ![0, 1] bcast_S1x1_S2x2_0_1 (broadcastInDim S1x1 ![1] bcast_S1_S1x1_1 (res_main_v6 V0))) ((fun i => FloatOps.ofBits .f32 (lit1 (S2x2.rowMajor i))))) (mulf (broadcastInDim S2x2 ![0, 1] bcast_S1x1_S2x2_0_1 (broadcastInDim S1x1 ![1] bcast_S1_S1x1_1 (subf (broadcastInDim S1 ![] bcast_S_S1 (constant S_ .f32 0x3F800000#32)) (res_main_v6 V0)))) ((fun i => FloatOps.ofBits .f32 (lit2 (S2x2.rowMajor i))))))) shapeCasts_S4096x4096x2_S16777216x2)) :=
  (val0_2_keep V0 main_v19 (by decide)).trans (val0_1_main_v19 V0)
set_option maxRecDepth 8192 in
set_option maxHeartbeats 2000000 in
theorem val0_2_main_call1_v2 (V0 : Valuation τ sig (Elt F)) : val0_2 V0 (no_index (Proc.devRef .tc main_call1_v2)) = res_main_call1_v2 V0 := by
  unfold val0_2
  simp only [ops_part0_1, TRef.binary, TRef.nullary, TRef.reshape, TRef.unary, TRef.toBuf, TRef.ofBuf, cast_eq]
  after_results_simp
  all_goals rfl
set_option maxRecDepth 8192 in
set_option maxHeartbeats 2000000 in
theorem val0_2_main_call1_v3 (V0 : Valuation τ sig (Elt F)) : val0_2 V0 (no_index (Proc.devRef .tc main_call1_v3)) = broadcastInDim S1x1 ![] bcast_S_S1x1 (id (constant S_ .f32 0x3F800000#32)) := by
  unfold val0_2
  simp only [ops_part0_1, TRef.binary, TRef.nullary, TRef.reshape, TRef.unary, TRef.toBuf, TRef.ofBuf, cast_eq]
  after_results_simp
  all_goals rfl
set_option maxRecDepth 8192 in
set_option maxHeartbeats 2000000 in
theorem val0_2_main_call1_v5 (V0 : Valuation τ sig (Elt F)) : val0_2 V0 (no_index (Proc.devRef .tc main_call1_v5)) = res_main_call1_v5 V0 := by
  unfold val0_2
  simp only [ops_part0_1, TRef.binary, TRef.nullary, TRef.reshape, TRef.unary, TRef.toBuf, TRef.ofBuf, cast_eq]
  after_results_simp
  simp only [val0_1_main_c_5] <;> rfl
set_option maxRecDepth 8192 in
set_option maxHeartbeats 2000000 in
theorem val0_2_main_call1_v7 (V0 : Valuation τ sig (Elt F)) : val0_2 V0 (no_index (Proc.devRef .tc main_call1_v7)) = res_main_call1_v7 V0 := by
  unfold val0_2
  simp only [ops_part0_1, TRef.binary, TRef.nullary, TRef.reshape, TRef.unary, TRef.toBuf, TRef.ofBuf, cast_eq]
  after_results_simp
  simp only [val0_1_main_c_5] <;> rfl
set_option maxRecDepth 8192 in
set_option maxHeartbeats 2000000 in
theorem val0_2_main_call1_v14 (V0 : Valuation τ sig (Elt F)) : val0_2 V0 (no_index (Proc.devRef .tc main_call1_v14)) = res_main_call1_v14 V0 := by
  unfold val0_2
  simp only [ops_part0_1, TRef.binary, TRef.nullary, TRef.reshape, TRef.unary, TRef.toBuf, TRef.ofBuf, cast_eq]
  after_results_simp
  all_goals rfl
set_option maxRecDepth 8192 in
set_option maxHeartbeats 2000000 in
theorem val0_2_main_call1_v15 (V0 : Valuation τ sig (Elt F)) : val0_2 V0 (no_index (Proc.devRef .tc main_call1_v15)) = broadcastInDim S16777216x2 ![] bcast_S_S16777216x2 (constantI S_ 64 32#64) := by
  unfold val0_2
  simp only [ops_part0_1, TRef.binary, TRef.nullary, TRef.reshape, TRef.unary, TRef.toBuf, TRef.ofBuf, cast_eq]
  after_results_simp
  all_goals rfl

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_call1_v16, main_call1_v17, main_call1_v18, main_call1_call0_v0, main_call1_call0_c, main_call1_call0_v1, main_call1_call0_v2, main_call1_call0_v3, main_call1_call0_v4, main_call1_call0_v5, main_call1_call0_v6, main_call1_call0_c_0, main_call1_call0_v7, main_call1_call0_v8, main_call1_call0_c_1, main_call1_call0_v9, main_call1_call0_v10, main_call1_call0_v11, main_call1_call0_v12, main_call1_call0_v13, main_call1_call0_c_2, main_call1_call0_v14, main_call1_call0_v15, main_call1_call0_c_3, main_call1_call0_v16, main_call1_call0_v17, main_call1_call0_v18, main_call1_call0_v19, main_call1_call0_v20, main_call1_call0_c_4]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]
     exact List.mem_map_of_mem (by decide))
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
theorem val0_3_main_arg1 (V0 : Valuation τ sig (Elt F)) : val0_3 V0 (no_index (Proc.devRef .tc main_arg1)) = V0 (Proc.devRef .tc main_arg1) :=
  (val0_3_keep V0 main_arg1 (by decide)).trans (val0_2_main_arg1 V0)
theorem val0_3_main_v16 (V0 : Valuation τ sig (Elt F)) : val0_3 V0 (no_index (Proc.devRef .tc main_v16)) = Host.dotGeneral dot_S4096x4096x2_S2x2_S4096x4096x2_2_0_01_1_n_n none (V0 (Proc.devRef .tc main_arg0)) (addf (mulf (broadcastInDim S2x2 ![0, 1] bcast_S1x1_S2x2_0_1 (broadcastInDim S1x1 ![1] bcast_S1_S1x1_1 (res_main_v6 V0))) ((fun i => FloatOps.ofBits .f32 (lit1 (S2x2.rowMajor i))))) (mulf (broadcastInDim S2x2 ![0, 1] bcast_S1x1_S2x2_0_1 (broadcastInDim S1x1 ![1] bcast_S1_S1x1_1 (subf (broadcastInDim S1 ![] bcast_S_S1 (constant S_ .f32 0x3F800000#32)) (res_main_v6 V0)))) ((fun i => FloatOps.ofBits .f32 (lit2 (S2x2.rowMajor i)))))) :=
  (val0_3_keep V0 main_v16 (by decide)).trans (val0_2_main_v16 V0)
theorem val0_3_main_v19 (V0 : Valuation τ sig (Elt F)) : val0_3 V0 (no_index (Proc.devRef .tc main_v19)) = Host.log (maximumf (broadcastInDim S16777216x2 ![] bcast_S_S16777216x2 (id (constant S_ .f32 0x0DA24260#32))) (shapeCast _ (Host.dotGeneral dot_S4096x4096x2_S2x2_S4096x4096x2_2_0_01_1_n_n none (V0 (Proc.devRef .tc main_arg0)) (addf (mulf (broadcastInDim S2x2 ![0, 1] bcast_S1x1_S2x2_0_1 (broadcastInDim S1x1 ![1] bcast_S1_S1x1_1 (res_main_v6 V0))) ((fun i => FloatOps.ofBits .f32 (lit1 (S2x2.rowMajor i))))) (mulf (broadcastInDim S2x2 ![0, 1] bcast_S1x1_S2x2_0_1 (broadcastInDim S1x1 ![1] bcast_S1_S1x1_1 (subf (broadcastInDim S1 ![] bcast_S_S1 (constant S_ .f32 0x3F800000#32)) (res_main_v6 V0)))) ((fun i => FloatOps.ofBits .f32 (lit2 (S2x2.rowMajor i))))))) shapeCasts_S4096x4096x2_S16777216x2)) :=
  (val0_3_keep V0 main_v19 (by decide)).trans (val0_2_main_v19 V0)
theorem val0_3_main_call1_v2 (V0 : Valuation τ sig (Elt F)) : val0_3 V0 (no_index (Proc.devRef .tc main_call1_v2)) = res_main_call1_v2 V0 :=
  (val0_3_keep V0 main_call1_v2 (by decide)).trans (val0_2_main_call1_v2 V0)
theorem val0_3_main_call1_v3 (V0 : Valuation τ sig (Elt F)) : val0_3 V0 (no_index (Proc.devRef .tc main_call1_v3)) = broadcastInDim S1x1 ![] bcast_S_S1x1 (id (constant S_ .f32 0x3F800000#32)) :=
  (val0_3_keep V0 main_call1_v3 (by decide)).trans (val0_2_main_call1_v3 V0)
theorem val0_3_main_call1_v5 (V0 : Valuation τ sig (Elt F)) : val0_3 V0 (no_index (Proc.devRef .tc main_call1_v5)) = res_main_call1_v5 V0 :=
  (val0_3_keep V0 main_call1_v5 (by decide)).trans (val0_2_main_call1_v5 V0)
theorem val0_3_main_call1_v7 (V0 : Valuation τ sig (Elt F)) : val0_3 V0 (no_index (Proc.devRef .tc main_call1_v7)) = res_main_call1_v7 V0 :=
  (val0_3_keep V0 main_call1_v7 (by decide)).trans (val0_2_main_call1_v7 V0)
set_option maxRecDepth 8192 in
set_option maxHeartbeats 2000000 in
theorem val0_3_main_call1_call0_v1 (V0 : Valuation τ sig (Elt F)) : val0_3 V0 (no_index (Proc.devRef .tc main_call1_call0_v1)) = res_main_call1_call0_v1 V0 := by
  unfold val0_3
  simp only [ops_part0_2, TRef.binary, TRef.nullary, TRef.unary, TRef.toBuf, TRef.ofBuf, cast_eq]
  after_results_simp
  simp only [val0_2_main_call1_v7, val0_2_main_call1_v5] <;> rfl
set_option maxRecDepth 8192 in
set_option maxHeartbeats 2000000 in
theorem val0_3_main_call1_call0_v19 (V0 : Valuation τ sig (Elt F)) : val0_3 V0 (no_index (Proc.devRef .tc main_call1_call0_v19)) = res_main_call1_call0_v19 V0 := by
  unfold val0_3
  simp only [ops_part0_2, TRef.binary, TRef.nullary, TRef.unary, TRef.toBuf, TRef.ofBuf, cast_eq]
  after_results_simp
  simp only [val0_2_main_call1_v7, val0_2_main_call1_v14, val0_2_main_call1_v5, val0_2_main_call1_v15] <;> rfl
set_option maxRecDepth 8192 in
set_option maxHeartbeats 2000000 in
theorem val0_3_main_call1_call0_v20 (V0 : Valuation τ sig (Elt F)) : val0_3 V0 (no_index (Proc.devRef .tc main_call1_call0_v20)) = res_main_call1_call0_v20 V0 := by
  unfold val0_3
  simp only [ops_part0_2, TRef.binary, TRef.nullary, TRef.unary, TRef.toBuf, TRef.ofBuf, cast_eq]
  after_results_simp
  simp only [val0_2_main_call1_v7, val0_2_main_call1_v14, val0_2_main_call1_v5, val0_2_main_call1_v15] <;> rfl
set_option maxRecDepth 8192 in
set_option maxHeartbeats 2000000 in
theorem val0_3_main_call1_call0_c_4 (V0 : Valuation τ sig (Elt F)) : val0_3 V0 (no_index (Proc.devRef .tc main_call1_call0_c_4)) = constantI S_ 32 26#32 := by
  unfold val0_3
  simp only [ops_part0_2, TRef.binary, TRef.nullary, TRef.unary, TRef.toBuf, TRef.ofBuf, cast_eq]
  after_results_simp
  all_goals rfl

/-- The device's buffer contents after @main's first 120 operations. -/
def val0_4 (V0 : Valuation τ sig (Elt F)) : Valuation τ sig (Elt F) := after ops_part0_3 (val0_3 V0)
/-- The buffers that window `ops_part0_3`'s operations write. -/
abbrev ops_part0_3_W : List (Ref sig .tc) := [main_call1_call0_v21, main_call1_call0_v22, main_call1_call0_c_5, main_call1_call0_v23, main_call1_call0_v24, main_call1_call0_v25, main_call1_call0_v26, main_call1_call0_v27, main_call1_call0_c_6, main_call1_call0_v28, main_call1_call0_v29, main_call1_call0_c_7, main_call1_call0_v30, main_call1_call0_v31, main_call1_call0_v32, main_call1_call0_v33, main_call1_call0_v34, main_call1_call0_v35, main_call1_call0_v36, main_call1_call0_v37, main_call1_call0_c_8, main_call1_call0_v38, main_call1_call0_v39, main_call1_call0_v40, main_call1_call0_c_9, main_call1_call0_v41, main_call1_call0_v42, main_call1_call0_c_10, main_call1_call0_v43, main_call1_call0_v44]
set_option maxRecDepth 8192 in
theorem ops_part0_3_writes : (ops_part0_3 : List (HloOp τ sig (Elt F))).Forall fun op => op.writes ⊆ (ops_part0_3_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]
     exact List.mem_map_of_mem (by decide))
/-- A buffer that window `ops_part0_3` does not write keeps its contents through it. -/
theorem val0_4_keep (V0 : Valuation τ sig (Elt F)) (r : Ref sig .tc) (h : r ∉ ops_part0_3_W) :
    val0_4 V0 (Proc.devRef .tc r) = val0_3 V0 (Proc.devRef .tc r) :=
  after_of_writes_sub ops_part0_3 _ ops_part0_3_writes h
theorem val0_4_main_arg0 (V0 : Valuation τ sig (Elt F)) : val0_4 V0 (no_index (Proc.devRef .tc main_arg0)) = V0 (Proc.devRef .tc main_arg0) :=
  (val0_4_keep V0 main_arg0 (by decide)).trans (val0_3_main_arg0 V0)
theorem val0_4_main_arg1 (V0 : Valuation τ sig (Elt F)) : val0_4 V0 (no_index (Proc.devRef .tc main_arg1)) = V0 (Proc.devRef .tc main_arg1) :=
  (val0_4_keep V0 main_arg1 (by decide)).trans (val0_3_main_arg1 V0)
theorem val0_4_main_v16 (V0 : Valuation τ sig (Elt F)) : val0_4 V0 (no_index (Proc.devRef .tc main_v16)) = Host.dotGeneral dot_S4096x4096x2_S2x2_S4096x4096x2_2_0_01_1_n_n none (V0 (Proc.devRef .tc main_arg0)) (addf (mulf (broadcastInDim S2x2 ![0, 1] bcast_S1x1_S2x2_0_1 (broadcastInDim S1x1 ![1] bcast_S1_S1x1_1 (res_main_v6 V0))) ((fun i => FloatOps.ofBits .f32 (lit1 (S2x2.rowMajor i))))) (mulf (broadcastInDim S2x2 ![0, 1] bcast_S1x1_S2x2_0_1 (broadcastInDim S1x1 ![1] bcast_S1_S1x1_1 (subf (broadcastInDim S1 ![] bcast_S_S1 (constant S_ .f32 0x3F800000#32)) (res_main_v6 V0)))) ((fun i => FloatOps.ofBits .f32 (lit2 (S2x2.rowMajor i)))))) :=
  (val0_4_keep V0 main_v16 (by decide)).trans (val0_3_main_v16 V0)
theorem val0_4_main_v19 (V0 : Valuation τ sig (Elt F)) : val0_4 V0 (no_index (Proc.devRef .tc main_v19)) = Host.log (maximumf (broadcastInDim S16777216x2 ![] bcast_S_S16777216x2 (id (constant S_ .f32 0x0DA24260#32))) (shapeCast _ (Host.dotGeneral dot_S4096x4096x2_S2x2_S4096x4096x2_2_0_01_1_n_n none (V0 (Proc.devRef .tc main_arg0)) (addf (mulf (broadcastInDim S2x2 ![0, 1] bcast_S1x1_S2x2_0_1 (broadcastInDim S1x1 ![1] bcast_S1_S1x1_1 (res_main_v6 V0))) ((fun i => FloatOps.ofBits .f32 (lit1 (S2x2.rowMajor i))))) (mulf (broadcastInDim S2x2 ![0, 1] bcast_S1x1_S2x2_0_1 (broadcastInDim S1x1 ![1] bcast_S1_S1x1_1 (subf (broadcastInDim S1 ![] bcast_S_S1 (constant S_ .f32 0x3F800000#32)) (res_main_v6 V0)))) ((fun i => FloatOps.ofBits .f32 (lit2 (S2x2.rowMajor i))))))) shapeCasts_S4096x4096x2_S16777216x2)) :=
  (val0_4_keep V0 main_v19 (by decide)).trans (val0_3_main_v19 V0)
theorem val0_4_main_call1_v2 (V0 : Valuation τ sig (Elt F)) : val0_4 V0 (no_index (Proc.devRef .tc main_call1_v2)) = res_main_call1_v2 V0 :=
  (val0_4_keep V0 main_call1_v2 (by decide)).trans (val0_3_main_call1_v2 V0)
theorem val0_4_main_call1_v3 (V0 : Valuation τ sig (Elt F)) : val0_4 V0 (no_index (Proc.devRef .tc main_call1_v3)) = broadcastInDim S1x1 ![] bcast_S_S1x1 (id (constant S_ .f32 0x3F800000#32)) :=
  (val0_4_keep V0 main_call1_v3 (by decide)).trans (val0_3_main_call1_v3 V0)
theorem val0_4_main_call1_v5 (V0 : Valuation τ sig (Elt F)) : val0_4 V0 (no_index (Proc.devRef .tc main_call1_v5)) = res_main_call1_v5 V0 :=
  (val0_4_keep V0 main_call1_v5 (by decide)).trans (val0_3_main_call1_v5 V0)
theorem val0_4_main_call1_v7 (V0 : Valuation τ sig (Elt F)) : val0_4 V0 (no_index (Proc.devRef .tc main_call1_v7)) = res_main_call1_v7 V0 :=
  (val0_4_keep V0 main_call1_v7 (by decide)).trans (val0_3_main_call1_v7 V0)
theorem val0_4_main_call1_call0_v1 (V0 : Valuation τ sig (Elt F)) : val0_4 V0 (no_index (Proc.devRef .tc main_call1_call0_v1)) = res_main_call1_call0_v1 V0 :=
  (val0_4_keep V0 main_call1_call0_v1 (by decide)).trans (val0_3_main_call1_call0_v1 V0)
set_option maxRecDepth 8192 in
set_option maxHeartbeats 2000000 in
theorem val0_4_main_call1_call0_v40 (V0 : Valuation τ sig (Elt F)) : val0_4 V0 (no_index (Proc.devRef .tc main_call1_call0_v40)) = res_main_call1_call0_v40 V0 := by
  unfold val0_4
  simp only [ops_part0_3, TRef.binary, TRef.nullary, TRef.unary, TRef.toBuf, TRef.ofBuf, cast_eq]
  after_results_simp
  simp only [val0_3_main_call1_call0_v1, val0_3_main_call1_call0_v19, val0_3_main_call1_call0_c_4, val0_3_main_call1_call0_v20, val0_3_main_call1_v7] <;> rfl
set_option maxRecDepth 8192 in
set_option maxHeartbeats 2000000 in
theorem val0_4_main_call1_call0_v42 (V0 : Valuation τ sig (Elt F)) : val0_4 V0 (no_index (Proc.devRef .tc main_call1_call0_v42)) = Host.shli (res_main_call1_call0_v39 V0) (broadcastInDim S16777216x2 ![] bcast_S_S16777216x2 (constantI S_ 32 17#32)) := by
  unfold val0_4
  simp only [ops_part0_3, TRef.binary, TRef.nullary, TRef.unary, TRef.toBuf, TRef.ofBuf, cast_eq]
  after_results_simp
  simp only [val0_3_main_call1_call0_v1, val0_3_main_call1_call0_v19, val0_3_main_call1_call0_c_4, val0_3_main_call1_call0_v20] <;> rfl
set_option maxRecDepth 8192 in
set_option maxHeartbeats 2000000 in
theorem val0_4_main_call1_call0_v44 (V0 : Valuation τ sig (Elt F)) : val0_4 V0 (no_index (Proc.devRef .tc main_call1_call0_v44)) = Host.shrui (res_main_call1_call0_v39 V0) (broadcastInDim S16777216x2 ![] bcast_S_S16777216x2 (constantI S_ 32 15#32)) := by
  unfold val0_4
  simp only [ops_part0_3, TRef.binary, TRef.nullary, TRef.unary, TRef.toBuf, TRef.ofBuf, cast_eq]
  after_results_simp
  simp only [val0_3_main_call1_call0_v1, val0_3_main_call1_call0_v19, val0_3_main_call1_call0_c_4, val0_3_main_call1_call0_v20] <;> rfl

/-- The device's buffer contents after @main's first 150 operations. -/
def val0_5 (V0 : Valuation τ sig (Elt F)) : Valuation τ sig (Elt F) := after ops_part0_4 (val0_4 V0)
/-- The buffers that window `ops_part0_4`'s operations write. -/
abbrev ops_part0_4_W : List (Ref sig .tc) := [main_call1_call0_v45, main_call1_call0_v46, main_call1_call0_v47, main_call1_call0_c_11, main_call1_call0_v48, main_call1_call0_v49, main_call1_call0_c_12, main_call1_call0_v50, main_call1_call0_v51, main_call1_call0_v52, main_call1_call0_v53, main_call1_call0_v54, main_call1_call0_c_13, main_call1_call0_v55, main_call1_call0_v56, main_call1_call0_c_14, main_call1_call0_v57, main_call1_call0_v58, main_call1_call0_v59, main_call1_call0_v60, main_call1_call0_v61, main_call1_call0_c_15, main_call1_call0_v62, main_call1_call0_v63, main_call1_call0_c_16, main_call1_call0_v64, main_call1_call0_v65, main_call1_call0_v66, main_call1_call0_v67, main_call1_call0_v68]
set_option maxRecDepth 8192 in
theorem ops_part0_4_writes : (ops_part0_4 : List (HloOp τ sig (Elt F))).Forall fun op => op.writes ⊆ (ops_part0_4_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]
     exact List.mem_map_of_mem (by decide))
/-- A buffer that window `ops_part0_4` does not write keeps its contents through it. -/
theorem val0_5_keep (V0 : Valuation τ sig (Elt F)) (r : Ref sig .tc) (h : r ∉ ops_part0_4_W) :
    val0_5 V0 (Proc.devRef .tc r) = val0_4 V0 (Proc.devRef .tc r) :=
  after_of_writes_sub ops_part0_4 _ ops_part0_4_writes h
theorem val0_5_main_arg0 (V0 : Valuation τ sig (Elt F)) : val0_5 V0 (no_index (Proc.devRef .tc main_arg0)) = V0 (Proc.devRef .tc main_arg0) :=
  (val0_5_keep V0 main_arg0 (by decide)).trans (val0_4_main_arg0 V0)
theorem val0_5_main_arg1 (V0 : Valuation τ sig (Elt F)) : val0_5 V0 (no_index (Proc.devRef .tc main_arg1)) = V0 (Proc.devRef .tc main_arg1) :=
  (val0_5_keep V0 main_arg1 (by decide)).trans (val0_4_main_arg1 V0)
theorem val0_5_main_v16 (V0 : Valuation τ sig (Elt F)) : val0_5 V0 (no_index (Proc.devRef .tc main_v16)) = Host.dotGeneral dot_S4096x4096x2_S2x2_S4096x4096x2_2_0_01_1_n_n none (V0 (Proc.devRef .tc main_arg0)) (addf (mulf (broadcastInDim S2x2 ![0, 1] bcast_S1x1_S2x2_0_1 (broadcastInDim S1x1 ![1] bcast_S1_S1x1_1 (res_main_v6 V0))) ((fun i => FloatOps.ofBits .f32 (lit1 (S2x2.rowMajor i))))) (mulf (broadcastInDim S2x2 ![0, 1] bcast_S1x1_S2x2_0_1 (broadcastInDim S1x1 ![1] bcast_S1_S1x1_1 (subf (broadcastInDim S1 ![] bcast_S_S1 (constant S_ .f32 0x3F800000#32)) (res_main_v6 V0)))) ((fun i => FloatOps.ofBits .f32 (lit2 (S2x2.rowMajor i)))))) :=
  (val0_5_keep V0 main_v16 (by decide)).trans (val0_4_main_v16 V0)
theorem val0_5_main_v19 (V0 : Valuation τ sig (Elt F)) : val0_5 V0 (no_index (Proc.devRef .tc main_v19)) = Host.log (maximumf (broadcastInDim S16777216x2 ![] bcast_S_S16777216x2 (id (constant S_ .f32 0x0DA24260#32))) (shapeCast _ (Host.dotGeneral dot_S4096x4096x2_S2x2_S4096x4096x2_2_0_01_1_n_n none (V0 (Proc.devRef .tc main_arg0)) (addf (mulf (broadcastInDim S2x2 ![0, 1] bcast_S1x1_S2x2_0_1 (broadcastInDim S1x1 ![1] bcast_S1_S1x1_1 (res_main_v6 V0))) ((fun i => FloatOps.ofBits .f32 (lit1 (S2x2.rowMajor i))))) (mulf (broadcastInDim S2x2 ![0, 1] bcast_S1x1_S2x2_0_1 (broadcastInDim S1x1 ![1] bcast_S1_S1x1_1 (subf (broadcastInDim S1 ![] bcast_S_S1 (constant S_ .f32 0x3F800000#32)) (res_main_v6 V0)))) ((fun i => FloatOps.ofBits .f32 (lit2 (S2x2.rowMajor i))))))) shapeCasts_S4096x4096x2_S16777216x2)) :=
  (val0_5_keep V0 main_v19 (by decide)).trans (val0_4_main_v19 V0)
theorem val0_5_main_call1_v2 (V0 : Valuation τ sig (Elt F)) : val0_5 V0 (no_index (Proc.devRef .tc main_call1_v2)) = res_main_call1_v2 V0 :=
  (val0_5_keep V0 main_call1_v2 (by decide)).trans (val0_4_main_call1_v2 V0)
theorem val0_5_main_call1_v3 (V0 : Valuation τ sig (Elt F)) : val0_5 V0 (no_index (Proc.devRef .tc main_call1_v3)) = broadcastInDim S1x1 ![] bcast_S_S1x1 (id (constant S_ .f32 0x3F800000#32)) :=
  (val0_5_keep V0 main_call1_v3 (by decide)).trans (val0_4_main_call1_v3 V0)
theorem val0_5_main_call1_v5 (V0 : Valuation τ sig (Elt F)) : val0_5 V0 (no_index (Proc.devRef .tc main_call1_v5)) = res_main_call1_v5 V0 :=
  (val0_5_keep V0 main_call1_v5 (by decide)).trans (val0_4_main_call1_v5 V0)
theorem val0_5_main_call1_v7 (V0 : Valuation τ sig (Elt F)) : val0_5 V0 (no_index (Proc.devRef .tc main_call1_v7)) = res_main_call1_v7 V0 :=
  (val0_5_keep V0 main_call1_v7 (by decide)).trans (val0_4_main_call1_v7 V0)
theorem val0_5_main_call1_call0_v1 (V0 : Valuation τ sig (Elt F)) : val0_5 V0 (no_index (Proc.devRef .tc main_call1_call0_v1)) = res_main_call1_call0_v1 V0 :=
  (val0_5_keep V0 main_call1_call0_v1 (by decide)).trans (val0_4_main_call1_call0_v1 V0)
set_option maxRecDepth 8192 in
set_option maxHeartbeats 2000000 in
theorem val0_5_main_call1_call0_v61 (V0 : Valuation τ sig (Elt F)) : val0_5 V0 (no_index (Proc.devRef .tc main_call1_call0_v61)) = res_main_call1_call0_v61 V0 := by
  unfold val0_5
  simp only [ops_part0_4, TRef.binary, TRef.nullary, TRef.unary, TRef.toBuf, TRef.ofBuf, cast_eq]
  after_results_simp
  simp only [val0_4_main_call1_call0_v44, val0_4_main_call1_call0_v42, val0_4_main_call1_call0_v40] <;> rfl
set_option maxRecDepth 8192 in
set_option maxHeartbeats 2000000 in
theorem val0_5_main_call1_call0_v67 (V0 : Valuation τ sig (Elt F)) : val0_5 V0 (no_index (Proc.devRef .tc main_call1_call0_v67)) = xori (res_main_call1_call0_v61 V0) (ori (Host.shli (res_main_call1_call0_v60 V0) (broadcastInDim S16777216x2 ![] bcast_S_S16777216x2 (constantI S_ 32 24#32))) (Host.shrui (res_main_call1_call0_v60 V0) (broadcastInDim S16777216x2 ![] bcast_S_S16777216x2 (constantI S_ 32 8#32)))) := by
  unfold val0_5
  simp only [ops_part0_4, TRef.binary, TRef.nullary, TRef.unary, TRef.toBuf, TRef.ofBuf, cast_eq]
  after_results_simp
  simp only [val0_4_main_call1_call0_v44, val0_4_main_call1_call0_v42, val0_4_main_call1_call0_v40] <;> rfl
set_option maxRecDepth 8192 in
set_option maxHeartbeats 2000000 in
theorem val0_5_main_call1_call0_v68 (V0 : Valuation τ sig (Elt F)) : val0_5 V0 (no_index (Proc.devRef .tc main_call1_call0_v68)) = broadcastInDim S16777216x2 ![] bcast_S_S16777216x2 (res_main_call1_call0_v1 V0) := by
  unfold val0_5
  simp only [ops_part0_4, TRef.binary, TRef.nullary, TRef.unary, TRef.toBuf, TRef.ofBuf, cast_eq]
  after_results_simp
  simp only [val0_4_main_call1_call0_v1] <;> rfl

/-- The device's buffer contents after @main's first 180 operations. -/
def val0_6 (V0 : Valuation τ sig (Elt F)) : Valuation τ sig (Elt F) := after ops_part0_5 (val0_5 V0)
/-- The buffers that window `ops_part0_5`'s operations write. -/
abbrev ops_part0_5_W : List (Ref sig .tc) := [main_call1_call0_v69, main_call1_call0_v70, main_call1_call0_v71, main_call1_call0_c_17, main_call1_call0_v72, main_call1_call0_v73, main_call1_call0_v74, main_call1_call0_c_18, main_call1_call0_v75, main_call1_call0_v76, main_call1_call0_c_19, main_call1_call0_v77, main_call1_call0_v78, main_call1_call0_v79, main_call1_call0_v80, main_call1_call0_v81, main_call1_call0_c_20, main_call1_call0_v82, main_call1_call0_v83, main_call1_call0_c_21, main_call1_call0_v84, main_call1_call0_v85, main_call1_call0_v86, main_call1_call0_v87, main_call1_call0_v88, main_call1_call0_c_22, main_call1_call0_v89, main_call1_call0_v90, main_call1_call0_c_23, main_call1_call0_v91]
set_option maxRecDepth 8192 in
theorem ops_part0_5_writes : (ops_part0_5 : List (HloOp τ sig (Elt F))).Forall fun op => op.writes ⊆ (ops_part0_5_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]
     exact List.mem_map_of_mem (by decide))
/-- A buffer that window `ops_part0_5` does not write keeps its contents through it. -/
theorem val0_6_keep (V0 : Valuation τ sig (Elt F)) (r : Ref sig .tc) (h : r ∉ ops_part0_5_W) :
    val0_6 V0 (Proc.devRef .tc r) = val0_5 V0 (Proc.devRef .tc r) :=
  after_of_writes_sub ops_part0_5 _ ops_part0_5_writes h
theorem val0_6_main_arg0 (V0 : Valuation τ sig (Elt F)) : val0_6 V0 (no_index (Proc.devRef .tc main_arg0)) = V0 (Proc.devRef .tc main_arg0) :=
  (val0_6_keep V0 main_arg0 (by decide)).trans (val0_5_main_arg0 V0)
theorem val0_6_main_arg1 (V0 : Valuation τ sig (Elt F)) : val0_6 V0 (no_index (Proc.devRef .tc main_arg1)) = V0 (Proc.devRef .tc main_arg1) :=
  (val0_6_keep V0 main_arg1 (by decide)).trans (val0_5_main_arg1 V0)
theorem val0_6_main_v16 (V0 : Valuation τ sig (Elt F)) : val0_6 V0 (no_index (Proc.devRef .tc main_v16)) = Host.dotGeneral dot_S4096x4096x2_S2x2_S4096x4096x2_2_0_01_1_n_n none (V0 (Proc.devRef .tc main_arg0)) (addf (mulf (broadcastInDim S2x2 ![0, 1] bcast_S1x1_S2x2_0_1 (broadcastInDim S1x1 ![1] bcast_S1_S1x1_1 (res_main_v6 V0))) ((fun i => FloatOps.ofBits .f32 (lit1 (S2x2.rowMajor i))))) (mulf (broadcastInDim S2x2 ![0, 1] bcast_S1x1_S2x2_0_1 (broadcastInDim S1x1 ![1] bcast_S1_S1x1_1 (subf (broadcastInDim S1 ![] bcast_S_S1 (constant S_ .f32 0x3F800000#32)) (res_main_v6 V0)))) ((fun i => FloatOps.ofBits .f32 (lit2 (S2x2.rowMajor i)))))) :=
  (val0_6_keep V0 main_v16 (by decide)).trans (val0_5_main_v16 V0)
theorem val0_6_main_v19 (V0 : Valuation τ sig (Elt F)) : val0_6 V0 (no_index (Proc.devRef .tc main_v19)) = Host.log (maximumf (broadcastInDim S16777216x2 ![] bcast_S_S16777216x2 (id (constant S_ .f32 0x0DA24260#32))) (shapeCast _ (Host.dotGeneral dot_S4096x4096x2_S2x2_S4096x4096x2_2_0_01_1_n_n none (V0 (Proc.devRef .tc main_arg0)) (addf (mulf (broadcastInDim S2x2 ![0, 1] bcast_S1x1_S2x2_0_1 (broadcastInDim S1x1 ![1] bcast_S1_S1x1_1 (res_main_v6 V0))) ((fun i => FloatOps.ofBits .f32 (lit1 (S2x2.rowMajor i))))) (mulf (broadcastInDim S2x2 ![0, 1] bcast_S1x1_S2x2_0_1 (broadcastInDim S1x1 ![1] bcast_S1_S1x1_1 (subf (broadcastInDim S1 ![] bcast_S_S1 (constant S_ .f32 0x3F800000#32)) (res_main_v6 V0)))) ((fun i => FloatOps.ofBits .f32 (lit2 (S2x2.rowMajor i))))))) shapeCasts_S4096x4096x2_S16777216x2)) :=
  (val0_6_keep V0 main_v19 (by decide)).trans (val0_5_main_v19 V0)
theorem val0_6_main_call1_v2 (V0 : Valuation τ sig (Elt F)) : val0_6 V0 (no_index (Proc.devRef .tc main_call1_v2)) = res_main_call1_v2 V0 :=
  (val0_6_keep V0 main_call1_v2 (by decide)).trans (val0_5_main_call1_v2 V0)
theorem val0_6_main_call1_v3 (V0 : Valuation τ sig (Elt F)) : val0_6 V0 (no_index (Proc.devRef .tc main_call1_v3)) = broadcastInDim S1x1 ![] bcast_S_S1x1 (id (constant S_ .f32 0x3F800000#32)) :=
  (val0_6_keep V0 main_call1_v3 (by decide)).trans (val0_5_main_call1_v3 V0)
theorem val0_6_main_call1_v5 (V0 : Valuation τ sig (Elt F)) : val0_6 V0 (no_index (Proc.devRef .tc main_call1_v5)) = res_main_call1_v5 V0 :=
  (val0_6_keep V0 main_call1_v5 (by decide)).trans (val0_5_main_call1_v5 V0)
theorem val0_6_main_call1_v7 (V0 : Valuation τ sig (Elt F)) : val0_6 V0 (no_index (Proc.devRef .tc main_call1_v7)) = res_main_call1_v7 V0 :=
  (val0_6_keep V0 main_call1_v7 (by decide)).trans (val0_5_main_call1_v7 V0)
theorem val0_6_main_call1_call0_v1 (V0 : Valuation τ sig (Elt F)) : val0_6 V0 (no_index (Proc.devRef .tc main_call1_call0_v1)) = res_main_call1_call0_v1 V0 :=
  (val0_6_keep V0 main_call1_call0_v1 (by decide)).trans (val0_5_main_call1_call0_v1 V0)
set_option maxRecDepth 8192 in
set_option maxHeartbeats 2000000 in
theorem val0_6_main_call1_call0_v87 (V0 : Valuation τ sig (Elt F)) : val0_6 V0 (no_index (Proc.devRef .tc main_call1_call0_v87)) = res_main_call1_call0_v87 V0 := by
  unfold val0_6
  simp only [ops_part0_5, TRef.binary, TRef.nullary, TRef.unary, TRef.toBuf, TRef.ofBuf, cast_eq]
  after_results_simp
  simp only [val0_5_main_call1_v5, val0_5_main_call1_call0_v67, val0_5_main_call1_call0_v68, val0_5_main_call1_call0_v61] <;> rfl
set_option maxRecDepth 8192 in
set_option maxHeartbeats 2000000 in
theorem val0_6_main_call1_call0_v88 (V0 : Valuation τ sig (Elt F)) : val0_6 V0 (no_index (Proc.devRef .tc main_call1_call0_v88)) = res_main_call1_call0_v88 V0 := by
  unfold val0_6
  simp only [ops_part0_5, TRef.binary, TRef.nullary, TRef.unary, TRef.toBuf, TRef.ofBuf, cast_eq]
  after_results_simp
  simp only [val0_5_main_call1_v5, val0_5_main_call1_call0_v67, val0_5_main_call1_call0_v68, val0_5_main_call1_call0_v61] <;> rfl
set_option maxRecDepth 8192 in
set_option maxHeartbeats 2000000 in
theorem val0_6_main_call1_call0_v90 (V0 : Valuation τ sig (Elt F)) : val0_6 V0 (no_index (Proc.devRef .tc main_call1_call0_v90)) = Host.shli (res_main_call1_call0_v87 V0) (broadcastInDim S16777216x2 ![] bcast_S_S16777216x2 (constantI S_ 32 26#32)) := by
  unfold val0_6
  simp only [ops_part0_5, TRef.binary, TRef.nullary, TRef.unary, TRef.toBuf, TRef.ofBuf, cast_eq]
  after_results_simp
  simp only [val0_5_main_call1_v5, val0_5_main_call1_call0_v67, val0_5_main_call1_call0_v68, val0_5_main_call1_call0_v61] <;> rfl
set_option maxRecDepth 8192 in
set_option maxHeartbeats 2000000 in
theorem val0_6_main_call1_call0_v91 (V0 : Valuation τ sig (Elt F)) : val0_6 V0 (no_index (Proc.devRef .tc main_call1_call0_v91)) = broadcastInDim S16777216x2 ![] bcast_S_S16777216x2 (constantI S_ 32 6#32) := by
  unfold val0_6
  simp only [ops_part0_5, TRef.binary, TRef.nullary, TRef.unary, TRef.toBuf, TRef.ofBuf, cast_eq]
  after_results_simp
  all_goals rfl

/-- The device's buffer contents after @main's first 210 operations. -/
def val0_7 (V0 : Valuation τ sig (Elt F)) : Valuation τ sig (Elt F) := after ops_part0_6 (val0_6 V0)
/-- The buffers that window `ops_part0_6`'s operations write. -/
abbrev ops_part0_6_W : List (Ref sig .tc) := [main_call1_call0_v92, main_call1_call0_v93, main_call1_call0_v94, main_call1_call0_v95, main_call1_call0_c_24, main_call1_call0_v96, main_call1_call0_v97, main_call1_call0_c_25, main_call1_call0_v98, main_call1_call0_v99, main_call1_call0_v100, main_call1_call0_v101, main_call1_call0_v102, main_call1_call0_v103, main_call1_call0_v104, main_call1_call0_v105, main_call1_call0_c_26, main_call1_call0_v106, main_call1_call0_v107, main_call1_call0_v108, main_call1_call0_c_27, main_call1_call0_v109, main_call1_call0_v110, main_call1_call0_c_28, main_call1_call0_v111, main_call1_call0_v112, main_call1_call0_v113, main_call1_call0_v114, main_call1_call0_v115, main_call1_call0_c_29]
set_option maxRecDepth 8192 in
theorem ops_part0_6_writes : (ops_part0_6 : List (HloOp τ sig (Elt F))).Forall fun op => op.writes ⊆ (ops_part0_6_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]
     exact List.mem_map_of_mem (by decide))
/-- A buffer that window `ops_part0_6` does not write keeps its contents through it. -/
theorem val0_7_keep (V0 : Valuation τ sig (Elt F)) (r : Ref sig .tc) (h : r ∉ ops_part0_6_W) :
    val0_7 V0 (Proc.devRef .tc r) = val0_6 V0 (Proc.devRef .tc r) :=
  after_of_writes_sub ops_part0_6 _ ops_part0_6_writes h
theorem val0_7_main_arg0 (V0 : Valuation τ sig (Elt F)) : val0_7 V0 (no_index (Proc.devRef .tc main_arg0)) = V0 (Proc.devRef .tc main_arg0) :=
  (val0_7_keep V0 main_arg0 (by decide)).trans (val0_6_main_arg0 V0)
theorem val0_7_main_arg1 (V0 : Valuation τ sig (Elt F)) : val0_7 V0 (no_index (Proc.devRef .tc main_arg1)) = V0 (Proc.devRef .tc main_arg1) :=
  (val0_7_keep V0 main_arg1 (by decide)).trans (val0_6_main_arg1 V0)
theorem val0_7_main_v16 (V0 : Valuation τ sig (Elt F)) : val0_7 V0 (no_index (Proc.devRef .tc main_v16)) = Host.dotGeneral dot_S4096x4096x2_S2x2_S4096x4096x2_2_0_01_1_n_n none (V0 (Proc.devRef .tc main_arg0)) (addf (mulf (broadcastInDim S2x2 ![0, 1] bcast_S1x1_S2x2_0_1 (broadcastInDim S1x1 ![1] bcast_S1_S1x1_1 (res_main_v6 V0))) ((fun i => FloatOps.ofBits .f32 (lit1 (S2x2.rowMajor i))))) (mulf (broadcastInDim S2x2 ![0, 1] bcast_S1x1_S2x2_0_1 (broadcastInDim S1x1 ![1] bcast_S1_S1x1_1 (subf (broadcastInDim S1 ![] bcast_S_S1 (constant S_ .f32 0x3F800000#32)) (res_main_v6 V0)))) ((fun i => FloatOps.ofBits .f32 (lit2 (S2x2.rowMajor i)))))) :=
  (val0_7_keep V0 main_v16 (by decide)).trans (val0_6_main_v16 V0)
theorem val0_7_main_v19 (V0 : Valuation τ sig (Elt F)) : val0_7 V0 (no_index (Proc.devRef .tc main_v19)) = Host.log (maximumf (broadcastInDim S16777216x2 ![] bcast_S_S16777216x2 (id (constant S_ .f32 0x0DA24260#32))) (shapeCast _ (Host.dotGeneral dot_S4096x4096x2_S2x2_S4096x4096x2_2_0_01_1_n_n none (V0 (Proc.devRef .tc main_arg0)) (addf (mulf (broadcastInDim S2x2 ![0, 1] bcast_S1x1_S2x2_0_1 (broadcastInDim S1x1 ![1] bcast_S1_S1x1_1 (res_main_v6 V0))) ((fun i => FloatOps.ofBits .f32 (lit1 (S2x2.rowMajor i))))) (mulf (broadcastInDim S2x2 ![0, 1] bcast_S1x1_S2x2_0_1 (broadcastInDim S1x1 ![1] bcast_S1_S1x1_1 (subf (broadcastInDim S1 ![] bcast_S_S1 (constant S_ .f32 0x3F800000#32)) (res_main_v6 V0)))) ((fun i => FloatOps.ofBits .f32 (lit2 (S2x2.rowMajor i))))))) shapeCasts_S4096x4096x2_S16777216x2)) :=
  (val0_7_keep V0 main_v19 (by decide)).trans (val0_6_main_v19 V0)
theorem val0_7_main_call1_v2 (V0 : Valuation τ sig (Elt F)) : val0_7 V0 (no_index (Proc.devRef .tc main_call1_v2)) = res_main_call1_v2 V0 :=
  (val0_7_keep V0 main_call1_v2 (by decide)).trans (val0_6_main_call1_v2 V0)
theorem val0_7_main_call1_v3 (V0 : Valuation τ sig (Elt F)) : val0_7 V0 (no_index (Proc.devRef .tc main_call1_v3)) = broadcastInDim S1x1 ![] bcast_S_S1x1 (id (constant S_ .f32 0x3F800000#32)) :=
  (val0_7_keep V0 main_call1_v3 (by decide)).trans (val0_6_main_call1_v3 V0)
theorem val0_7_main_call1_v5 (V0 : Valuation τ sig (Elt F)) : val0_7 V0 (no_index (Proc.devRef .tc main_call1_v5)) = res_main_call1_v5 V0 :=
  (val0_7_keep V0 main_call1_v5 (by decide)).trans (val0_6_main_call1_v5 V0)
theorem val0_7_main_call1_v7 (V0 : Valuation τ sig (Elt F)) : val0_7 V0 (no_index (Proc.devRef .tc main_call1_v7)) = res_main_call1_v7 V0 :=
  (val0_7_keep V0 main_call1_v7 (by decide)).trans (val0_6_main_call1_v7 V0)
theorem val0_7_main_call1_call0_v1 (V0 : Valuation τ sig (Elt F)) : val0_7 V0 (no_index (Proc.devRef .tc main_call1_call0_v1)) = res_main_call1_call0_v1 V0 :=
  (val0_7_keep V0 main_call1_call0_v1 (by decide)).trans (val0_6_main_call1_call0_v1 V0)
set_option maxRecDepth 8192 in
set_option maxHeartbeats 2000000 in
theorem val0_7_main_call1_call0_v114 (V0 : Valuation τ sig (Elt F)) : val0_7 V0 (no_index (Proc.devRef .tc main_call1_call0_v114)) = res_main_call1_call0_v114 V0 := by
  unfold val0_7
  simp only [ops_part0_6, TRef.binary, TRef.nullary, TRef.unary, TRef.toBuf, TRef.ofBuf, cast_eq]
  after_results_simp
  simp only [val0_6_main_call1_v7, val0_6_main_call1_call0_v91, val0_6_main_call1_call0_v87, val0_6_main_call1_call0_v90, val0_6_main_call1_call0_v88, val0_6_main_call1_v5] <;> rfl
set_option maxRecDepth 8192 in
set_option maxHeartbeats 2000000 in
theorem val0_7_main_call1_call0_v115 (V0 : Valuation τ sig (Elt F)) : val0_7 V0 (no_index (Proc.devRef .tc main_call1_call0_v115)) = res_main_call1_call0_v115 V0 := by
  unfold val0_7
  simp only [ops_part0_6, TRef.binary, TRef.nullary, TRef.unary, TRef.toBuf, TRef.ofBuf, cast_eq]
  after_results_simp
  simp only [val0_6_main_call1_v7, val0_6_main_call1_call0_v91, val0_6_main_call1_call0_v87, val0_6_main_call1_call0_v90, val0_6_main_call1_call0_v88, val0_6_main_call1_v5] <;> rfl
set_option maxRecDepth 8192 in
set_option maxHeartbeats 2000000 in
theorem val0_7_main_call1_call0_c_29 (V0 : Valuation τ sig (Elt F)) : val0_7 V0 (no_index (Proc.devRef .tc main_call1_call0_c_29)) = constantI S_ 32 29#32 := by
  unfold val0_7
  simp only [ops_part0_6, TRef.binary, TRef.nullary, TRef.unary, TRef.toBuf, TRef.ofBuf, cast_eq]
  after_results_simp
  all_goals rfl

/-- The device's buffer contents after @main's first 240 operations. -/
def val0_8 (V0 : Valuation τ sig (Elt F)) : Valuation τ sig (Elt F) := after ops_part0_7 (val0_7 V0)
/-- The buffers that window `ops_part0_7`'s operations write. -/
abbrev ops_part0_7_W : List (Ref sig .tc) := [main_call1_call0_v116, main_call1_call0_v117, main_call1_call0_c_30, main_call1_call0_v118, main_call1_call0_v119, main_call1_call0_v120, main_call1_call0_v121, main_call1_call0_v122, main_call1_call0_c_31, main_call1_call0_v123, main_call1_call0_v124, main_call1_call0_c_32, main_call1_call0_v125, main_call1_call0_v126, main_call1_call0_v127, main_call1_call0_v128, main_call1_call0_v129, main_call1_call0_c_33, main_call1_call0_v130, main_call1_call0_v131, main_call1_call0_c_34, main_call1_call0_v132, main_call1_call0_v133, main_call1_call0_v134, main_call1_call0_v135, main_call1_call0_v136, main_call1_call0_v137, main_call1_call0_v138, main_call1_call0_v139, main_call1_call0_c_35]
set_option maxRecDepth 8192 in
theorem ops_part0_7_writes : (ops_part0_7 : List (HloOp τ sig (Elt F))).Forall fun op => op.writes ⊆ (ops_part0_7_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]
     exact List.mem_map_of_mem (by decide))
/-- A buffer that window `ops_part0_7` does not write keeps its contents through it. -/
theorem val0_8_keep (V0 : Valuation τ sig (Elt F)) (r : Ref sig .tc) (h : r ∉ ops_part0_7_W) :
    val0_8 V0 (Proc.devRef .tc r) = val0_7 V0 (Proc.devRef .tc r) :=
  after_of_writes_sub ops_part0_7 _ ops_part0_7_writes h
theorem val0_8_main_arg0 (V0 : Valuation τ sig (Elt F)) : val0_8 V0 (no_index (Proc.devRef .tc main_arg0)) = V0 (Proc.devRef .tc main_arg0) :=
  (val0_8_keep V0 main_arg0 (by decide)).trans (val0_7_main_arg0 V0)
theorem val0_8_main_arg1 (V0 : Valuation τ sig (Elt F)) : val0_8 V0 (no_index (Proc.devRef .tc main_arg1)) = V0 (Proc.devRef .tc main_arg1) :=
  (val0_8_keep V0 main_arg1 (by decide)).trans (val0_7_main_arg1 V0)
theorem val0_8_main_v16 (V0 : Valuation τ sig (Elt F)) : val0_8 V0 (no_index (Proc.devRef .tc main_v16)) = Host.dotGeneral dot_S4096x4096x2_S2x2_S4096x4096x2_2_0_01_1_n_n none (V0 (Proc.devRef .tc main_arg0)) (addf (mulf (broadcastInDim S2x2 ![0, 1] bcast_S1x1_S2x2_0_1 (broadcastInDim S1x1 ![1] bcast_S1_S1x1_1 (res_main_v6 V0))) ((fun i => FloatOps.ofBits .f32 (lit1 (S2x2.rowMajor i))))) (mulf (broadcastInDim S2x2 ![0, 1] bcast_S1x1_S2x2_0_1 (broadcastInDim S1x1 ![1] bcast_S1_S1x1_1 (subf (broadcastInDim S1 ![] bcast_S_S1 (constant S_ .f32 0x3F800000#32)) (res_main_v6 V0)))) ((fun i => FloatOps.ofBits .f32 (lit2 (S2x2.rowMajor i)))))) :=
  (val0_8_keep V0 main_v16 (by decide)).trans (val0_7_main_v16 V0)
theorem val0_8_main_v19 (V0 : Valuation τ sig (Elt F)) : val0_8 V0 (no_index (Proc.devRef .tc main_v19)) = Host.log (maximumf (broadcastInDim S16777216x2 ![] bcast_S_S16777216x2 (id (constant S_ .f32 0x0DA24260#32))) (shapeCast _ (Host.dotGeneral dot_S4096x4096x2_S2x2_S4096x4096x2_2_0_01_1_n_n none (V0 (Proc.devRef .tc main_arg0)) (addf (mulf (broadcastInDim S2x2 ![0, 1] bcast_S1x1_S2x2_0_1 (broadcastInDim S1x1 ![1] bcast_S1_S1x1_1 (res_main_v6 V0))) ((fun i => FloatOps.ofBits .f32 (lit1 (S2x2.rowMajor i))))) (mulf (broadcastInDim S2x2 ![0, 1] bcast_S1x1_S2x2_0_1 (broadcastInDim S1x1 ![1] bcast_S1_S1x1_1 (subf (broadcastInDim S1 ![] bcast_S_S1 (constant S_ .f32 0x3F800000#32)) (res_main_v6 V0)))) ((fun i => FloatOps.ofBits .f32 (lit2 (S2x2.rowMajor i))))))) shapeCasts_S4096x4096x2_S16777216x2)) :=
  (val0_8_keep V0 main_v19 (by decide)).trans (val0_7_main_v19 V0)
theorem val0_8_main_call1_v2 (V0 : Valuation τ sig (Elt F)) : val0_8 V0 (no_index (Proc.devRef .tc main_call1_v2)) = res_main_call1_v2 V0 :=
  (val0_8_keep V0 main_call1_v2 (by decide)).trans (val0_7_main_call1_v2 V0)
theorem val0_8_main_call1_v3 (V0 : Valuation τ sig (Elt F)) : val0_8 V0 (no_index (Proc.devRef .tc main_call1_v3)) = broadcastInDim S1x1 ![] bcast_S_S1x1 (id (constant S_ .f32 0x3F800000#32)) :=
  (val0_8_keep V0 main_call1_v3 (by decide)).trans (val0_7_main_call1_v3 V0)
theorem val0_8_main_call1_v5 (V0 : Valuation τ sig (Elt F)) : val0_8 V0 (no_index (Proc.devRef .tc main_call1_v5)) = res_main_call1_v5 V0 :=
  (val0_8_keep V0 main_call1_v5 (by decide)).trans (val0_7_main_call1_v5 V0)
theorem val0_8_main_call1_call0_v1 (V0 : Valuation τ sig (Elt F)) : val0_8 V0 (no_index (Proc.devRef .tc main_call1_call0_v1)) = res_main_call1_call0_v1 V0 :=
  (val0_8_keep V0 main_call1_call0_v1 (by decide)).trans (val0_7_main_call1_call0_v1 V0)
set_option maxRecDepth 8192 in
set_option maxHeartbeats 2000000 in
theorem val0_8_main_call1_call0_v137 (V0 : Valuation τ sig (Elt F)) : val0_8 V0 (no_index (Proc.devRef .tc main_call1_call0_v137)) = addi (res_main_call1_call0_v129 V0) (broadcastInDim S16777216x2 ![] bcast_S_S16777216x2 (res_main_call1_v7 V0)) := by
  unfold val0_8
  simp only [ops_part0_7, TRef.binary, TRef.nullary, TRef.unary, TRef.toBuf, TRef.ofBuf, cast_eq]
  after_results_simp
  simp only [val0_7_main_call1_v7, val0_7_main_call1_call0_v114, val0_7_main_call1_call0_c_29, val0_7_main_call1_call0_v115] <;> rfl
set_option maxRecDepth 8192 in
set_option maxHeartbeats 2000000 in
theorem val0_8_main_call1_call0_v139 (V0 : Valuation τ sig (Elt F)) : val0_8 V0 (no_index (Proc.devRef .tc main_call1_call0_v139)) = addi (xori (res_main_call1_call0_v129 V0) (ori (Host.shli (res_main_call1_call0_v128 V0) (broadcastInDim S16777216x2 ![] bcast_S_S16777216x2 (constantI S_ 32 24#32))) (Host.shrui (res_main_call1_call0_v128 V0) (broadcastInDim S16777216x2 ![] bcast_S_S16777216x2 (constantI S_ 32 8#32))))) (broadcastInDim S16777216x2 ![] bcast_S_S16777216x2 (res_main_call1_call0_v1 V0)) := by
  unfold val0_8
  simp only [ops_part0_7, TRef.binary, TRef.nullary, TRef.unary, TRef.toBuf, TRef.ofBuf, cast_eq]
  after_results_simp
  simp only [val0_7_main_call1_call0_v1, val0_7_main_call1_call0_v114, val0_7_main_call1_call0_c_29, val0_7_main_call1_call0_v115] <;> rfl
set_option maxRecDepth 8192 in
set_option maxHeartbeats 2000000 in
theorem val0_8_main_call1_call0_c_35 (V0 : Valuation τ sig (Elt F)) : val0_8 V0 (no_index (Proc.devRef .tc main_call1_call0_c_35)) = constantI S_ 32 4#32 := by
  unfold val0_8
  simp only [ops_part0_7, TRef.binary, TRef.nullary, TRef.unary, TRef.toBuf, TRef.ofBuf, cast_eq]
  after_results_simp
  all_goals rfl

/-- The device's buffer contents after @main's first 270 operations. -/
def val0_9 (V0 : Valuation τ sig (Elt F)) : Valuation τ sig (Elt F) := after ops_part0_8 (val0_8 V0)
/-- The buffers that window `ops_part0_8`'s operations write. -/
abbrev ops_part0_8_W : List (Ref sig .tc) := [main_call1_call0_v140, main_call1_call0_v141, main_call1_call0_v142, main_call1_call0_c_36, main_call1_call0_v143, main_call1_call0_v144, main_call1_call0_c_37, main_call1_call0_v145, main_call1_call0_v146, main_call1_call0_v147, main_call1_call0_v148, main_call1_call0_v149, main_call1_call0_c_38, main_call1_call0_v150, main_call1_call0_v151, main_call1_call0_c_39, main_call1_call0_v152, main_call1_call0_v153, main_call1_call0_v154, main_call1_call0_v155, main_call1_call0_v156, main_call1_call0_c_40, main_call1_call0_v157, main_call1_call0_v158, main_call1_call0_c_41, main_call1_call0_v159, main_call1_call0_v160, main_call1_call0_v161, main_call1_call0_v162, main_call1_call0_v163]
set_option maxRecDepth 8192 in
theorem ops_part0_8_writes : (ops_part0_8 : List (HloOp τ sig (Elt F))).Forall fun op => op.writes ⊆ (ops_part0_8_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]
     exact List.mem_map_of_mem (by decide))
/-- A buffer that window `ops_part0_8` does not write keeps its contents through it. -/
theorem val0_9_keep (V0 : Valuation τ sig (Elt F)) (r : Ref sig .tc) (h : r ∉ ops_part0_8_W) :
    val0_9 V0 (Proc.devRef .tc r) = val0_8 V0 (Proc.devRef .tc r) :=
  after_of_writes_sub ops_part0_8 _ ops_part0_8_writes h
theorem val0_9_main_arg0 (V0 : Valuation τ sig (Elt F)) : val0_9 V0 (no_index (Proc.devRef .tc main_arg0)) = V0 (Proc.devRef .tc main_arg0) :=
  (val0_9_keep V0 main_arg0 (by decide)).trans (val0_8_main_arg0 V0)
theorem val0_9_main_arg1 (V0 : Valuation τ sig (Elt F)) : val0_9 V0 (no_index (Proc.devRef .tc main_arg1)) = V0 (Proc.devRef .tc main_arg1) :=
  (val0_9_keep V0 main_arg1 (by decide)).trans (val0_8_main_arg1 V0)
theorem val0_9_main_v16 (V0 : Valuation τ sig (Elt F)) : val0_9 V0 (no_index (Proc.devRef .tc main_v16)) = Host.dotGeneral dot_S4096x4096x2_S2x2_S4096x4096x2_2_0_01_1_n_n none (V0 (Proc.devRef .tc main_arg0)) (addf (mulf (broadcastInDim S2x2 ![0, 1] bcast_S1x1_S2x2_0_1 (broadcastInDim S1x1 ![1] bcast_S1_S1x1_1 (res_main_v6 V0))) ((fun i => FloatOps.ofBits .f32 (lit1 (S2x2.rowMajor i))))) (mulf (broadcastInDim S2x2 ![0, 1] bcast_S1x1_S2x2_0_1 (broadcastInDim S1x1 ![1] bcast_S1_S1x1_1 (subf (broadcastInDim S1 ![] bcast_S_S1 (constant S_ .f32 0x3F800000#32)) (res_main_v6 V0)))) ((fun i => FloatOps.ofBits .f32 (lit2 (S2x2.rowMajor i)))))) :=
  (val0_9_keep V0 main_v16 (by decide)).trans (val0_8_main_v16 V0)
theorem val0_9_main_v19 (V0 : Valuation τ sig (Elt F)) : val0_9 V0 (no_index (Proc.devRef .tc main_v19)) = Host.log (maximumf (broadcastInDim S16777216x2 ![] bcast_S_S16777216x2 (id (constant S_ .f32 0x0DA24260#32))) (shapeCast _ (Host.dotGeneral dot_S4096x4096x2_S2x2_S4096x4096x2_2_0_01_1_n_n none (V0 (Proc.devRef .tc main_arg0)) (addf (mulf (broadcastInDim S2x2 ![0, 1] bcast_S1x1_S2x2_0_1 (broadcastInDim S1x1 ![1] bcast_S1_S1x1_1 (res_main_v6 V0))) ((fun i => FloatOps.ofBits .f32 (lit1 (S2x2.rowMajor i))))) (mulf (broadcastInDim S2x2 ![0, 1] bcast_S1x1_S2x2_0_1 (broadcastInDim S1x1 ![1] bcast_S1_S1x1_1 (subf (broadcastInDim S1 ![] bcast_S_S1 (constant S_ .f32 0x3F800000#32)) (res_main_v6 V0)))) ((fun i => FloatOps.ofBits .f32 (lit2 (S2x2.rowMajor i))))))) shapeCasts_S4096x4096x2_S16777216x2)) :=
  (val0_9_keep V0 main_v19 (by decide)).trans (val0_8_main_v19 V0)
theorem val0_9_main_call1_v2 (V0 : Valuation τ sig (Elt F)) : val0_9 V0 (no_index (Proc.devRef .tc main_call1_v2)) = res_main_call1_v2 V0 :=
  (val0_9_keep V0 main_call1_v2 (by decide)).trans (val0_8_main_call1_v2 V0)
theorem val0_9_main_call1_v3 (V0 : Valuation τ sig (Elt F)) : val0_9 V0 (no_index (Proc.devRef .tc main_call1_v3)) = broadcastInDim S1x1 ![] bcast_S_S1x1 (id (constant S_ .f32 0x3F800000#32)) :=
  (val0_9_keep V0 main_call1_v3 (by decide)).trans (val0_8_main_call1_v3 V0)
theorem val0_9_main_call1_v5 (V0 : Valuation τ sig (Elt F)) : val0_9 V0 (no_index (Proc.devRef .tc main_call1_v5)) = res_main_call1_v5 V0 :=
  (val0_9_keep V0 main_call1_v5 (by decide)).trans (val0_8_main_call1_v5 V0)
theorem val0_9_main_call1_call0_v1 (V0 : Valuation τ sig (Elt F)) : val0_9 V0 (no_index (Proc.devRef .tc main_call1_call0_v1)) = res_main_call1_call0_v1 V0 :=
  (val0_9_keep V0 main_call1_call0_v1 (by decide)).trans (val0_8_main_call1_call0_v1 V0)
set_option maxRecDepth 8192 in
set_option maxHeartbeats 2000000 in
theorem val0_9_main_call1_call0_v162 (V0 : Valuation τ sig (Elt F)) : val0_9 V0 (no_index (Proc.devRef .tc main_call1_call0_v162)) = res_main_call1_call0_v162 V0 := by
  unfold val0_9
  simp only [ops_part0_8, TRef.binary, TRef.nullary, TRef.unary, TRef.toBuf, TRef.ofBuf, cast_eq]
  after_results_simp
  simp only [val0_8_main_call1_call0_c_35, val0_8_main_call1_call0_v139, val0_8_main_call1_call0_v137] <;> rfl
set_option maxRecDepth 8192 in
set_option maxHeartbeats 2000000 in
theorem val0_9_main_call1_call0_v163 (V0 : Valuation τ sig (Elt F)) : val0_9 V0 (no_index (Proc.devRef .tc main_call1_call0_v163)) = res_main_call1_call0_v163 V0 := by
  unfold val0_9
  simp only [ops_part0_8, TRef.binary, TRef.nullary, TRef.unary, TRef.toBuf, TRef.ofBuf, cast_eq]
  after_results_simp
  simp only [val0_8_main_call1_call0_c_35, val0_8_main_call1_call0_v139, val0_8_main_call1_call0_v137] <;> rfl

/-- The device's buffer contents after @main's first 300 operations. -/
def val0_10 (V0 : Valuation τ sig (Elt F)) : Valuation τ sig (Elt F) := after ops_part0_9 (val0_9 V0)
/-- The buffers that window `ops_part0_9`'s operations write. -/
abbrev ops_part0_9_W : List (Ref sig .tc) := [main_call1_call0_c_42, main_call1_call0_v164, main_call1_call0_v165, main_call1_call0_c_43, main_call1_call0_v166, main_call1_call0_v167, main_call1_call0_v168, main_call1_call0_v169, main_call1_call0_v170, main_call1_v19_0, main_call1_call0_v172, main_call1_call0_v173, main_call1_call0_c_44, main_call1_call0_v174, main_call1_v19_1, main_call1_v20, main_call1_c_2, main_call1_v21, main_call1_v22, main_call1_c_3, main_call1_v23, main_call1_v24, main_call1_v25, main_call1_cst, main_call1_v26, main_call1_v27, main_call1_v28, main_call1_v29, main_call1_v30, main_call1_v31]
set_option maxRecDepth 8192 in
theorem ops_part0_9_writes : (ops_part0_9 : List (HloOp τ sig (Elt F))).Forall fun op => op.writes ⊆ (ops_part0_9_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]
     exact List.mem_map_of_mem (by decide))
/-- A buffer that window `ops_part0_9` does not write keeps its contents through it. -/
theorem val0_10_keep (V0 : Valuation τ sig (Elt F)) (r : Ref sig .tc) (h : r ∉ ops_part0_9_W) :
    val0_10 V0 (Proc.devRef .tc r) = val0_9 V0 (Proc.devRef .tc r) :=
  after_of_writes_sub ops_part0_9 _ ops_part0_9_writes h
theorem val0_10_main_arg0 (V0 : Valuation τ sig (Elt F)) : val0_10 V0 (no_index (Proc.devRef .tc main_arg0)) = V0 (Proc.devRef .tc main_arg0) :=
  (val0_10_keep V0 main_arg0 (by decide)).trans (val0_9_main_arg0 V0)
theorem val0_10_main_arg1 (V0 : Valuation τ sig (Elt F)) : val0_10 V0 (no_index (Proc.devRef .tc main_arg1)) = V0 (Proc.devRef .tc main_arg1) :=
  (val0_10_keep V0 main_arg1 (by decide)).trans (val0_9_main_arg1 V0)
theorem val0_10_main_v16 (V0 : Valuation τ sig (Elt F)) : val0_10 V0 (no_index (Proc.devRef .tc main_v16)) = Host.dotGeneral dot_S4096x4096x2_S2x2_S4096x4096x2_2_0_01_1_n_n none (V0 (Proc.devRef .tc main_arg0)) (addf (mulf (broadcastInDim S2x2 ![0, 1] bcast_S1x1_S2x2_0_1 (broadcastInDim S1x1 ![1] bcast_S1_S1x1_1 (res_main_v6 V0))) ((fun i => FloatOps.ofBits .f32 (lit1 (S2x2.rowMajor i))))) (mulf (broadcastInDim S2x2 ![0, 1] bcast_S1x1_S2x2_0_1 (broadcastInDim S1x1 ![1] bcast_S1_S1x1_1 (subf (broadcastInDim S1 ![] bcast_S_S1 (constant S_ .f32 0x3F800000#32)) (res_main_v6 V0)))) ((fun i => FloatOps.ofBits .f32 (lit2 (S2x2.rowMajor i)))))) :=
  (val0_10_keep V0 main_v16 (by decide)).trans (val0_9_main_v16 V0)
theorem val0_10_main_v19 (V0 : Valuation τ sig (Elt F)) : val0_10 V0 (no_index (Proc.devRef .tc main_v19)) = Host.log (maximumf (broadcastInDim S16777216x2 ![] bcast_S_S16777216x2 (id (constant S_ .f32 0x0DA24260#32))) (shapeCast _ (Host.dotGeneral dot_S4096x4096x2_S2x2_S4096x4096x2_2_0_01_1_n_n none (V0 (Proc.devRef .tc main_arg0)) (addf (mulf (broadcastInDim S2x2 ![0, 1] bcast_S1x1_S2x2_0_1 (broadcastInDim S1x1 ![1] bcast_S1_S1x1_1 (res_main_v6 V0))) ((fun i => FloatOps.ofBits .f32 (lit1 (S2x2.rowMajor i))))) (mulf (broadcastInDim S2x2 ![0, 1] bcast_S1x1_S2x2_0_1 (broadcastInDim S1x1 ![1] bcast_S1_S1x1_1 (subf (broadcastInDim S1 ![] bcast_S_S1 (constant S_ .f32 0x3F800000#32)) (res_main_v6 V0)))) ((fun i => FloatOps.ofBits .f32 (lit2 (S2x2.rowMajor i))))))) shapeCasts_S4096x4096x2_S16777216x2)) :=
  (val0_10_keep V0 main_v19 (by decide)).trans (val0_9_main_v19 V0)
theorem val0_10_main_call1_v2 (V0 : Valuation τ sig (Elt F)) : val0_10 V0 (no_index (Proc.devRef .tc main_call1_v2)) = res_main_call1_v2 V0 :=
  (val0_10_keep V0 main_call1_v2 (by decide)).trans (val0_9_main_call1_v2 V0)
set_option maxRecDepth 8192 in
set_option maxHeartbeats 2000000 in
theorem val0_10_main_call1_v30 (V0 : Valuation τ sig (Elt F)) : val0_10 V0 (no_index (Proc.devRef .tc main_call1_v30)) = mulf (subf (bitcastToFloat (F := F) .f32 (ori (Host.shrui (xori (addi (res_main_call1_call0_v163 V0) (broadcastInDim S16777216x2 ![] bcast_S_S16777216x2 (res_main_call1_call0_v1 V0))) (addi (addi (xori (res_main_call1_call0_v163 V0) (ori (Host.shli (res_main_call1_call0_v162 V0) (broadcastInDim S16777216x2 ![] bcast_S_S16777216x2 (constantI S_ 32 6#32))) (Host.shrui (res_main_call1_call0_v162 V0) (broadcastInDim S16777216x2 ![] bcast_S_S16777216x2 (constantI S_ 32 26#32))))) (broadcastInDim S16777216x2 ![] bcast_S_S16777216x2 (res_main_call1_v5 V0))) (broadcastInDim S16777216x2 ![] bcast_S_S16777216x2 (constantI S_ 32 5#32)))) (broadcastInDim S16777216x2 ![] bcast_S_S16777216x2 (constantI S_ 32 9#32))) (broadcastInDim S16777216x2 ![] bcast_S_S16777216x2 (constantI S_ 32 1065353216#32)))) (broadcastInDim S16777216x2 ![] bcast_S_S16777216x2 (constant S_ .f32 0x3F800000#32))) (broadcastInDim S16777216x2 ![0, 1] bcast_S1x1_S16777216x2_0_1 (subf (broadcastInDim S1x1 ![] bcast_S_S1x1 (id (constant S_ .f32 0x3F800000#32))) (res_main_call1_v2 V0))) := by
  unfold val0_10
  simp only [ops_part0_9, TRef.binary, TRef.nullary, TRef.unary, TRef.toBuf, TRef.ofBuf, cast_eq]
  after_results_simp
  simp only [val0_9_main_call1_v2, val0_9_main_call1_v3, val0_9_main_call1_v5, val0_9_main_call1_call0_v162, val0_9_main_call1_call0_v163, val0_9_main_call1_call0_v1] <;> rfl
set_option maxRecDepth 8192 in
set_option maxHeartbeats 2000000 in
theorem val0_10_main_call1_v31 (V0 : Valuation τ sig (Elt F)) : val0_10 V0 (no_index (Proc.devRef .tc main_call1_v31)) = broadcastInDim S16777216x2 ![0, 1] bcast_S1x1_S16777216x2_0_1 (res_main_call1_v2 V0) := by
  unfold val0_10
  simp only [ops_part0_9, TRef.binary, TRef.nullary, TRef.unary, TRef.toBuf, TRef.ofBuf, cast_eq]
  after_results_simp
  simp only [val0_9_main_call1_v2] <;> rfl

end Cert.ReferenceIdeal.Value

end
-- ==== Proof.RefRun.lean ====
module

public import proofs.«01_k».proof.Proof.RefWin
public import Idealize.ShloMosaic.Lib.StableHlo.Run
public import Idealize.ShloMosaic.Lib.Pipeline.Frame
/-! The last operations of the reference program read back, and its run: every execution ends with the three results
    at their terms and the arguments unchanged. -/

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The operations from the uniform draw to the logits with noise. -/
abbrev opsNoise : List (HloOp τ sig (Elt F)) :=
  [ TRef.binary (TRef.of (T := ⟨S16777216x2, .f32⟩) main_call1_v30) (TRef.of (T := ⟨S16777216x2, .f32⟩) main_call1_v31) (TRef.of (T := ⟨S16777216x2, .f32⟩) main_call1_v32) addf,
    TRef.unary (TRef.of (T := ⟨S1x1, .f32⟩) main_call1_v2) (TRef.of (T := ⟨S16777216x2, .f32⟩) main_call1_v33) (broadcastInDim S16777216x2 ![0, 1] bcast_S1x1_S16777216x2_0_1),
    TRef.binary (TRef.of (T := ⟨S16777216x2, .f32⟩) main_call1_v33) (TRef.of (T := ⟨S16777216x2, .f32⟩) main_call1_v32) (TRef.of (T := ⟨S16777216x2, .f32⟩) main_v27) maximumf,
    nullary main_cst_10 (constant S_ .f32 0x3F800000#32),
    unary main_cst_10 main_v28 (broadcastInDim S16777216x2 ![] bcast_S_S16777216x2 : (⟨S_, .f32⟩ : BufTy).Contents (Elt F) → (⟨S16777216x2, .f32⟩ : BufTy).Contents (Elt F)),
    binary main_v27 main_v28 main_v29 (mulf : (⟨S16777216x2, .f32⟩ : BufTy).Contents (Elt F) → (⟨S16777216x2, .f32⟩ : BufTy).Contents (Elt F) → (⟨S16777216x2, .f32⟩ : BufTy).Contents (Elt F)),
    nullary main_cst_11 (constant S_ .f32 0x00800000#32),
    unary main_cst_11 main_v30 (broadcastInDim S16777216x2 ![] bcast_S_S16777216x2 : (⟨S_, .f32⟩ : BufTy).Contents (Elt F) → (⟨S16777216x2, .f32⟩ : BufTy).Contents (Elt F)),
    binary main_v29 main_v30 main_v31 (addf : (⟨S16777216x2, .f32⟩ : BufTy).Contents (Elt F) → (⟨S16777216x2, .f32⟩ : BufTy).Contents (Elt F) → (⟨S16777216x2, .f32⟩ : BufTy).Contents (Elt F)),
    nullary main_cst_12 (constant S_ .f32 0x00800000#32),
    unary main_cst_12 main_v32 (broadcastInDim S16777216x2 ![] bcast_S_S16777216x2 : (⟨S_, .f32⟩ : BufTy).Contents (Elt F) → (⟨S16777216x2, .f32⟩ : BufTy).Contents (Elt F)),
    binary main_v32 main_v31 main_v33 (maximumf : (⟨S16777216x2, .f32⟩ : BufTy).Contents (Elt F) → (⟨S16777216x2, .f32⟩ : BufTy).Contents (Elt F) → (⟨S16777216x2, .f32⟩ : BufTy).Contents (Elt F)),
    unary main_v33 main_v34 (Host.log : (⟨S16777216x2, .f32⟩ : BufTy).Contents (Elt F) → (⟨S16777216x2, .f32⟩ : BufTy).Contents (Elt F)),
    unary main_v34 main_v35 (Host.negf : (⟨S16777216x2, .f32⟩ : BufTy).Contents (Elt F) → (⟨S16777216x2, .f32⟩ : BufTy).Contents (Elt F)),
    unary main_v35 main_v36 (Host.log : (⟨S16777216x2, .f32⟩ : BufTy).Contents (Elt F) → (⟨S16777216x2, .f32⟩ : BufTy).Contents (Elt F)),
    unary main_v36 main_v37 (Host.negf : (⟨S16777216x2, .f32⟩ : BufTy).Contents (Elt F) → (⟨S16777216x2, .f32⟩ : BufTy).Contents (Elt F)),
    binary main_v37 main_v19 main_v38 (addf : (⟨S16777216x2, .f32⟩ : BufTy).Contents (Elt F) → (⟨S16777216x2, .f32⟩ : BufTy).Contents (Elt F) → (⟨S16777216x2, .f32⟩ : BufTy).Contents (Elt F)) ]
/-- The operations from the search for the larger logit to the transposed classes, for any two results of the search. -/
abbrev opsPick (f1 : (⟨S16777216x2, .f32⟩ : BufTy).Contents (Elt F) → (⟨S16777216x2, .i32⟩ : BufTy).Contents (Elt F) → (⟨S_, .f32⟩ : BufTy).Contents (Elt F) → (⟨S_, .i32⟩ : BufTy).Contents (Elt F) → (⟨S16777216, .f32⟩ : BufTy).Contents (Elt F)) (f2 : (⟨S16777216x2, .f32⟩ : BufTy).Contents (Elt F) → (⟨S16777216x2, .i32⟩ : BufTy).Contents (Elt F) → (⟨S_, .f32⟩ : BufTy).Contents (Elt F) → (⟨S_, .i32⟩ : BufTy).Contents (Elt F) → (⟨S16777216, .i32⟩ : BufTy).Contents (Elt F)) : List (HloOp τ sig (Elt F)) :=
  [ TRef.nullary (TRef.of (T := ⟨S16777216x2, .i32⟩) main_call2_v0) (iotaInDim S16777216x2 32 1),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S16777216x2, .f32⟩) main_v38) (TRef.of (T := ⟨S16777216x2, .i32⟩) main_call2_v0) (TRef.of (T := ⟨S_, .f32⟩) main_call2_cst) (TRef.of (T := ⟨S_, .i32⟩) main_call2_c) (TRef.of (T := ⟨S16777216, .f32⟩) main_call2_v1_0) f1,
    TRef.quaternary (TRef.of (T := ⟨S16777216x2, .f32⟩) main_v38) (TRef.of (T := ⟨S16777216x2, .i32⟩) main_call2_v0) (TRef.of (T := ⟨S_, .f32⟩) main_call2_cst) (TRef.of (T := ⟨S_, .i32⟩) main_call2_c) (TRef.of (T := ⟨S16777216, .i32⟩) main_v39) f2,
    reshape main_v39 main_v40 (rfl : (.i32 : EltTy) = .i32) shapeCasts_S16777216_S4096x4096,
    nullary main_v41 (iotaInDim S4096x4096 32 0),
    nullary main_v42 (iotaInDim S4096x4096 32 1),
    binary main_v41 main_v42 main_v43 (cmpi .sle : (⟨S4096x4096, .i32⟩ : BufTy).Contents (Elt F) → (⟨S4096x4096, .i32⟩ : BufTy).Contents (Elt F) → (⟨S4096x4096, .i1⟩ : BufTy).Contents (Elt F)),
    unary main_v40 main_v44 ((transpose S4096x4096 [1, 0] · transposes_S4096x4096_S4096x4096_1_0) : (⟨S4096x4096, .i32⟩ : BufTy).Contents (Elt F) → (⟨S4096x4096, .i32⟩ : BufTy).Contents (Elt F)) ]
set_option maxRecDepth 8192 in
set_option maxHeartbeats 2000000 in
/-- What the search and the operations after it leave in `main_v40`, from any contents before them. -/
theorem pick_main_v40 (f1 : (⟨S16777216x2, .f32⟩ : BufTy).Contents (Elt F) → (⟨S16777216x2, .i32⟩ : BufTy).Contents (Elt F) → (⟨S_, .f32⟩ : BufTy).Contents (Elt F) → (⟨S_, .i32⟩ : BufTy).Contents (Elt F) → (⟨S16777216, .f32⟩ : BufTy).Contents (Elt F)) (f2 : (⟨S16777216x2, .f32⟩ : BufTy).Contents (Elt F) → (⟨S16777216x2, .i32⟩ : BufTy).Contents (Elt F) → (⟨S_, .f32⟩ : BufTy).Contents (Elt F) → (⟨S_, .i32⟩ : BufTy).Contents (Elt F) → (⟨S16777216, .i32⟩ : BufTy).Contents (Elt F)) (V : Valuation τ sig (Elt F)) : after (opsPick f1 f2) V (no_index (Proc.devRef .tc main_v40)) = shapeCast _ (f2 (V (Proc.devRef .tc main_v38)) (iotaInDim S16777216x2 32 1) (constant S_ .f32 0xFF800000#32) (constantI S_ 32 0#32)) shapeCasts_S16777216_S4096x4096 := by
  simp only [opsPick, TRef.binary, TRef.nullary, TRef.quaternary, TRef.unary, TRef.toBuf, TRef.ofBuf, cast_eq]
  after_results_simp
  all_goals rfl
set_option maxRecDepth 8192 in
set_option maxHeartbeats 2000000 in
/-- What the search and the operations after it leave in `main_v43`, from any contents before them. -/
theorem pick_main_v43 (f1 : (⟨S16777216x2, .f32⟩ : BufTy).Contents (Elt F) → (⟨S16777216x2, .i32⟩ : BufTy).Contents (Elt F) → (⟨S_, .f32⟩ : BufTy).Contents (Elt F) → (⟨S_, .i32⟩ : BufTy).Contents (Elt F) → (⟨S16777216, .f32⟩ : BufTy).Contents (Elt F)) (f2 : (⟨S16777216x2, .f32⟩ : BufTy).Contents (Elt F) → (⟨S16777216x2, .i32⟩ : BufTy).Contents (Elt F) → (⟨S_, .f32⟩ : BufTy).Contents (Elt F) → (⟨S_, .i32⟩ : BufTy).Contents (Elt F) → (⟨S16777216, .i32⟩ : BufTy).Contents (Elt F)) (V : Valuation τ sig (Elt F)) : after (opsPick f1 f2) V (no_index (Proc.devRef .tc main_v43)) = cmpi .sle (iotaInDim S4096x4096 32 0) (iotaInDim S4096x4096 32 1) := by
  simp only [opsPick, TRef.binary, TRef.nullary, TRef.quaternary, TRef.unary, TRef.toBuf, TRef.ofBuf, cast_eq]
  after_results_simp
  all_goals rfl
set_option maxRecDepth 8192 in
set_option maxHeartbeats 2000000 in
/-- What the search and the operations after it leave in `main_v44`, from any contents before them. -/
theorem pick_main_v44 (f1 : (⟨S16777216x2, .f32⟩ : BufTy).Contents (Elt F) → (⟨S16777216x2, .i32⟩ : BufTy).Contents (Elt F) → (⟨S_, .f32⟩ : BufTy).Contents (Elt F) → (⟨S_, .i32⟩ : BufTy).Contents (Elt F) → (⟨S16777216, .f32⟩ : BufTy).Contents (Elt F)) (f2 : (⟨S16777216x2, .f32⟩ : BufTy).Contents (Elt F) → (⟨S16777216x2, .i32⟩ : BufTy).Contents (Elt F) → (⟨S_, .f32⟩ : BufTy).Contents (Elt F) → (⟨S_, .i32⟩ : BufTy).Contents (Elt F) → (⟨S16777216, .i32⟩ : BufTy).Contents (Elt F)) (V : Valuation τ sig (Elt F)) : after (opsPick f1 f2) V (no_index (Proc.devRef .tc main_v44)) = transpose S4096x4096 [1, 0] (shapeCast _ (f2 (V (Proc.devRef .tc main_v38)) (iotaInDim S16777216x2 32 1) (constant S_ .f32 0xFF800000#32) (constantI S_ 32 0#32)) shapeCasts_S16777216_S4096x4096) transposes_S4096x4096_S4096x4096_1_0 := by
  simp only [opsPick, TRef.binary, TRef.nullary, TRef.quaternary, TRef.unary, TRef.toBuf, TRef.ofBuf, cast_eq]
  after_results_simp
  all_goals rfl

set_option maxRecDepth 8192 in
set_option maxHeartbeats 2000000 in
/-- The logits with noise after the operations that make them. -/
theorem noise_main_v38 (V0 : Valuation τ sig (Elt F)) : after opsNoise (val0_10 V0) (no_index (Proc.devRef .tc main_v38)) = res_main_v38 V0 := by
  simp only [opsNoise, TRef.binary, TRef.nullary, TRef.quaternary, TRef.unary, TRef.toBuf, TRef.ofBuf, cast_eq]
  after_results_simp
  simp only [val0_10_main_v19, val0_10_main_call1_v31, val0_10_main_call1_v30, val0_10_main_call1_v2] <;> rfl

/-- The last window is the two stretches one after the other. -/
theorem ops_part0_10_eq : (ops_part0_10 : List (HloOp τ sig (Elt F))) = opsNoise ++ opsPick (fun x y u v => fun j => (Host.argReduce reducer_argmax_f32_i32 x y u v reducesTo_S16777216x2_S16777216_d1 h_S_ j).1) (fun x y u v => fun j => (Host.argReduce reducer_argmax_f32_i32 x y u v reducesTo_S16777216x2_S16777216_d1 h_S_ j).2) := rfl

/-- The device's buffer contents after @main's first 1 window. -/
def val1 (V0 : Valuation τ sig (Elt F)) : Valuation τ sig (Elt F) := after ops_part0_10 (val0_10 V0)
/-- The buffers that window `ops_part0_10`'s operations write. -/
abbrev ops_part0_10_W : List (Ref sig .tc) := [main_call1_v32, main_call1_v33, main_v27, main_cst_10, main_v28, main_v29, main_cst_11, main_v30, main_v31, main_cst_12, main_v32, main_v33, main_v34, main_v35, main_v36, main_v37, main_v38, main_call2_v0, main_call2_cst, main_call2_c, main_call2_v1_0, main_v39, main_v40, main_v41, main_v42, main_v43, main_v44]
set_option maxRecDepth 8192 in
theorem ops_part0_10_writes : (ops_part0_10 : List (HloOp τ sig (Elt F))).Forall fun op => op.writes ⊆ (ops_part0_10_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]
     exact List.mem_map_of_mem (by decide))
/-- A buffer that window `ops_part0_10` does not write keeps its contents through it. -/
theorem val1_keep (V0 : Valuation τ sig (Elt F)) (r : Ref sig .tc) (h : r ∉ ops_part0_10_W) :
    val1 V0 (Proc.devRef .tc r) = val0_10 V0 (Proc.devRef .tc r) :=
  after_of_writes_sub ops_part0_10 _ ops_part0_10_writes h
theorem val1_main_arg0 (V0 : Valuation τ sig (Elt F)) : val1 V0 (no_index (Proc.devRef .tc main_arg0)) = V0 (Proc.devRef .tc main_arg0) :=
  (val1_keep V0 main_arg0 (by decide)).trans (val0_10_main_arg0 V0)
theorem val1_main_arg1 (V0 : Valuation τ sig (Elt F)) : val1 V0 (no_index (Proc.devRef .tc main_arg1)) = V0 (Proc.devRef .tc main_arg1) :=
  (val1_keep V0 main_arg1 (by decide)).trans (val0_10_main_arg1 V0)
theorem val1_main_v16 (V0 : Valuation τ sig (Elt F)) : val1 V0 (no_index (Proc.devRef .tc main_v16)) = Host.dotGeneral dot_S4096x4096x2_S2x2_S4096x4096x2_2_0_01_1_n_n none (V0 (Proc.devRef .tc main_arg0)) (addf (mulf (broadcastInDim S2x2 ![0, 1] bcast_S1x1_S2x2_0_1 (broadcastInDim S1x1 ![1] bcast_S1_S1x1_1 (res_main_v6 V0))) ((fun i => FloatOps.ofBits .f32 (lit1 (S2x2.rowMajor i))))) (mulf (broadcastInDim S2x2 ![0, 1] bcast_S1x1_S2x2_0_1 (broadcastInDim S1x1 ![1] bcast_S1_S1x1_1 (subf (broadcastInDim S1 ![] bcast_S_S1 (constant S_ .f32 0x3F800000#32)) (res_main_v6 V0)))) ((fun i => FloatOps.ofBits .f32 (lit2 (S2x2.rowMajor i)))))) :=
  (val1_keep V0 main_v16 (by decide)).trans (val0_10_main_v16 V0)
set_option maxRecDepth 8192 in
set_option maxHeartbeats 2000000 in
theorem val1_main_v40 (V0 : Valuation τ sig (Elt F)) : val1 V0 (no_index (Proc.devRef .tc main_v40)) = res_main_v40 V0 := by
  unfold val1
  rw [ops_part0_10_eq, after_append]
  refine (pick_main_v40 _ _ _).trans ?_
  simp only [noise_main_v38]
  rfl
set_option maxRecDepth 8192 in
set_option maxHeartbeats 2000000 in
theorem val1_main_v43 (V0 : Valuation τ sig (Elt F)) : val1 V0 (no_index (Proc.devRef .tc main_v43)) = cmpi .sle (iotaInDim S4096x4096 32 0) (iotaInDim S4096x4096 32 1) := by
  unfold val1
  rw [ops_part0_10_eq, after_append]
  refine (pick_main_v43 _ _ _).trans ?_
  rfl
set_option maxRecDepth 8192 in
set_option maxHeartbeats 2000000 in
theorem val1_main_v44 (V0 : Valuation τ sig (Elt F)) : val1 V0 (no_index (Proc.devRef .tc main_v44)) = transpose S4096x4096 [1, 0] (res_main_v40 V0) transposes_S4096x4096_S4096x4096_1_0 := by
  unfold val1
  rw [ops_part0_10_eq, after_append]
  refine (pick_main_v44 _ _ _).trans ?_
  simp only [noise_main_v38]
  rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v45, main_v46, main_cst_13, main_v47, main_v48]
set_option maxRecDepth 8192 in
theorem ops_part1_writes : (ops_part1 : List (HloOp τ sig (Elt F))).Forall fun op => op.writes ⊆ (ops_part1_W.map (Proc.devRef (τ := τ) .tc)).toFinset := by
  simp only [List.Forall]; refine ⟨?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]
     exact List.mem_map_of_mem (by decide))
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_v16 (V0 : Valuation τ sig (Elt F)) : val2 V0 (no_index (Proc.devRef .tc main_v16)) = Host.dotGeneral dot_S4096x4096x2_S2x2_S4096x4096x2_2_0_01_1_n_n none (V0 (Proc.devRef .tc main_arg0)) (addf (mulf (broadcastInDim S2x2 ![0, 1] bcast_S1x1_S2x2_0_1 (broadcastInDim S1x1 ![1] bcast_S1_S1x1_1 (res_main_v6 V0))) ((fun i => FloatOps.ofBits .f32 (lit1 (S2x2.rowMajor i))))) (mulf (broadcastInDim S2x2 ![0, 1] bcast_S1x1_S2x2_0_1 (broadcastInDim S1x1 ![1] bcast_S1_S1x1_1 (subf (broadcastInDim S1 ![] bcast_S_S1 (constant S_ .f32 0x3F800000#32)) (res_main_v6 V0)))) ((fun i => FloatOps.ofBits .f32 (lit2 (S2x2.rowMajor i)))))) :=
  (val2_keep V0 main_v16 (by decide)).trans (val1_main_v16 V0)
set_option maxRecDepth 8192 in
theorem val2_main_v45 (V0 : Valuation τ sig (Elt F)) : val2 V0 (no_index (Proc.devRef .tc main_v45)) = select (cmpi .sle (iotaInDim S4096x4096 32 0) (iotaInDim S4096x4096 32 1)) (res_main_v40 V0) (transpose S4096x4096 [1, 0] (res_main_v40 V0) transposes_S4096x4096_S4096x4096_1_0) := by
  unfold val2
  simp only [ops_part1, TRef.ternary, TRef.toBuf, TRef.ofBuf, cast_eq]
  after_results_simp
  simp only [val1_main_v44, val1_main_v40, val1_main_v43] <;> rfl
set_option maxRecDepth 8192 in
theorem val2_main_v48 (V0 : Valuation τ sig (Elt F)) : val2 V0 (no_index (Proc.devRef .tc main_v48)) = Host.divf (sitofp .f32 (V0 (Proc.devRef .tc main_arg1))) (broadcastInDim S1 ![] bcast_S_S1 (constant S_ .f32 0x447A0000#32)) := by
  unfold val2
  simp only [ops_part1, TRef.ternary, TRef.toBuf, TRef.ofBuf, cast_eq]
  after_results_simp
  simp only [val1_main_arg1] <;> rfl

theorem after_ops (V0 : Valuation τ sig (Elt F)) : after ops V0 = val2 V0 := by
  simp only [ops, ops_part0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = Host.divf (sitofp .f32 ((launchContents m c) (Proc.devRef .tc main_arg1))) (broadcastInDim S1 ![] bcast_S_S1 (constant S_ .f32 0x447A0000#32))
      ∧ r.2.mem ((c.tc : Thread nD τ).loc main_v45) = select (cmpi .sle (iotaInDim S4096x4096 32 0) (iotaInDim S4096x4096 32 1)) (res_main_v40 (launchContents m c)) (transpose S4096x4096 [1, 0] (res_main_v40 (launchContents m c)) transposes_S4096x4096_S4096x4096_1_0)
      ∧ r.2.mem ((c.tc : Thread nD τ).loc main_v16) = Host.dotGeneral dot_S4096x4096x2_S2x2_S4096x4096x2_2_0_01_1_n_n none ((launchContents m c) (Proc.devRef .tc main_arg0)) (addf (mulf (broadcastInDim S2x2 ![0, 1] bcast_S1x1_S2x2_0_1 (broadcastInDim S1x1 ![1] bcast_S1_S1x1_1 (res_main_v6 (launchContents m c)))) ((fun i => FloatOps.ofBits .f32 (lit1 (S2x2.rowMajor i))))) (mulf (broadcastInDim S2x2 ![0, 1] bcast_S1x1_S2x2_0_1 (broadcastInDim S1x1 ![1] bcast_S1_S1x1_1 (subf (broadcastInDim S1 ![] bcast_S_S1 (constant S_ .f32 0x3F800000#32)) (res_main_v6 (launchContents m c))))) ((fun i => FloatOps.ofBits .f32 (lit2 (S2x2.rowMajor i))))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v48).trans ((congrFun (after_ops (launchContents m c)) (Proc.devRef .tc main_v48)).trans (val2_main_v48 (launchContents m c))),
      (h c main_v45).trans ((congrFun (after_ops (launchContents m c)) (Proc.devRef .tc main_v45)).trans (val2_main_v45 (launchContents m c))),
      (h c main_v16).trans ((congrFun (after_ops (launchContents m c)) (Proc.devRef .tc main_v16)).trans (val2_main_v16 (launchContents m c))),
      (h c main_arg0).trans ((congrFun (after_ops (launchContents m c)) (Proc.devRef .tc main_arg0)).trans (val2_main_arg0 (launchContents m c))),
      (h c main_arg1).trans ((congrFun (after_ops (launchContents m c)) (Proc.devRef .tc main_arg1)).trans (val2_main_arg1 (launchContents m c)))⟩)
    (run_seq scopedRefs_eq scopedSems_eq defs main (fun _ => ops) main_eq (fun _ => ops_sub) m ρ fun _ => ops_fresh)

end Cert.ReferenceIdeal.Value

end
-- ==== Proof.Noise.lean ====
module

public import Idealize.ShloMosaic.PureOps.Ideal
public import Idealize.ShloMosaic.Lib.ValueIdxCore

@[expose] public section

/-! The random bits and the noise drawn for one counter, as functions of one word. -/

noncomputable section

namespace Cert.Noise

open Idealize.ShloMosaic

/-- A word rotated left by `r`, where `s` is 32 less `r`. -/
def rot (r s x : BitVec 32) : BitVec 32 := IntOp.ori (IntOp.shli .vector x r) (IntOp.shrui .vector x s)

/-- One round on a pair of words. -/
def round (r s : BitVec 32) (p : BitVec 32 × BitVec 32) : BitVec 32 × BitVec 32 :=
  (IntOp.addi p.1 p.2, IntOp.xori (rot r s p.2) (IntOp.addi p.1 p.2))

/-- The four rounds with the first set of rotations. -/
def roundsA (p : BitVec 32 × BitVec 32) : BitVec 32 × BitVec 32 :=
  round 6#32 26#32 (round 26#32 6#32 (round 15#32 17#32 (round 13#32 19#32 p)))

/-- The four rounds with the second set of rotations. -/
def roundsB (p : BitVec 32 × BitVec 32) : BitVec 32 × BitVec 32 :=
  round 24#32 8#32 (round 16#32 16#32 (round 29#32 3#32 (round 17#32 15#32 p)))

/-- Two key words and the group number added to a pair. -/
def key (a b g : BitVec 32) (p : BitVec 32 × BitVec 32) : BitVec 32 × BitVec 32 :=
  (IntOp.addi p.1 a, IntOp.addi (IntOp.addi p.2 b) g)

/-- The pair after the first four rounds and the first key words, from the pair with the key already added. -/
def group1 (p : BitVec 32 × BitVec 32) : BitVec 32 × BitVec 32 := key 1#32 466688987#32 1#32 (roundsA p)
/-- The pair after eight rounds. -/
def group2 (p : BitVec 32 × BitVec 32) : BitVec 32 × BitVec 32 := key 466688987#32 0#32 2#32 (roundsB (group1 p))
/-- The pair after twelve rounds. -/
def group3 (p : BitVec 32 × BitVec 32) : BitVec 32 × BitVec 32 := key 0#32 1#32 3#32 (roundsA (group2 p))
/-- The pair after sixteen rounds. -/
def group4 (p : BitVec 32 × BitVec 32) : BitVec 32 × BitVec 32 := key 1#32 466688987#32 4#32 (roundsB (group3 p))
/-- The pair after twenty rounds. -/
def group5 (p : BitVec 32 × BitVec 32) : BitVec 32 × BitVec 32 := key 466688987#32 0#32 5#32 (roundsA (group4 p))

/-- The random word drawn at counter `e`. -/
def bits (e : BitVec 32) : BitVec 32 :=
  let p := group5 (0#32, IntOp.addi e 1#32)
  IntOp.xori p.1 p.2

variable {F : FTy → Type} [FloatOps F]

/-- The number in `[1, 2)` whose fraction is the top 23 bits of a word, less one. -/
def unit (b : BitVec 32) : F .f32 :=
  FloatOps.subf (FloatOps.ofBits .f32 (IntOp.ori (IntOp.shrui .vector b 9#32) 1065353216#32)) (FloatOps.ofBits .f32 0x3F800000#32)

/-- The noise a word gives: twice the logarithm, negated each time, of the unit number kept above the least normal one. -/
def noise (b : BitVec 32) : F .f32 :=
  FloatOps.subf (FloatOps.ofBits .f32 0x00000000#32) (FloatOps.log (FloatOps.subf (FloatOps.ofBits .f32 0x00000000#32)
    (FloatOps.log (FloatOps.maximumf (FloatOps.ofBits .f32 0x00800000#32) (FloatOps.addf (unit b) (FloatOps.ofBits .f32 0x00800000#32))))))

end Cert.Noise

end
-- ==== Proof.KernelNoise.lean ====
module

public import proofs.«01_k».proof.Proof.KernelIdealRun
public import proofs.«01_k».proof.Proof.Noise

/-! The noise that the first call of the kernel draws on one strip of 128 columns, entry by entry: at each entry it is
    the noise of the entry's counter. The chain of twenty rounds is followed stretch by stretch, as the body cuts it. -/

@[expose] public section

set_option maxRecDepth 65536

noncomputable section

namespace Cert.KernelIdeal.Value

open Idealize.ShloMosaic Idealize.ShloMosaic.TcCoe Idealize.ShloMosaic.Tactic Idealize.SL.Sem
open Cert.KernelIdeal.Gen Cert.KernelIdeal.Run Cert.Noise

variable {F : FTy → Type} [FloatOps F]

/-- A pair from its first word and the two shifted words that its second is mixed from. -/
def mix (s a b : BitVec 32) : BitVec 32 × BitVec 32 := (s, IntOp.xori (IntOp.ori a b) s)

/-! ## The first class's noise -/

/-- The first word after four rounds. -/
theorem pay15_at (a b : BitVec 32) (y : S512x128.Idx) :
    k0_pay15 a b y = (roundsA (0#32, IntOp.addi (k0_pay7 a b y) 1#32)).1 := by sl_kernel_rfl
/-- The second word's left shift after three rounds. -/
theorem pay16_at (a b : BitVec 32) (y : S512x128.Idx) :
    k0_pay16 a b y = IntOp.shli .vector (round 26#32 6#32 (round 15#32 17#32 (round 13#32 19#32 (0#32, IntOp.addi (k0_pay7 a b y) 1#32)))).2 6#32 := by sl_kernel_rfl
/-- The second word's right shift after three rounds. -/
theorem pay17_at (a b : BitVec 32) (y : S512x128.Idx) :
    k0_pay17 a b y = IntOp.shrui .vector (round 26#32 6#32 (round 15#32 17#32 (round 13#32 19#32 (0#32, IntOp.addi (k0_pay7 a b y) 1#32)))).2 26#32 := by sl_kernel_rfl

/-- The pair after eight rounds, from where the second stretch starts. -/
def after8 (s a b : BitVec 32) : BitVec 32 × BitVec 32 :=
  key 466688987#32 0#32 2#32 (roundsB (key 1#32 466688987#32 1#32 (mix s a b)))
theorem pay26_at (u v w : IVec S512x128 32) (y : S512x128.Idx) :
    k0_pay26 u v w y = (after8 (u y) (v y) (w y)).2 := by sl_kernel_rfl
theorem pay27_at (u v w : IVec S512x128 32) (y : S512x128.Idx) :
    k0_pay27 u v w y = IntOp.addi (after8 (u y) (v y) (w y)).1 (after8 (u y) (v y) (w y)).2 := by sl_kernel_rfl
theorem pay28_at (u v w : IVec S512x128 32) (y : S512x128.Idx) :
    k0_pay28 u v w y = IntOp.shli .vector (after8 (u y) (v y) (w y)).2 13#32 := by sl_kernel_rfl

/-- The pair after fourteen rounds, from where the third stretch starts. -/
def after14 (u s a : BitVec 32) : BitVec 32 × BitVec 32 :=
  round 29#32 3#32 (round 17#32 15#32 (key 0#32 1#32 3#32 (round 6#32 26#32 (round 26#32 6#32 (round 15#32 17#32
    (mix s a (IntOp.shrui .vector u 19#32)))))))
theorem pay39_at (u v w : IVec S512x128 32) (y : S512x128.Idx) :
    k0_pay39 u v w y = (after14 (u y) (v y) (w y)).2 := by sl_kernel_rfl
theorem pay40_at (u v w : IVec S512x128 32) (y : S512x128.Idx) :
    k0_pay40 u v w y = IntOp.addi (after14 (u y) (v y) (w y)).1 (after14 (u y) (v y) (w y)).2 := by sl_kernel_rfl

/-- The pair after nineteen rounds, from where the fourth stretch starts. -/
def after19 (u s : BitVec 32) : BitVec 32 × BitVec 32 :=
  round 26#32 6#32 (round 15#32 17#32 (round 13#32 19#32 (key 1#32 466688987#32 4#32 (round 24#32 8#32
    (mix s (IntOp.shli .vector u 16#32) (IntOp.shrui .vector u 16#32))))))
theorem pay50_at (u v : IVec S512x128 32) (y : S512x128.Idx) :
    k0_pay50 u v y = IntOp.addi (after19 (u y) (v y)).1 (after19 (u y) (v y)).2 := by sl_kernel_rfl
theorem pay51_at (u v : IVec S512x128 32) (y : S512x128.Idx) :
    k0_pay51 u v y = IntOp.shli .vector (after19 (u y) (v y)).2 6#32 := by sl_kernel_rfl
theorem pay52_at (u v : IVec S512x128 32) (y : S512x128.Idx) :
    k0_pay52 u v y = IntOp.shrui .vector (after19 (u y) (v y)).2 26#32 := by sl_kernel_rfl

/-- The word drawn from the pair of twenty rounds. -/
def draw (p : BitVec 32 × BitVec 32) : BitVec 32 :=
  IntOp.xori (key 466688987#32 0#32 5#32 p).1 (key 466688987#32 0#32 5#32 p).2
theorem pay53_at (u v w : IVec S512x128 32) (y : S512x128.Idx) :
    k0_pay53 (F := F) u v w y = noise (draw (mix (u y) (v y) (w y))) := by sl_kernel_rfl

/-! ## The second class's noise -/

theorem pay57_at (u : IVec S512x128 32) (y : S512x128.Idx) :
    k0_pay57 u y = (round 15#32 17#32 (round 13#32 19#32 (0#32, IntOp.addi (IntOp.addi (u y) 1#32) 1#32))).1 := by sl_kernel_rfl
theorem pay58_at (u : IVec S512x128 32) (y : S512x128.Idx) :
    k0_pay58 u y = IntOp.shli .vector (round 13#32 19#32 (0#32, IntOp.addi (IntOp.addi (u y) 1#32) 1#32)).2 15#32 := by sl_kernel_rfl
theorem pay59_at (u : IVec S512x128 32) (y : S512x128.Idx) :
    k0_pay59 u y = IntOp.shrui .vector (round 13#32 19#32 (0#32, IntOp.addi (IntOp.addi (u y) 1#32) 1#32)).2 17#32 := by sl_kernel_rfl

/-- The pair after seven rounds. -/
def after7 (s a b : BitVec 32) : BitVec 32 × BitVec 32 :=
  round 16#32 16#32 (round 29#32 3#32 (round 17#32 15#32 (key 1#32 466688987#32 1#32 (round 6#32 26#32 (round 26#32 6#32 (mix s a b))))))
theorem pay70_at (u v w : IVec S512x128 32) (y : S512x128.Idx) :
    k0_pay70 u v w y = (after7 (u y) (v y) (w y)).2 := by sl_kernel_rfl
theorem pay71_at (u v w : IVec S512x128 32) (y : S512x128.Idx) :
    k0_pay71 u v w y = IntOp.addi (after7 (u y) (v y) (w y)).1 (after7 (u y) (v y) (w y)).2 := by sl_kernel_rfl
theorem pay72_at (u v w : IVec S512x128 32) (y : S512x128.Idx) :
    k0_pay72 u v w y = IntOp.shli .vector (after7 (u y) (v y) (w y)).2 24#32 := by sl_kernel_rfl

/-- The pair after twelve rounds. -/
def after12 (u s a : BitVec 32) : BitVec 32 × BitVec 32 :=
  key 0#32 1#32 3#32 (roundsA (key 466688987#32 0#32 2#32 (mix s a (IntOp.shrui .vector u 8#32))))
theorem pay81_at (u v w : IVec S512x128 32) (y : S512x128.Idx) :
    k0_pay81 u v w y = (after12 (u y) (v y) (w y)).2 := by sl_kernel_rfl
theorem pay82_at (u v w : IVec S512x128 32) (y : S512x128.Idx) :
    k0_pay82 u v w y = IntOp.addi (after12 (u y) (v y) (w y)).1 (after12 (u y) (v y) (w y)).2 := by sl_kernel_rfl

/-- The pair after seventeen rounds. -/
def after17 (u s : BitVec 32) : BitVec 32 × BitVec 32 :=
  round 13#32 19#32 (key 1#32 466688987#32 4#32 (round 24#32 8#32 (round 16#32 16#32 (round 29#32 3#32
    (mix s (IntOp.shli .vector u 17#32) (IntOp.shrui .vector u 15#32))))))
theorem pay92_at (u v : IVec S512x128 32) (y : S512x128.Idx) :
    k0_pay92 u v y = IntOp.addi (after17 (u y) (v y)).1 (after17 (u y) (v y)).2 := by sl_kernel_rfl
theorem pay93_at (u v : IVec S512x128 32) (y : S512x128.Idx) :
    k0_pay93 u v y = IntOp.shli .vector (after17 (u y) (v y)).2 15#32 := by sl_kernel_rfl
theorem pay94_at (u v : IVec S512x128 32) (y : S512x128.Idx) :
    k0_pay94 u v y = IntOp.shrui .vector (after17 (u y) (v y)).2 17#32 := by sl_kernel_rfl
theorem pay95_at (u v w : IVec S512x128 32) (y : S512x128.Idx) :
    k0_pay95 (F := F) u v w y = noise (draw (round 6#32 26#32 (round 26#32 6#32 (mix (u y) (v y) (w y))))) := by sl_kernel_rfl

/-! ## The stretches put together -/

theorem mix_round (r s : BitVec 32) (p : BitVec 32 × BitVec 32) :
    mix (IntOp.addi p.1 p.2) (IntOp.shli .vector p.2 r) (IntOp.shrui .vector p.2 s) = round r s p := rfl
theorem after14_pair (p : BitVec 32 × BitVec 32) : after14 p.2 (IntOp.addi p.1 p.2) (IntOp.shli .vector p.2 13#32) =
    round 29#32 3#32 (round 17#32 15#32 (key 0#32 1#32 3#32 (roundsA p))) := rfl
theorem after19_pair (p : BitVec 32 × BitVec 32) : after19 p.2 (IntOp.addi p.1 p.2) =
    round 26#32 6#32 (round 15#32 17#32 (round 13#32 19#32 (key 1#32 466688987#32 4#32 (round 24#32 8#32 (round 16#32 16#32 p))))) := rfl
theorem after12_pair (p : BitVec 32 × BitVec 32) : after12 p.2 (IntOp.addi p.1 p.2) (IntOp.shli .vector p.2 24#32) =
    key 0#32 1#32 3#32 (roundsA (key 466688987#32 0#32 2#32 (round 24#32 8#32 p))) := rfl
theorem after17_pair (p : BitVec 32 × BitVec 32) : after17 p.2 (IntOp.addi p.1 p.2) =
    round 13#32 19#32 (key 1#32 466688987#32 4#32 (roundsB p)) := rfl
theorem bits_rounds (e : BitVec 32) : bits e = draw (roundsA (key 1#32 466688987#32 4#32 (roundsB (key 0#32 1#32 3#32 (roundsA
    (key 466688987#32 0#32 2#32 (roundsB (key 1#32 466688987#32 1#32 (roundsA (0#32, IntOp.addi e 1#32)))))))))) := rfl
/-- Four rounds of the first kind, one by one. -/
theorem roundsA_eq (p : BitVec 32 × BitVec 32) :
    roundsA p = round 6#32 26#32 (round 26#32 6#32 (round 15#32 17#32 (round 13#32 19#32 p))) := rfl
/-- Four rounds of the second kind, one by one. -/
theorem roundsB_eq (p : BitVec 32 × BitVec 32) :
    roundsB p = round 24#32 8#32 (round 16#32 16#32 (round 29#32 3#32 (round 17#32 15#32 p))) := rfl

/-- The first class's noise at an entry is the noise of the entry's counter, when the stretches follow one another. -/
theorem first_noise {e a b c d f g h k l m n : IVec S512x128 32} (y : S512x128.Idx)
    (ha : a y = (round 6#32 26#32 (round 26#32 6#32 (round 15#32 17#32 (round 13#32 19#32 (0#32, IntOp.addi (e y) 1#32))))).1)
    (hb : b y = IntOp.shli .vector (round 26#32 6#32 (round 15#32 17#32 (round 13#32 19#32 (0#32, IntOp.addi (e y) 1#32)))).2 6#32)
    (hc : c y = IntOp.shrui .vector (round 26#32 6#32 (round 15#32 17#32 (round 13#32 19#32 (0#32, IntOp.addi (e y) 1#32)))).2 26#32)
    (hd : d = k0_pay26 a b c) (hf : f = k0_pay27 a b c) (hg : g = k0_pay28 a b c)
    (hh : h = k0_pay39 d f g) (hk : k = k0_pay40 d f g)
    (hl : l = k0_pay50 h k) (hm : m = k0_pay51 h k) (hn : n = k0_pay52 h k) :
    k0_pay53 (F := F) l m n y = noise (bits (e y)) := by
  have h8 : after8 (a y) (b y) (c y) = key 466688987#32 0#32 2#32 (roundsB (key 1#32 466688987#32 1#32
      (roundsA (0#32, IntOp.addi (e y) 1#32)))) := by
    rw [ha, hb, hc]; rfl
  have h14 : after14 (d y) (f y) (g y) = round 29#32 3#32 (round 17#32 15#32 (key 0#32 1#32 3#32 (roundsA (after8 (a y) (b y) (c y))))) := by
    rw [hd, hf, hg, pay26_at, pay27_at, pay28_at, after14_pair]
  have h19 : after19 (h y) (k y) = round 26#32 6#32 (round 15#32 17#32 (round 13#32 19#32 (key 1#32 466688987#32 4#32 (roundsB
      (key 0#32 1#32 3#32 (roundsA (after8 (a y) (b y) (c y)))))))) := by
    rw [hh, hk, pay39_at, pay40_at, after19_pair, h14, roundsB_eq]
  rw [pay53_at, hl, hm, hn, pay50_at, pay51_at, pay52_at, mix_round, h19, h8, bits_rounds, roundsA_eq (key 1#32 466688987#32 4#32 _)]

/-- The second class's noise at an entry is the noise of the counter after the entry's. -/
theorem second_noise {e a b c d f g h k l m n : IVec S512x128 32} (y : S512x128.Idx)
    (ha : a = k0_pay57 e) (hb : b = k0_pay58 e) (hc : c = k0_pay59 e)
    (hd : d = k0_pay70 a b c) (hf : f = k0_pay71 a b c) (hg : g = k0_pay72 a b c)
    (hh : h = k0_pay81 d f g) (hk : k = k0_pay82 d f g)
    (hl : l = k0_pay92 h k) (hm : m = k0_pay93 h k) (hn : n = k0_pay94 h k) :
    k0_pay95 (F := F) l m n y = noise (bits (IntOp.addi (e y) 1#32)) := by
  have h7 : after7 (a y) (b y) (c y) = round 16#32 16#32 (round 29#32 3#32 (round 17#32 15#32 (key 1#32 466688987#32 1#32
      (roundsA (0#32, IntOp.addi (IntOp.addi (e y) 1#32) 1#32))))) := by
    rw [ha, hb, hc, pay57_at, pay58_at, pay59_at]; rfl
  have h12 : after12 (d y) (f y) (g y) = key 0#32 1#32 3#32 (roundsA (key 466688987#32 0#32 2#32 (roundsB (key 1#32 466688987#32 1#32
      (roundsA (0#32, IntOp.addi (IntOp.addi (e y) 1#32) 1#32)))))) := by
    rw [hd, hf, hg, pay70_at, pay71_at, pay72_at, after12_pair, h7, roundsB_eq]
  have h17 : after17 (h y) (k y) = round 13#32 19#32 (key 1#32 466688987#32 4#32 (roundsB (after12 (d y) (f y) (g y)))) := by
    rw [hh, hk, pay81_at, pay82_at, after17_pair]
  rw [pay95_at, hl, hm, hn, pay92_at, pay93_at, pay94_at, mix_round, h17, h12, bits_rounds, roundsA_eq (key 1#32 466688987#32 4#32 _)]

end Cert.KernelIdeal.Value

end
-- ==== Proof.KernelStrips.lean ====
module

public import proofs.«01_k».proof.Proof.KernelNoise

/-! The noise of the four strips of 128 columns that the first call of the kernel makes of a block: at each entry of each
    strip the two classes' noise is drawn at the entry's counter and the one after it. -/

@[expose] public section

set_option maxRecDepth 65536

noncomputable section

namespace Cert.KernelIdeal.Value

open Idealize.ShloMosaic Idealize.ShloMosaic.TcCoe Idealize.ShloMosaic.Tactic Idealize.SL.Sem
open Cert.KernelIdeal.Gen Cert.KernelIdeal.Run Cert.Noise

variable {F : FTy → Type} [FloatOps F]

/-- The counter of two coordinates, as the body computes it on words. -/
def counterOf (r c : BitVec 32) : BitVec 32 :=
  IntOp.muli (IntOp.addi (IntOp.muli (IntOp.minsi r c) 4096#32) (IntOp.maxsi r c)) 2#32

/-- The counter of the unordered pair of two coordinates: twice the place, in row-major order, of the entry above the diagonal. -/
def pairCounter (r c : ℕ) : BitVec 32 := BitVec.ofNat 32 ((min r c * 4096 + max r c) * 2)

/-- On coordinates below 4096 the words' counter is the pair's counter. -/
theorem counterOf_eq {r c : ℕ} (hr : r < 4096) (hc : c < 4096) :
    counterOf (BitVec.ofNat 32 r) (BitVec.ofNat 32 c) = pairCounter r c := by
  have hri : (BitVec.ofNat 32 r).toInt = r := by
    rw [BitVec.toInt_eq_toNat_cond, BitVec.toNat_ofNat, Nat.mod_eq_of_lt (by omega), if_pos (by omega)]
  have hci : (BitVec.ofNat 32 c).toInt = c := by
    rw [BitVec.toInt_eq_toNat_cond, BitVec.toNat_ofNat, Nat.mod_eq_of_lt (by omega), if_pos (by omega)]
  have hmin : IntOp.minsi (BitVec.ofNat 32 r) (BitVec.ofNat 32 c) = BitVec.ofNat 32 (min r c) := by
    unfold IntOp.minsi
    rw [BitVec.slt, hri, hci]
    by_cases h : r < c
    · rw [if_pos (by simpa using h), min_eq_left h.le]
    · rw [if_neg (by simpa using h), min_eq_right (by omega)]
  have hmax : IntOp.maxsi (BitVec.ofNat 32 r) (BitVec.ofNat 32 c) = BitVec.ofNat 32 (max r c) := by
    unfold IntOp.maxsi
    rw [BitVec.slt, hri, hci]
    by_cases h : c < r
    · rw [if_pos (by simpa using h), max_eq_left h.le]
    · rw [if_neg (by simpa using h), max_eq_right (by omega)]
  unfold counterOf pairCounter
  rw [hmin, hmax]
  simp only [IntOp.muli, IntOp.addi, ← BitVec.ofNat_add, ← BitVec.ofNat_mul]

/-- The row of an entry of a block, in words. -/
theorem row_word (a r : ℕ) : IntOp.addi (Scalar.muli (BitVec.ofNat 32 a) 512#32) (BitVec.ofNat 32 r) = BitVec.ofNat 32 (a * 512 + r) := by
  simp only [IntOp.addi, Scalar.muli, IntOp.muli, ← BitVec.ofNat_add, ← BitVec.ofNat_mul]
/-- The column of an entry of a strip, in words. -/
theorem col_word (a o r : ℕ) : IntOp.addi (Scalar.addi (Scalar.muli (BitVec.ofNat 32 a) 512#32) (BitVec.ofNat 32 o)) (BitVec.ofNat 32 r)
    = BitVec.ofNat 32 (a * 512 + o + r) := by
  simp only [IntOp.addi, Scalar.addi, Scalar.muli, IntOp.muli, ← BitVec.ofNat_add, ← BitVec.ofNat_mul]

/-- The counters of a strip that starts at column `o` of its block. -/
def counters (i : grid0.Coords) (o : ℕ) : IVec S512x128 32 := fun y =>
  pairCounter ((i 0).val * 512 + (y 0).val) ((i 1).val * 512 + o + (y 1).val)

/-- Row and column words of a strip, put through the body's counter. -/
theorem counters_at (i : grid0.Coords) (o : ℕ) (ho : o ≤ 384) (y : S512x128.Idx) :
    counterOf (IntOp.addi (Scalar.muli (BitVec.ofNat 32 (i 0).val) 512#32) (iota .tc S512x128 32 [0] iota_S512x128_d0_w32 y))
      (IntOp.addi (Scalar.addi (Scalar.muli (BitVec.ofNat 32 (i 1).val) 512#32) (BitVec.ofNat 32 o)) (iota .tc S512x128 32 [1] iota_S512x128_d1_w32 y))
      = counters i o y := by
  have h0 : iota .tc S512x128 32 [0] iota_S512x128_d0_w32 y = BitVec.ofNat 32 (y 0).val := by
    simp [iota]
  have h1 : iota .tc S512x128 32 [1] iota_S512x128_d1_w32 y = BitVec.ofNat 32 (y 1).val := by
    simp [iota]
  have ha : (i 0).val < 8 := (i 0).isLt
  have hb : (i 1).val < 8 := (i 1).isLt
  have hy : (y 0).val < 512 := (y 0).isLt
  have hz : (y 1).val < 128 := (y 1).isLt
  rw [h0, h1, row_word, col_word, counterOf_eq (by omega) (by omega)]
  rfl

/-- The counters of strip 0. -/
theorem strip0_counters (i : grid0.Coords) : kernelRun0_A.sl.v107 i = counters i 0 := by
  funext y
  rw [← counters_at i 0 (by omega) y]
  sl_kernel_rfl
/-- The first class's noise on strip 0. -/
theorem strip0_first (i : grid0.Coords) (y : S512x128.Idx) : kernelRun0_A.sl.r_8 (F := F) i y = noise (bits (counters i 0 y)) := by
  refine Eq.trans ?_ ((first_noise (F := F) (e := (kernelRun0_A.sl.v107 i)) (a := (kernelRun0_A.sl.v132 i)) (b := (kernelRun0_A.sl.v134 i)) (c := (kernelRun0_A.sl.v136 i)) (d := (kernelRun0_A.sl.v178 i)) (f := (kernelRun0_A.sl.v179 i)) (g := (kernelRun0_A.sl.v181 i)) (h := (kernelRun0_A.sl.v226 i)) (k := (kernelRun0_A.sl.v227 i)) (l := (kernelRun0_A.sl.v268 i)) (m := (kernelRun0_A.sl.v270 i)) (n := (kernelRun0_A.sl.v272 i)) y (by sl_kernel_rfl) (by sl_kernel_rfl) (by sl_kernel_rfl) (by sl_kernel_rfl) (by sl_kernel_rfl) (by sl_kernel_rfl) (by sl_kernel_rfl) (by sl_kernel_rfl) (by sl_kernel_rfl) (by sl_kernel_rfl) (by sl_kernel_rfl)).trans (by rw [strip0_counters]))
  sl_kernel_rfl
/-- The second class's noise on strip 0. -/
theorem strip0_second (i : grid0.Coords) (y : S512x128.Idx) : kernelRun0_A.sl.r_12 (F := F) i y = noise (bits (IntOp.addi (counters i 0 y) 1#32)) := by
  refine Eq.trans ?_ ((second_noise (F := F) (e := (kernelRun0_A.sl.v107 i)) (a := (kernelRun0_A.sl.r_9 i)) (b := (kernelRun0_A.sl.r_10 i)) (c := (kernelRun0_A.sl.r_11 i)) (d := (kernelRun0_A.sl.v358 i)) (f := (kernelRun0_A.sl.v359 i)) (g := (kernelRun0_A.sl.v361 i)) (h := (kernelRun0_A.sl.v405 i)) (k := (kernelRun0_A.sl.v406 i)) (l := (kernelRun0_A.sl.v447 i)) (m := (kernelRun0_A.sl.v449 i)) (n := (kernelRun0_A.sl.v451 i)) y (by sl_kernel_rfl) (by sl_kernel_rfl) (by sl_kernel_rfl) (by sl_kernel_rfl) (by sl_kernel_rfl) (by sl_kernel_rfl) (by sl_kernel_rfl) (by sl_kernel_rfl) (by sl_kernel_rfl) (by sl_kernel_rfl) (by sl_kernel_rfl)).trans (by rw [strip0_counters]))
  sl_kernel_rfl

/-- The counters of strip 1. -/
theorem strip1_counters (i : grid0.Coords) : kernelRun0_A.sl.v107_1 i = counters i 128 := by
  funext y
  rw [← counters_at i 128 (by omega) y]
  sl_kernel_rfl
/-- The first class's noise on strip 1. -/
theorem strip1_first (i : grid0.Coords) (y : S512x128.Idx) : kernelRun0_A.sl.r_14 (F := F) i y = noise (bits (counters i 128 y)) := by
  refine Eq.trans ?_ ((first_noise (F := F) (e := (kernelRun0_A.sl.v107_1 i)) (a := (kernelRun0_A.sl.v132_1 i)) (b := (kernelRun0_A.sl.v134_1 i)) (c := (kernelRun0_A.sl.v136_1 i)) (d := (kernelRun0_A.sl.v178_1 i)) (f := (kernelRun0_A.sl.v179_1 i)) (g := (kernelRun0_A.sl.v181_1 i)) (h := (kernelRun0_A.sl.v226_1 i)) (k := (kernelRun0_A.sl.v227_1 i)) (l := (kernelRun0_A.sl.v268_1 i)) (m := (kernelRun0_A.sl.v270_1 i)) (n := (kernelRun0_A.sl.v272_1 i)) y (by sl_kernel_rfl) (by sl_kernel_rfl) (by sl_kernel_rfl) (by sl_kernel_rfl) (by sl_kernel_rfl) (by sl_kernel_rfl) (by sl_kernel_rfl) (by sl_kernel_rfl) (by sl_kernel_rfl) (by sl_kernel_rfl) (by sl_kernel_rfl)).trans (by rw [strip1_counters]))
  sl_kernel_rfl
/-- The second class's noise on strip 1. -/
theorem strip1_second (i : grid0.Coords) (y : S512x128.Idx) : kernelRun0_A.sl.r_18 (F := F) i y = noise (bits (IntOp.addi (counters i 128 y) 1#32)) := by
  refine Eq.trans ?_ ((second_noise (F := F) (e := (kernelRun0_A.sl.v107_1 i)) (a := (kernelRun0_A.sl.r_15 i)) (b := (kernelRun0_A.sl.r_16 i)) (c := (kernelRun0_A.sl.r_17 i)) (d := (kernelRun0_A.sl.v358_1 i)) (f := (kernelRun0_A.sl.v359_1 i)) (g := (kernelRun0_A.sl.v361_1 i)) (h := (kernelRun0_A.sl.v405_1 i)) (k := (kernelRun0_A.sl.v406_1 i)) (l := (kernelRun0_A.sl.v447_1 i)) (m := (kernelRun0_A.sl.v449_1 i)) (n := (kernelRun0_A.sl.v451_1 i)) y (by sl_kernel_rfl) (by sl_kernel_rfl) (by sl_kernel_rfl) (by sl_kernel_rfl) (by sl_kernel_rfl) (by sl_kernel_rfl) (by sl_kernel_rfl) (by sl_kernel_rfl) (by sl_kernel_rfl) (by sl_kernel_rfl) (by sl_kernel_rfl)).trans (by rw [strip1_counters]))
  sl_kernel_rfl

/-- The counters of strip 2. -/
theorem strip2_counters (i : grid0.Coords) : kernelRun0_A.sl.r_22 i = counters i 256 := by
  funext y
  rw [← counters_at i 256 (by omega) y]
  sl_kernel_rfl
/-- The first class's noise on strip 2. -/
theorem strip2_first (i : grid0.Coords) (y : S512x128.Idx) : kernelRun0_A.sl.r_34 (F := F) i y = noise (bits (counters i 256 y)) := by
  refine Eq.trans ?_ ((first_noise (F := F) (e := (kernelRun0_A.sl.r_22 i)) (a := (kernelRun0_A.sl.r_23 i)) (b := (kernelRun0_A.sl.r_24 i)) (c := (kernelRun0_A.sl.r_25 i)) (d := (kernelRun0_A.sl.r_26 i)) (f := (kernelRun0_A.sl.r_27 i)) (g := (kernelRun0_A.sl.r_28 i)) (h := (kernelRun0_A.sl.r_29 i)) (k := (kernelRun0_A.sl.r_30 i)) (l := (kernelRun0_A.sl.r_31 i)) (m := (kernelRun0_A.sl.r_32 i)) (n := (kernelRun0_A.sl.r_33 i)) y (by sl_kernel_rfl) (by sl_kernel_rfl) (by sl_kernel_rfl) (by sl_kernel_rfl) (by sl_kernel_rfl) (by sl_kernel_rfl) (by sl_kernel_rfl) (by sl_kernel_rfl) (by sl_kernel_rfl) (by sl_kernel_rfl) (by sl_kernel_rfl)).trans (by rw [strip2_counters]))
  sl_kernel_rfl
/-- The second class's noise on strip 2. -/
theorem strip2_second (i : grid0.Coords) (y : S512x128.Idx) : kernelRun0_A.sl.r_46 (F := F) i y = noise (bits (IntOp.addi (counters i 256 y) 1#32)) := by
  refine Eq.trans ?_ ((second_noise (F := F) (e := (kernelRun0_A.sl.r_22 i)) (a := (kernelRun0_A.sl.r_35 i)) (b := (kernelRun0_A.sl.r_36 i)) (c := (kernelRun0_A.sl.r_37 i)) (d := (kernelRun0_A.sl.r_38 i)) (f := (kernelRun0_A.sl.r_39 i)) (g := (kernelRun0_A.sl.r_40 i)) (h := (kernelRun0_A.sl.r_41 i)) (k := (kernelRun0_A.sl.r_42 i)) (l := (kernelRun0_A.sl.r_43 i)) (m := (kernelRun0_A.sl.r_44 i)) (n := (kernelRun0_A.sl.r_45 i)) y (by sl_kernel_rfl) (by sl_kernel_rfl) (by sl_kernel_rfl) (by sl_kernel_rfl) (by sl_kernel_rfl) (by sl_kernel_rfl) (by sl_kernel_rfl) (by sl_kernel_rfl) (by sl_kernel_rfl) (by sl_kernel_rfl) (by sl_kernel_rfl)).trans (by rw [strip2_counters]))
  sl_kernel_rfl

/-- The counters of strip 3. -/
theorem strip3_counters (i : grid0.Coords) : kernelRun0_A.sl.r_48 i = counters i 384 := by
  funext y
  rw [← counters_at i 384 (by omega) y]
  sl_kernel_rfl
/-- The first class's noise on strip 3. -/
theorem strip3_first (i : grid0.Coords) (y : S512x128.Idx) : kernelRun0_A.sl.r_60 (F := F) i y = noise (bits (counters i 384 y)) := by
  refine Eq.trans ?_ ((first_noise (F := F) (e := (kernelRun0_A.sl.r_48 i)) (a := (kernelRun0_A.sl.r_49 i)) (b := (kernelRun0_A.sl.r_50 i)) (c := (kernelRun0_A.sl.r_51 i)) (d := (kernelRun0_A.sl.r_52 i)) (f := (kernelRun0_A.sl.r_53 i)) (g := (kernelRun0_A.sl.r_54 i)) (h := (kernelRun0_A.sl.r_55 i)) (k := (kernelRun0_A.sl.r_56 i)) (l := (kernelRun0_A.sl.r_57 i)) (m := (kernelRun0_A.sl.r_58 i)) (n := (kernelRun0_A.sl.r_59 i)) y (by sl_kernel_rfl) (by sl_kernel_rfl) (by sl_kernel_rfl) (by sl_kernel_rfl) (by sl_kernel_rfl) (by sl_kernel_rfl) (by sl_kernel_rfl) (by sl_kernel_rfl) (by sl_kernel_rfl) (by sl_kernel_rfl) (by sl_kernel_rfl)).trans (by rw [strip3_counters]))
  sl_kernel_rfl
/-- The second class's noise on strip 3. -/
theorem strip3_second (i : grid0.Coords) (y : S512x128.Idx) : kernelRun0_A.sl.r_72 (F := F) i y = noise (bits (IntOp.addi (counters i 384 y) 1#32)) := by
  refine Eq.trans ?_ ((second_noise (F := F) (e := (kernelRun0_A.sl.r_48 i)) (a := (kernelRun0_A.sl.r_61 i)) (b := (kernelRun0_A.sl.r_62 i)) (c := (kernelRun0_A.sl.r_63 i)) (d := (kernelRun0_A.sl.r_64 i)) (f := (kernelRun0_A.sl.r_65 i)) (g := (kernelRun0_A.sl.r_66 i)) (h := (kernelRun0_A.sl.r_67 i)) (k := (kernelRun0_A.sl.r_68 i)) (l := (kernelRun0_A.sl.r_69 i)) (m := (kernelRun0_A.sl.r_70 i)) (n := (kernelRun0_A.sl.r_71 i)) y (by sl_kernel_rfl) (by sl_kernel_rfl) (by sl_kernel_rfl) (by sl_kernel_rfl) (by sl_kernel_rfl) (by sl_kernel_rfl) (by sl_kernel_rfl) (by sl_kernel_rfl) (by sl_kernel_rfl) (by sl_kernel_rfl) (by sl_kernel_rfl)).trans (by rw [strip3_counters]))
  sl_kernel_rfl

end Cert.KernelIdeal.Value

end
-- ==== Proof.KernelBlock.lean ====
module

public import proofs.«01_k».proof.Proof.KernelStrips
public import Idealize.ShloMosaic.Lib.Pipeline.Value
public import Idealize.ShloMosaic.Lib.Pipeline.ValueKit
public import Idealize.ShloMosaic.Lib.ValueIdxCore

/-! What one step of each call leaves in the blocks that it writes, entry by entry. -/

@[expose] public section

set_option maxRecDepth 65536

noncomputable section

namespace Cert.KernelIdeal.Value

open Idealize.ShloMosaic Idealize.ShloMosaic.TcCoe Idealize.ShloMosaic.Tactic Idealize.SL.Sem
open Cert.KernelIdeal.Gen Cert.KernelIdeal.Run Cert.Noise

variable {F : FTy → Type} [FloatOps F]

/-- One of two numbers, by whether the edge is on (its second entry is above a half). -/
def pick (off on x : F .f32) : F .f32 :=
  Scalar.select (FloatOps.cmpf .ogt x (FloatOps.ofBits .f32 0x3F000000#32)) on off

/-- The class drawn for an edge from the table of numbers, the edge's second entry and its counter: 1 where the second
    class's log-probability with its noise is the larger. -/
def edgeClass (s : S8.Idx → F .f32) (x : F .f32) (e : BitVec 32) : BitVec 32 :=
  (FloatOps.cmpf .ogt
    (FloatOps.addf (pick (s (ix1 5)) (s (ix1 7)) x) (noise (bits (IntOp.addi e 1#32))))
    (FloatOps.addf (pick (s (ix1 4)) (s (ix1 6)) x) (noise (bits e)))).setWidth 32

/-- A probability of an edge: of its first class in the even rows, of its second in the odd ones. -/
def edgeProb (s : S8.Idx → F .f32) (q : ℕ) (x : F .f32) : F .f32 :=
  if q % 2 = 0 then pick (s (ix1 0)) (s (ix1 2)) x else pick (s (ix1 1)) (s (ix1 3)) x

/-! ## Loads -/

/-- A load of one number of the table. -/
theorem number_at (arg2 : Memref sig .tc .smem S8 .f32) (harg2 : arg2.IsWhole) (x0 : S8.Idx → Elt F .f32) (n : ℕ) (hn : n < 8)
    (inb) (h) :
    View.readAt (Elt F) arg2.view (Rect.unit (s := S8) ![n] S1.size inb).toLoadRect (harg2.unread x0) (Shape.Idx.first h) = x0 (ix1 ⟨n, hn⟩) := by
  rw [View.readAt_eq_ld, harg2.read_unread]
  refine View.ld_unit_apply_of x0 _ _ inb _ _ ?_
  intro a
  match a with | ⟨0, _⟩ => rfl

/-- A load of one row of lanes, read as a two-dimensional block. -/
theorem lanes_at (arg3 : Memref sig .tc .vmem S512x8x128 .f32) (harg3 : arg3.IsWhole) (x1 : S512x8x128.Idx → Elt F .f32) (n : ℕ) (hn : n < 8)
    (inb) (h : S512x1x128.ShapeCasts S512x128) (y : S512x128.Idx) :
    shapeCast S512x128 (View.readAt (Elt F) arg3.view (Rect.unit (s := S512x8x128) ![0, n, 0] S512x1x128.size inb).toLoadRect (harg3.unread x1)) h y
      = x1 (ix3 (y 0) ⟨n, hn⟩ (y 1)) := by
  rw [View.readAt_eq_ld, harg3.read_unread]
  refine (shapeCast_apply (s := S512x1x128) _ h y (ix3 (y 0) 0 (y 1)) ?_).trans ?_
  · rw [Shape.rowMajor_val_three, Shape.rowMajor_val_two]
    show ((y 0).val * 1 + 0) * 128 + (y 1).val = (y 0).val * 128 + (y 1).val
    omega
  · refine View.ld_unit_apply_of x1 _ _ inb _ _ ?_
    intro a
    match a with
    | ⟨0, _⟩ => show (y 0).val = 0 + (y 0).val; omega
    | ⟨1, _⟩ => show n = n + 0; rfl
    | ⟨2, _⟩ => show (y 1).val = 0 + (y 1).val; omega

/-! ## The first call -/

/-- The value stored on a strip at an entry, from the strip's values at that entry. -/
theorem strip_at (v5 v7 v4 v6 : Elt F .f32) (w : Vec F S512x1x128 .f32) (n0 n1 : FVec F S512x128 .f32) (y : S512x128.Idx) :
    k0_pay370 v5 v7 w n0 n1 (k0_pay96 v4 v6 (k0_pay367 w)) y =
      (FloatOps.cmpf .ogt
        (FloatOps.addf (pick v5 v7 (shapeCast S512x128 w shapeCasts_S512x1x128_S512x128 y)) (n1 y))
        (FloatOps.addf (pick v4 v6 (shapeCast S512x128 w shapeCasts_S512x1x128_S512x128 y)) (n0 y))).setWidth 32 := by
  sl_kernel_rfl

/-- The probabilities of a block of edges. -/
def probBlock (s : S8.Idx → F .f32) (X : S512x8x128.Idx → F .f32) : S512x8x128.Idx → F .f32 := fun y =>
  edgeProb s (y 1).val (X (ix3 (y 0) ⟨2 * ((y 1).val / 2) + 1, by have h : (y 1).val < 8 := (y 1).isLt; show _ < 8; omega⟩ (y 2)))

/-- The classes of a block of edges. -/
def classBlock (i : grid0.Coords) (s : S8.Idx → F .f32) (X : S512x8x128.Idx → F .f32) : S512x512.Idx → BitVec 32 := fun y =>
  edgeClass s (X (ix3 (y 0) ⟨2 * ((y 1).val / 128) + 1, by have h : (y 1).val < 512 := (y 1).isLt; show _ < 8; omega⟩ ⟨(y 1).val % 128, by show _ < 128; omega⟩))
    (pairCounter ((i 0).val * 512 + (y 0).val) ((i 1).val * 512 + (y 1).val))

/-- A two-dimensional block read as one row of lanes. -/
theorem row_at (v : FVec F S512x128 .f32) (h : S512x128.ShapeCasts S512x1x128) (x : S512x1x128.Idx) :
    shapeCast S512x1x128 v h x = v (ix2 (x 0) (x 2)) := by
  refine shapeCast_apply (s := S512x128) _ h x (ix2 (x 0) (x 2)) ?_
  rw [Shape.rowMajor_val_three, Shape.rowMajor_val_two]
  have h1 : (x 1).val < 1 := (x 1).isLt
  show (x 0).val * 128 + (x 2).val = ((x 0).val * 1 + (x 1).val) * 128 + (x 2).val
  omega

/-- The place in the block of an entry of row `q`. -/
theorem row_place (q : ℕ) (hq : q < 8) (inb) (x : S512x1x128.Idx) :
    (Rect.unit (s := S512x8x128) ![0, q, 0] S512x1x128.size inb).emb x = ix3 (x 0) ⟨q, hq⟩ (x 2) := by
  have h1 : (x 1).val < 1 := (x 1).isLt
  funext a
  apply Fin.ext
  match a with
  | ⟨0, _⟩ => show 0 + 1 * (x 0).val = (x 0).val; omega
  | ⟨1, _⟩ => show q + 1 * (x 1).val = q; omega
  | ⟨2, _⟩ => show 0 + 1 * (x 2).val = (x 2).val; omega

/-- A row of numbers picked by the second entries in row `n` is, when the row stored is `q` and `n` its pair's odd row, the
    probabilities of that row. -/
theorem row_value (arg3 : Memref sig .tc .vmem S512x8x128 .f32) (harg3 : arg3.IsWhole) (x0 : S8.Idx → Elt F .f32) (x1 : S512x8x128.Idx → Elt F .f32) (off on : F .f32)
    (q n : ℕ) (hq : q < 8) (hn : n < 8) (hqn : n = 2 * (q / 2) + 1) (inb inb')
    (hp : ∀ x : F .f32, edgeProb x0 q x = pick off on x) (h : S512x128.ShapeCasts S512x1x128) (h' : S512x1x128.ShapeCasts S512x128) (x : S512x1x128.Idx) :
    shapeCast S512x1x128 (fun y => pick off on (shapeCast S512x128 (View.readAt (Elt F) arg3.view (Rect.unit (s := S512x8x128) ![0, n, 0] S512x1x128.size inb).toLoadRect (harg3.unread x1)) h' y)) h x
      = probBlock x0 x1 ((Rect.unit (s := S512x8x128) ![0, q, 0] S512x1x128.size inb').emb x) := by
  subst hqn
  rw [row_at, lanes_at arg3 harg3 x1 _ hn, row_place q hq]
  exact (hp _).symm

/-- The place in the block of an entry of the strip that starts at column `o`. -/
theorem strip_place (o : ℕ) (ho : o + 128 ≤ 512) (inb) (x : S512x128.Idx) :
    (Rect.unit (s := S512x512) ![0, o] S512x128.size inb).emb x = ix2 (x 0) ⟨o + (x 1).val, by have h : (x 1).val < 128 := (x 1).isLt; omega⟩ := by
  funext a
  apply Fin.ext
  match a with
  | ⟨0, _⟩ => show 0 + 1 * (x 0).val = (x 0).val; omega
  | ⟨1, _⟩ => show o + 1 * (x 1).val = o + (x 1).val; omega

/-- A strip's stored values are the classes at its place in the block. -/
theorem strip_value (i : grid0.Coords) (arg3 : Memref sig .tc .vmem S512x8x128 .f32) (harg3 : arg3.IsWhole) (x0 : S8.Idx → Elt F .f32) (x1 : S512x8x128.Idx → Elt F .f32)
    (k : ℕ) (hk : k < 4) (inb inb') (n0 n1 : FVec F S512x128 .f32) (x : S512x128.Idx)
    (h0 : n0 x = noise (bits (counters i (128 * k) x))) (h1 : n1 x = noise (bits (IntOp.addi (counters i (128 * k) x) 1#32))) :
    k0_pay370 (x0 (ix1 5)) (x0 (ix1 7)) (View.readAt (Elt F) arg3.view (Rect.unit (s := S512x8x128) ![0, 2 * k + 1, 0] S512x1x128.size inb).toLoadRect (harg3.unread x1)) n0 n1
      (k0_pay96 (x0 (ix1 4)) (x0 (ix1 6)) (k0_pay367 (View.readAt (Elt F) arg3.view (Rect.unit (s := S512x8x128) ![0, 2 * k + 1, 0] S512x1x128.size inb).toLoadRect (harg3.unread x1)))) x
      = classBlock i x0 x1 ((Rect.unit (s := S512x512) ![0, 128 * k] S512x128.size inb').emb x) := by
  have hx : (x 1).val < 128 := (x 1).isLt
  rw [strip_at, lanes_at arg3 harg3 x1 _ (by omega), h0, h1, strip_place _ (by omega)]
  have e1 : (⟨2 * ((128 * k + (x 1).val) / 128) + 1, by omega⟩ : Fin 8) = ⟨2 * k + 1, by omega⟩ := Fin.ext (by show _ = _; dsimp only; omega)
  have e2 : (⟨(128 * k + (x 1).val) % 128, by omega⟩ : Fin 128) = x 1 := Fin.ext (by show _ = (x 1).val; dsimp only; omega)
  show _ = edgeClass x0 (x1 (ix3 (x 0) ⟨2 * ((128 * k + (x 1).val) / 128) + 1, _⟩ ⟨(128 * k + (x 1).val) % 128, _⟩))
    (pairCounter ((i 0).val * 512 + (x 0).val) ((i 1).val * 512 + (128 * k + (x 1).val)))
  rw [e1, e2, ← Nat.add_assoc ((i 1).val * 512)]
  rfl

/-- The classes that a step at or above the diagonal leaves. -/
theorem out0_A_3_eq (c : Dev nD) (i : grid0.Coords) (arg2 : Memref sig .tc .smem S8 .f32) (harg2 : arg2.IsWhole) (arg3 : Memref sig .tc .vmem S512x8x128 .f32) (harg3 : arg3.IsWhole) (arg4 : Memref sig .tc .vmem S512x8x128 .f32) (harg4 : arg4.IsWhole) (arg5 : Memref sig .tc .vmem S512x512 .i32) (harg5 : arg5.IsWhole) (hc0 : cond0_0 i) (hc1 : cond0_1 i) (hc2 : cond0_2 i) (hc3 : cond0_3 i)
    (x0 : S8.Idx → Elt F .f32) (x1 : S512x8x128.Idx → Elt F .f32) :
    out0_A_3 c i arg2 harg2 arg3 harg3 arg4 harg4 arg5 harg5 hc0 hc1 hc2 hc3 x0 x1 = classBlock i x0 x1 := by
    funext y
    unfold out0_A_3
    have hcov := cover0_A_3 c i arg2 harg2 arg3 harg3 arg4 harg4 arg5 harg5 hc0 hc1 hc2 hc3 x0 x1 y
    refine (View.read_writes_apply_eq_canon _ _ y _ hcov).trans (View.canon_apply_of_pieces _ _ ?_ y hcov)
    unfold kernelRun0_A
    dsimp only
    intro p hp
    simp only [List.mem_cons, List.not_mem_nil, or_false] at hp
    have e4 : kernelRun0_A.sl.r_4 (F := F) c arg2 harg2 x0 = x0 (ix1 4) := number_at arg2 harg2 x0 4 (by omega) _ _
    have e5 : kernelRun0_A.sl.r_5 (F := F) c arg2 harg2 x0 = x0 (ix1 5) := number_at arg2 harg2 x0 5 (by omega) _ _
    have e6 : kernelRun0_A.sl.r_6 (F := F) c arg2 harg2 x0 = x0 (ix1 6) := number_at arg2 harg2 x0 6 (by omega) _ _
    have e7 : kernelRun0_A.sl.r_7 (F := F) c arg2 harg2 x0 = x0 (ix1 7) := number_at arg2 harg2 x0 7 (by omega) _ _
    have hs := strip_value (F := F) i arg3 harg3 x0 x1
    rw [← e4, ← e5, ← e6, ← e7] at hs
    rcases hp with rfl | rfl | rfl | rfl
    all_goals intro x
    · exact hs 3 (by omega) inb_S512x8x128_S512x1x128_0_7_0 inb_S512x512_S512x128_0_384 _ _ x (strip3_first i x) (strip3_second i x)
    · exact hs 2 (by omega) inb_S512x8x128_S512x1x128_0_5_0 inb_S512x512_S512x128_0_256 _ _ x (strip2_first i x) (strip2_second i x)
    · exact hs 1 (by omega) inb_S512x8x128_S512x1x128_0_3_0 inb_S512x512_S512x128_0_128 _ _ x (strip1_first i x) (strip1_second i x)
    · exact hs 0 (by omega) inb_S512x8x128_S512x1x128_0_1_0 inb_S512x512_S512x128_0_0 _ _ x (strip0_first i x) (strip0_second i x)

/-- The probabilities that a step at or above the diagonal leaves. -/
theorem out0_A_2_eq (c : Dev nD) (i : grid0.Coords) (arg2 : Memref sig .tc .smem S8 .f32) (harg2 : arg2.IsWhole) (arg3 : Memref sig .tc .vmem S512x8x128 .f32) (harg3 : arg3.IsWhole) (arg4 : Memref sig .tc .vmem S512x8x128 .f32) (harg4 : arg4.IsWhole) (arg5 : Memref sig .tc .vmem S512x512 .i32) (harg5 : arg5.IsWhole) (hc0 : cond0_0 i) (hc1 : cond0_1 i) (hc2 : cond0_2 i) (hc3 : cond0_3 i)
    (x0 : S8.Idx → Elt F .f32) (x1 : S512x8x128.Idx → Elt F .f32) :
    out0_A_2 c i arg2 harg2 arg3 harg3 arg4 harg4 arg5 harg5 hc0 hc1 hc2 hc3 x0 x1 = probBlock x0 x1 := by
    funext y
    unfold out0_A_2
    have hcov := cover0_A_2 c i arg2 harg2 arg3 harg3 arg4 harg4 arg5 harg5 hc0 hc1 hc2 hc3 x0 x1 y
    refine (View.read_writes_apply_eq_canon _ _ y _ hcov).trans (View.canon_apply_of_pieces _ _ ?_ y hcov)
    unfold kernelRun0_A
    dsimp only
    intro p hp
    simp only [List.mem_cons, List.not_mem_nil, or_false] at hp
    have e0 : kernelRun0_A.sl.r (F := F) c arg2 harg2 x0 = x0 (ix1 0) := number_at arg2 harg2 x0 0 (by omega) _ _
    have e1 : kernelRun0_A.sl.r_1 (F := F) c arg2 harg2 x0 = x0 (ix1 1) := number_at arg2 harg2 x0 1 (by omega) _ _
    have e2 : kernelRun0_A.sl.r_2 (F := F) c arg2 harg2 x0 = x0 (ix1 2) := number_at arg2 harg2 x0 2 (by omega) _ _
    have e3 : kernelRun0_A.sl.r_3 (F := F) c arg2 harg2 x0 = x0 (ix1 3) := number_at arg2 harg2 x0 3 (by omega) _ _
    have he := row_value (F := F) arg3 harg3 x0 x1 (x0 (ix1 0)) (x0 (ix1 2))
    have ho := row_value (F := F) arg3 harg3 x0 x1 (x0 (ix1 1)) (x0 (ix1 3))
    rw [← e0, ← e2] at he
    rw [← e1, ← e3] at ho
    rcases hp with rfl | rfl | rfl | rfl | rfl | rfl | rfl | rfl
    all_goals intro x
    · exact ho 7 7 (by omega) (by omega) (by omega) inb_S512x8x128_S512x1x128_0_7_0 inb_S512x8x128_S512x1x128_0_7_0 (fun _ => by rw [e1, e3]; rfl) shapeCasts_S512x128_S512x1x128 shapeCasts_S512x1x128_S512x128 x
    · exact he 6 7 (by omega) (by omega) (by omega) inb_S512x8x128_S512x1x128_0_7_0 inb_S512x8x128_S512x1x128_0_6_0 (fun _ => by rw [e0, e2]; rfl) shapeCasts_S512x128_S512x1x128 shapeCasts_S512x1x128_S512x128 x
    · exact ho 5 5 (by omega) (by omega) (by omega) inb_S512x8x128_S512x1x128_0_5_0 inb_S512x8x128_S512x1x128_0_5_0 (fun _ => by rw [e1, e3]; rfl) shapeCasts_S512x128_S512x1x128 shapeCasts_S512x1x128_S512x128 x
    · exact he 4 5 (by omega) (by omega) (by omega) inb_S512x8x128_S512x1x128_0_5_0 inb_S512x8x128_S512x1x128_0_4_0 (fun _ => by rw [e0, e2]; rfl) shapeCasts_S512x128_S512x1x128 shapeCasts_S512x1x128_S512x128 x
    · exact ho 3 3 (by omega) (by omega) (by omega) inb_S512x8x128_S512x1x128_0_3_0 inb_S512x8x128_S512x1x128_0_3_0 (fun _ => by rw [e1, e3]; rfl) shapeCasts_S512x128_S512x1x128 shapeCasts_S512x1x128_S512x128 x
    · exact he 2 3 (by omega) (by omega) (by omega) inb_S512x8x128_S512x1x128_0_3_0 inb_S512x8x128_S512x1x128_0_2_0 (fun _ => by rw [e0, e2]; rfl) shapeCasts_S512x128_S512x1x128 shapeCasts_S512x1x128_S512x128 x
    · exact ho 1 1 (by omega) (by omega) (by omega) inb_S512x8x128_S512x1x128_0_1_0 inb_S512x8x128_S512x1x128_0_1_0 (fun _ => by rw [e1, e3]; rfl) shapeCasts_S512x128_S512x1x128 shapeCasts_S512x1x128_S512x128 x
    · exact he 0 1 (by omega) (by omega) (by omega) inb_S512x8x128_S512x1x128_0_1_0 inb_S512x8x128_S512x1x128_0_0_0 (fun _ => by rw [e0, e2]; rfl) shapeCasts_S512x128_S512x1x128 shapeCasts_S512x1x128_S512x128 x

/-- The probabilities that a step below the diagonal leaves. -/
theorem out0_B_2_eq (c : Dev nD) (i : grid0.Coords) (arg2 : Memref sig .tc .smem S8 .f32) (harg2 : arg2.IsWhole) (arg3 : Memref sig .tc .vmem S512x8x128 .f32) (harg3 : arg3.IsWhole) (arg4 : Memref sig .tc .vmem S512x8x128 .f32) (harg4 : arg4.IsWhole) (arg5 : Memref sig .tc .vmem S512x512 .i32) (harg5 : arg5.IsWhole) (hc0 : ¬cond0_0 i) (hc1 : ¬cond0_1 i) (hc2 : ¬cond0_2 i) (hc3 : ¬cond0_3 i)
    (x0 : S8.Idx → Elt F .f32) (x1 : S512x8x128.Idx → Elt F .f32) :
    out0_B_2 c i arg2 harg2 arg3 harg3 arg4 harg4 arg5 harg5 hc0 hc1 hc2 hc3 x0 x1 = probBlock x0 x1 := by
    funext y
    unfold out0_B_2
    have hcov := cover0_B_2 c i arg2 harg2 arg3 harg3 arg4 harg4 arg5 harg5 hc0 hc1 hc2 hc3 x0 x1 y
    refine (View.read_writes_apply_eq_canon _ _ y _ hcov).trans (View.canon_apply_of_pieces _ _ ?_ y hcov)
    unfold kernelRun0_B
    dsimp only
    intro p hp
    simp only [List.mem_cons, List.not_mem_nil, or_false] at hp
    have e0 : kernelRun0_B.sl.r (F := F) c arg2 harg2 x0 = x0 (ix1 0) := number_at arg2 harg2 x0 0 (by omega) _ _
    have e1 : kernelRun0_B.sl.r_1 (F := F) c arg2 harg2 x0 = x0 (ix1 1) := number_at arg2 harg2 x0 1 (by omega) _ _
    have e2 : kernelRun0_B.sl.r_2 (F := F) c arg2 harg2 x0 = x0 (ix1 2) := number_at arg2 harg2 x0 2 (by omega) _ _
    have e3 : kernelRun0_B.sl.r_3 (F := F) c arg2 harg2 x0 = x0 (ix1 3) := number_at arg2 harg2 x0 3 (by omega) _ _
    have he := row_value (F := F) arg3 harg3 x0 x1 (x0 (ix1 0)) (x0 (ix1 2))
    have ho := row_value (F := F) arg3 harg3 x0 x1 (x0 (ix1 1)) (x0 (ix1 3))
    rw [← e0, ← e2] at he
    rw [← e1, ← e3] at ho
    rcases hp with rfl | rfl | rfl | rfl | rfl | rfl | rfl | rfl
    all_goals intro x
    · exact ho 7 7 (by omega) (by omega) (by omega) inb_S512x8x128_S512x1x128_0_7_0 inb_S512x8x128_S512x1x128_0_7_0 (fun _ => by rw [e1, e3]; rfl) shapeCasts_S512x128_S512x1x128 shapeCasts_S512x1x128_S512x128 x
    · exact he 6 7 (by omega) (by omega) (by omega) inb_S512x8x128_S512x1x128_0_7_0 inb_S512x8x128_S512x1x128_0_6_0 (fun _ => by rw [e0, e2]; rfl) shapeCasts_S512x128_S512x1x128 shapeCasts_S512x1x128_S512x128 x
    · exact ho 5 5 (by omega) (by omega) (by omega) inb_S512x8x128_S512x1x128_0_5_0 inb_S512x8x128_S512x1x128_0_5_0 (fun _ => by rw [e1, e3]; rfl) shapeCasts_S512x128_S512x1x128 shapeCasts_S512x1x128_S512x128 x
    · exact he 4 5 (by omega) (by omega) (by omega) inb_S512x8x128_S512x1x128_0_5_0 inb_S512x8x128_S512x1x128_0_4_0 (fun _ => by rw [e0, e2]; rfl) shapeCasts_S512x128_S512x1x128 shapeCasts_S512x1x128_S512x128 x
    · exact ho 3 3 (by omega) (by omega) (by omega) inb_S512x8x128_S512x1x128_0_3_0 inb_S512x8x128_S512x1x128_0_3_0 (fun _ => by rw [e1, e3]; rfl) shapeCasts_S512x128_S512x1x128 shapeCasts_S512x1x128_S512x128 x
    · exact he 2 3 (by omega) (by omega) (by omega) inb_S512x8x128_S512x1x128_0_3_0 inb_S512x8x128_S512x1x128_0_2_0 (fun _ => by rw [e0, e2]; rfl) shapeCasts_S512x128_S512x1x128 shapeCasts_S512x1x128_S512x128 x
    · exact ho 1 1 (by omega) (by omega) (by omega) inb_S512x8x128_S512x1x128_0_1_0 inb_S512x8x128_S512x1x128_0_1_0 (fun _ => by rw [e1, e3]; rfl) shapeCasts_S512x128_S512x1x128 shapeCasts_S512x1x128_S512x128 x
    · exact he 0 1 (by omega) (by omega) (by omega) inb_S512x8x128_S512x1x128_0_1_0 inb_S512x8x128_S512x1x128_0_0_0 (fun _ => by rw [e0, e2]; rfl) shapeCasts_S512x128_S512x1x128 shapeCasts_S512x1x128_S512x128 x

theorem two_zeros : (![0, 0] : Fin 2 → Nat) = fun _ => 0 := funext fun a => by fin_cases a <;> rfl

/-- What the mirror leaves above the diagonal. -/
theorem out1_B_1_eq (c : Dev nD) (i : grid1.Coords) (arg2 : Memref sig .tc .vmem S1024x1024 .i32) (harg2 : arg2.IsWhole) (arg3 : Memref sig .tc .vmem S1024x1024 .i32) (harg3 : arg3.IsWhole) (hc0 : ¬cond1_0 i) (hc1 : cond1_1 i) (hc2 : ¬cond1_2 i)
    (x0 : Vec F S1024x1024 .i32) :
    out1_B_1 c i arg2 harg2 arg3 harg3 hc0 hc1 hc2 x0 = x0 := by
  unfold out1_B_1
  rw [View.read_writes_eq_canon _ _ _ (cover1_B_1 c i arg2 harg2 arg3 harg3 hc0 hc1 hc2 x0)]
  unfold kernelRun1_B
  dsimp only
  rw [View.canon_unit_zero two_zeros]
  simp only [View.readAt_eq_ld, harg2.read_unread, View.ld_unit_zero (S := S1024x1024) two_zeros]
  exact shapeCast_self ..

/-- What the mirror leaves below the diagonal. -/
theorem out1_C_1_eq (c : Dev nD) (i : grid1.Coords) (arg2 : Memref sig .tc .vmem S1024x1024 .i32) (harg2 : arg2.IsWhole) (arg3 : Memref sig .tc .vmem S1024x1024 .i32) (harg3 : arg3.IsWhole) (hc0 : cond1_0 i) (hc1 : ¬cond1_1 i) (hc2 : ¬cond1_2 i)
    (x0 : Vec F S1024x1024 .i32) :
    out1_C_1 c i arg2 harg2 arg3 harg3 hc0 hc1 hc2 x0 = fun y => x0 (ix2 (y 1) (y 0)) := by
  unfold out1_C_1
  rw [View.read_writes_eq_canon _ _ _ (cover1_C_1 c i arg2 harg2 arg3 harg3 hc0 hc1 hc2 x0)]
  unfold kernelRun1_C
  dsimp only
  rw [View.canon_unit_zero two_zeros]
  simp only [View.readAt_eq_ld, harg2.read_unread, View.ld_unit_zero (S := S1024x1024) two_zeros]
  funext y
  unfold k1_pay2 k1_pay1
  dsimp only
  rw [shapeCast_self]
  refine congrArg x0 (eq_ix2 _ |>.trans ?_)
  rfl

/-- What the mirror leaves on the diagonal. -/
theorem out1_A_1_eq (c : Dev nD) (i : grid1.Coords) (arg2 : Memref sig .tc .vmem S1024x1024 .i32) (harg2 : arg2.IsWhole) (arg3 : Memref sig .tc .vmem S1024x1024 .i32) (harg3 : arg3.IsWhole) (hc0 : ¬cond1_0 i) (hc1 : ¬cond1_1 i) (hc2 : cond1_2 i)
    (x0 : Vec F S1024x1024 .i32) :
    out1_A_1 c i arg2 harg2 arg3 harg3 hc0 hc1 hc2 x0 = fun y => if (y 0).val ≤ (y 1).val then x0 y else x0 (ix2 (y 1) (y 0)) := by
  unfold out1_A_1
  rw [View.read_writes_eq_canon _ _ _ (cover1_A_1 c i arg2 harg2 arg3 harg3 hc0 hc1 hc2 x0)]
  unfold kernelRun1_A
  dsimp only
  rw [View.canon_unit_zero two_zeros]
  simp only [View.readAt_eq_ld, harg2.read_unread, View.ld_unit_zero (S := S1024x1024) two_zeros]
  funext y
  unfold k1_pay3 k1_pay1
  dsimp only
  rw [shapeCast_self]
  have h0 : (y 0).val < 1024 := (y 0).isLt
  have h1 : (y 1).val < 1024 := (y 1).isLt
  have hc : cmpi .sle (iota .tc S1024x1024 32 [0] iota_S1024x1024_d0_w32) (iota .tc S1024x1024 32 [1] iota_S1024x1024_d1_w32) y
      = BitVec.ofBool (decide ((y 0).val ≤ (y 1).val)) := by
    show IntOp.cmpi .sle _ _ = _
    simp only [iota, List.foldl_cons, List.foldl_nil, Nat.zero_mul, Nat.zero_add]
    exact WordCmp.cmpi_sle_ofNat (w := 32) (a := (y 0).val) (b := (y 1).val) (by omega) (by omega)
  show Scalar.select _ _ _ = _
  rw [hc]
  by_cases h : (y 0).val ≤ (y 1).val
  · rw [if_pos h, decide_eq_true h]; rfl
  · rw [if_neg h, decide_eq_false h]
    refine congrArg x0 (eq_ix2 _ |>.trans ?_)
    rfl

end Cert.KernelIdeal.Value

end
-- ==== Proof.KernelArrays.lean ====
module

public import proofs.«01_k».proof.Proof.KernelBlock
public import Idealize.ShloMosaic.Lib.Pipeline.Value
public import Idealize.ShloMosaic.Lib.Tactic

/-! What the arrays that the two calls write hold when the calls end: each as one function of the arrays they read. -/

@[expose] public section

set_option maxRecDepth 65536

noncomputable section

namespace Cert.KernelIdeal.Value

open Idealize.ShloMosaic Idealize.ShloMosaic.TcCoe Idealize.ShloMosaic.Tactic Idealize.SL.Sem
open Cert.KernelIdeal Cert.KernelIdeal.Gen Cert.KernelIdeal.Run Cert.Noise
open Idealize.ShloMosaic.Pipeline (Dat)

variable {F : FTy → Type} [FloatOps F]
variable (V : (c : Dev nD) → (b : Ref sig .tc) → Buf (Elt F) ((c : Thread nD τ).loc b))

/-- The grid coordinates of a point of the first call, in its number. -/
theorem coords0 : ∀ t : Fin grid0.N, (grid0.coords t 0).val = t.val / 8 ∧ (grid0.coords t 1).val = t.val % 8 := by decide +kernel
/-- The blocks that a point of the first call reads and writes. -/
theorem index0 : ∀ t : Fin grid0.N, win0_0.index t 0 = 0
    ∧ (win0_1.index t 0 = t.val / 8 ∧ win0_1.index t 1 = t.val % 8 ∧ win0_1.index t 2 = 0)
    ∧ (win0_2.index t 0 = t.val / 8 ∧ win0_2.index t 1 = t.val % 8 ∧ win0_2.index t 2 = 0) := by decide +kernel
/-- The block of classes of a point at or above the diagonal. -/
theorem index0_3 : ∀ t : Fin grid0.N, t.val / 8 ≤ t.val % 8 → win0_3.index t 0 = t.val / 8 ∧ win0_3.index t 1 = t.val % 8 := by decide +kernel
/-- The points at or above the diagonal write their block of classes back. -/
theorem flush0_3 : ∀ t : Fin cfg0.N, (cfg0.win 3).flush t = decide (t.val / 8 ≤ t.val % 8) := by decide +kernel
/-- The blocks that a point of the second call reads and writes. -/
theorem index1 : ∀ t : Fin grid1.N, (win1_0.index t 0 = min (t.val / 4) (t.val % 4) ∧ win1_0.index t 1 = max (t.val / 4) (t.val % 4))
    ∧ (win1_1.index t 0 = t.val / 4 ∧ win1_1.index t 1 = t.val % 4) := by decide +kernel

theorem numbers_block (c : Dev nD) (t : Fin cfg0.N) : (iblk0 V c 0 t : S8.Idx → F .f32) = V c main_v22 := by
  funext y
  unfold iblk0
  rw [View.read_apply]
  show V c main_v22 _ = _
  congr 1
  funext a
  apply Fin.ext
  match a with
  | ⟨0, _⟩ => show win0_0.index t 0 * 8 + 1 * (y 0).val = (y 0).val; rw [(index0 t).1]; omega

theorem edges_block (c : Dev nD) (t : Fin cfg0.N) (y : S512x8x128.Idx) (h0 : t.val / 8 * 512 + (y 0).val < 4096) (h1 : t.val % 8 * 8 + (y 1).val < 64) :
    (iblk0 V c 1 t : S512x8x128.Idx → F .f32) y = V c main_v25 (ix3 ⟨t.val / 8 * 512 + (y 0).val, h0⟩ ⟨t.val % 8 * 8 + (y 1).val, h1⟩ (y 2)) := by
  unfold iblk0
  rw [View.read_apply]
  show V c main_v25 _ = _
  congr 1
  funext a
  apply Fin.ext
  match a with
  | ⟨0, _⟩ => show win0_1.index t 0 * 512 + 1 * (y 0).val = t.val / 8 * 512 + (y 0).val; rw [(index0 t).2.1.1]; omega
  | ⟨1, _⟩ => show win0_1.index t 1 * 8 + 1 * (y 1).val = t.val % 8 * 8 + (y 1).val; rw [(index0 t).2.1.2.1]; omega
  | ⟨2, _⟩ => show win0_1.index t 2 * 128 + 1 * (y 2).val = (y 2).val; rw [(index0 t).2.1.2.2]; omega

/-- The probabilities of all edges, in the layout of pairs of rows. -/
def allProbs (s : S8.Idx → F .f32) (X : S4096x64x128.Idx → F .f32) : S4096x64x128.Idx → F .f32 := fun z =>
  edgeProb s (z 1).val (X (ix3 (z 0) ⟨2 * ((z 1).val / 2) + 1, by have h : (z 1).val < 64 := (z 1).isLt; show _ < 64; omega⟩ (z 2)))

/-- The classes of all edges. -/
def allClasses (s : S8.Idx → F .f32) (X : S4096x64x128.Idx → F .f32) : S4096x4096.Idx → BitVec 32 := fun z =>
  edgeClass s (X (ix3 (z 0) ⟨2 * ((z 1).val / 128) + 1, by have h : (z 1).val < 4096 := (z 1).isLt; show _ < 64; omega⟩ ⟨(z 1).val % 128, by show _ < 128; omega⟩))
    (pairCounter (z 0).val (z 1).val)

theorem edgeProb_even (s : S8.Idx → F .f32) (q q' : ℕ) (h : q % 2 = q' % 2) (x : F .f32) : edgeProb s q x = edgeProb s q' x := by
  unfold edgeProb; rw [h]

/-- What a point leaves as probabilities: its block of the probabilities of all edges. -/
theorem probs_after (c : Dev nD) (t : Fin cfg0.N) (y : S512x8x128.Idx) (h0 : t.val / 8 * 512 + (y 0).val < 4096) (h1 : t.val % 8 * 8 + (y 1).val < 64) :
    ((outsAt0 V c t.val t.isLt).1 : S512x8x128.Idx → F .f32) y
      = allProbs (V c main_v22) (V c main_v25) (ix3 ⟨t.val / 8 * 512 + (y 0).val, h0⟩ ⟨t.val % 8 * 8 + (y 1).val, h1⟩ (y 2)) := by
  have hN : t.val < 64 := t.isLt
  have hy : (y 1).val < 8 := (y 1).isLt
  have hb : (outsAt0 V c t.val t.isLt).1 = probBlock (iblk0 V c 0 t) (iblk0 V c 1 t) := by
    by_cases h : t.val / 8 % 8 ≤ t.val % 8
    · rw [outsAt0_A V c t h h h h]; dsimp only; exact out0_A_2_eq ..
    · rw [outsAt0_B V c t h h h h]; dsimp only; exact out0_B_2_eq ..
  rw [hb]
  unfold probBlock
  rw [numbers_block]
  have h2 : 2 * ((y 1).val / 2) + 1 < 8 := by omega
  refine (congrArg (edgeProb (V c main_v22) (y 1).val) (edges_block V c t (ix3 (y 0) ⟨2 * ((y 1).val / 2) + 1, h2⟩ (y 2)) h0
    (by show t.val % 8 * 8 + (2 * ((y 1).val / 2) + 1) < 64; omega))).trans ?_
  unfold allProbs
  have e : (⟨t.val % 8 * 8 + (2 * ((y 1).val / 2) + 1), by omega⟩ : Fin 64) = ⟨2 * ((t.val % 8 * 8 + (y 1).val) / 2) + 1, by omega⟩ := Fin.ext (by dsimp only; omega)
  refine (edgeProb_even _ _ (t.val % 8 * 8 + (y 1).val) (by omega) _).trans ?_
  exact congrArg (fun k : Fin 64 => edgeProb (V c main_v22) (t.val % 8 * 8 + (y 1).val) (V c main_v25 (ix3 ⟨t.val / 8 * 512 + (y 0).val, h0⟩ k (y 2)))) e

/-- What a point at or above the diagonal leaves as classes: its block of the classes of all edges. -/
theorem classes_after (c : Dev nD) (t : Fin cfg0.N) (ht : t.val / 8 ≤ t.val % 8) (y : S512x512.Idx) (h0 : t.val / 8 * 512 + (y 0).val < 4096) (h1 : t.val % 8 * 512 + (y 1).val < 4096) :
    ((outsAt0 V c t.val t.isLt).2 : S512x512.Idx → BitVec 32) y
      = allClasses (V c main_v22) (V c main_v25) (ix2 ⟨t.val / 8 * 512 + (y 0).val, h0⟩ ⟨t.val % 8 * 512 + (y 1).val, h1⟩) := by
  have hN : t.val < 64 := t.isLt
  have hy : (y 1).val < 512 := (y 1).isLt
  have h : t.val / 8 % 8 ≤ t.val % 8 := by omega
  rw [outsAt0_A V c t h h h h]
  dsimp only
  refine (congrFun (out0_A_3_eq ..) y).trans ?_
  unfold classBlock
  rw [numbers_block, edges_block V c t _ h0 (by show t.val % 8 * 8 + (2 * ((y 1).val / 128) + 1) < 64; omega), (coords0 t).1, (coords0 t).2]
  unfold allClasses
  have e : (⟨t.val % 8 * 8 + (2 * ((y 1).val / 128) + 1), by omega⟩ : Fin 64) = ⟨2 * ((t.val % 8 * 512 + (y 1).val) / 128) + 1, by omega⟩ := Fin.ext (by dsimp only; omega)
  have e' : (⟨(y 1).val % 128, by omega⟩ : Fin 128) = ⟨(t.val % 8 * 512 + (y 1).val) % 128, by omega⟩ := Fin.ext (by dsimp only; omega)
  exact congrArg₂ (fun (k : Fin 64) (l : Fin 128) => edgeClass (V c main_v22) (V c main_v25 (ix3 ⟨t.val / 8 * 512 + (y 0).val, h0⟩ k l))
    (pairCounter (t.val / 8 * 512 + (y 0).val) (t.val % 8 * 512 + (y 1).val))) e e'

theorem probs_flushed (c : Dev nD) (t : Fin cfg0.N) :
    (dat0 V c).flushed 2 t = ((cfg0.win 2).blk t).view.read (Elt F) (allProbs (V c main_v22) (V c main_v25)) := by
  have hN : t.val < 64 := t.isLt
  show (cfg0.win 2).cut (grid0.coords t) ((dat0 V c).after 2 t) = _
  rw [after0_2]
  funext y
  have hy0 : (y 0).val < 512 := (y 0).isLt
  have hy1 : (y 1).val < 8 := (y 1).isLt
  rw [View.read_apply]
  refine (probs_after V c t y (by omega) (by omega)).trans ?_
  show allProbs _ _ _ = allProbs _ _ _
  congr 1
  funext a
  apply Fin.ext
  match a with
  | ⟨0, _⟩ => show t.val / 8 * 512 + (y 0).val = win0_2.index t 0 * 512 + 1 * (y 0).val; rw [(index0 t).2.2.1]; omega
  | ⟨1, _⟩ => show t.val % 8 * 8 + (y 1).val = win0_2.index t 1 * 8 + 1 * (y 1).val; rw [(index0 t).2.2.2.1]; omega
  | ⟨2, _⟩ => show (y 2).val = win0_2.index t 2 * 128 + 1 * (y 2).val; rw [(index0 t).2.2.2.2]; omega

theorem classes_flushed (c : Dev nD) (t : Fin cfg0.N) (hf : (cfg0.win 3).flush t = true) :
    (dat0 V c).flushed 3 t = ((cfg0.win 3).blk t).view.read (Elt F) (allClasses (V c main_v22) (V c main_v25)) := by
  have hN : t.val < 64 := t.isLt
  have ht : t.val / 8 ≤ t.val % 8 := of_decide_eq_true ((flush0_3 t).symm.trans hf)
  show (cfg0.win 3).cut (grid0.coords t) ((dat0 V c).after 3 t) = _
  rw [after0_3]
  funext y
  have hy0 : (y 0).val < 512 := (y 0).isLt
  have hy1 : (y 1).val < 512 := (y 1).isLt
  rw [View.read_apply]
  refine (classes_after V c t ht y (by omega) (by omega)).trans ?_
  show allClasses _ _ _ = allClasses _ _ _
  congr 1
  funext a
  apply Fin.ext
  match a with
  | ⟨0, _⟩ => show t.val / 8 * 512 + (y 0).val = win0_3.index t 0 * 512 + 1 * (y 0).val; rw [(index0_3 t ht).1]; omega
  | ⟨1, _⟩ => show t.val % 8 * 512 + (y 1).val = win0_3.index t 1 * 512 + 1 * (y 1).val; rw [(index0_3 t ht).2]; omega

/-- The first call leaves the probabilities of all edges. -/
theorem probs_array (c : Dev nD) : (dat0 V c).arrAt 2 cfg0.N = allProbs (V c main_v22) (V c main_v25) :=
  (dat0 V c).arrAt_eq_of_cover 2 _ (fun t _ => probs_flushed V c t) fun z => by
    have h0 : (z 0).val < 4096 := (z 0).isLt
    have h1 : (z 1).val < 64 := (z 1).isLt
    have h2 : (z 2).val < 128 := (z 2).isLt
    have ht : (z 0).val / 512 * 8 + (z 1).val / 8 < 64 := by omega
    refine ⟨⟨(z 0).val / 512 * 8 + (z 1).val / 8, ht⟩, flush0_2 _, ?_⟩
    obtain ⟨e0, e1, e2⟩ := (index0 ⟨(z 0).val / 512 * 8 + (z 1).val / 8, ht⟩).2.2
    show z ∈ ((View.whole main_v26_0).slice (win0_2.rect ⟨(z 0).val / 512 * 8 + (z 1).val / 8, ht⟩)).set
    rw [View.set_slice_whole, Rect.mem_set_unit]
    intro a
    match a with
    | ⟨0, _⟩ => show win0_2.index ⟨(z 0).val / 512 * 8 + (z 1).val / 8, ht⟩ 0 * 512 ≤ (z 0).val ∧ (z 0).val < win0_2.index ⟨(z 0).val / 512 * 8 + (z 1).val / 8, ht⟩ 0 * 512 + 512
                rw [e0]; dsimp only; omega
    | ⟨1, _⟩ => show win0_2.index ⟨(z 0).val / 512 * 8 + (z 1).val / 8, ht⟩ 1 * 8 ≤ (z 1).val ∧ (z 1).val < win0_2.index ⟨(z 0).val / 512 * 8 + (z 1).val / 8, ht⟩ 1 * 8 + 8
                rw [e1]; dsimp only; omega
    | ⟨2, _⟩ => show win0_2.index ⟨(z 0).val / 512 * 8 + (z 1).val / 8, ht⟩ 2 * 128 ≤ (z 2).val ∧ (z 2).val < win0_2.index ⟨(z 0).val / 512 * 8 + (z 1).val / 8, ht⟩ 2 * 128 + 128
                rw [e2]; omega

/-- The first call leaves, at or above the diagonal, the classes of the edges. -/
theorem classes_array (c : Dev nD) (z : S4096x4096.Idx) (hz : (z 0).val ≤ (z 1).val) :
    ((dat0 V c).arrAt 3 cfg0.N : S4096x4096.Idx → BitVec 32) z = allClasses (V c main_v22) (V c main_v25) z := by
  have h0 : (z 0).val < 4096 := (z 0).isLt
  have h1 : (z 1).val < 4096 := (z 1).isLt
  have ht : (z 0).val / 512 * 8 + (z 1).val / 512 < 64 := by omega
  have hd : ((z 0).val / 512 * 8 + (z 1).val / 512) / 8 ≤ ((z 0).val / 512 * 8 + (z 1).val / 512) % 8 := by omega
  refine (dat0 V c).arrAt_apply_of_mem 3 _ (classes_flushed V c) cfg0.N ⟨(z 0).val / 512 * 8 + (z 1).val / 512, ht⟩ z ht ((flush0_3 _).trans (decide_eq_true hd)) ?_
  obtain ⟨e0, e1⟩ := index0_3 ⟨(z 0).val / 512 * 8 + (z 1).val / 512, ht⟩ hd
  show z ∈ ((View.whole main_v26_1).slice (win0_3.rect ⟨(z 0).val / 512 * 8 + (z 1).val / 512, ht⟩)).set
  rw [View.set_slice_whole, Rect.mem_set_unit]
  intro a
  match a with
  | ⟨0, _⟩ => show win0_3.index ⟨(z 0).val / 512 * 8 + (z 1).val / 512, ht⟩ 0 * 512 ≤ (z 0).val ∧ (z 0).val < win0_3.index ⟨(z 0).val / 512 * 8 + (z 1).val / 512, ht⟩ 0 * 512 + 512
              rw [e0]; dsimp only; omega
  | ⟨1, _⟩ => show win0_3.index ⟨(z 0).val / 512 * 8 + (z 1).val / 512, ht⟩ 1 * 512 ≤ (z 1).val ∧ (z 1).val < win0_3.index ⟨(z 0).val / 512 * 8 + (z 1).val / 512, ht⟩ 1 * 512 + 512
              rw [e1]; dsimp only; omega

/-! ## The second call -/

theorem mirror_block (c : Dev nD) (t : Fin cfg1.N) (y : S1024x1024.Idx) (h0 : min (t.val / 4) (t.val % 4) * 1024 + (y 0).val < 4096) (h1 : max (t.val / 4) (t.val % 4) * 1024 + (y 1).val < 4096) :
    (iblk1 V c 0 t : S1024x1024.Idx → BitVec 32) y = V c main_v26_1 (ix2 ⟨min (t.val / 4) (t.val % 4) * 1024 + (y 0).val, h0⟩ ⟨max (t.val / 4) (t.val % 4) * 1024 + (y 1).val, h1⟩) := by
  unfold iblk1
  rw [View.read_apply]
  show V c main_v26_1 _ = _
  congr 1
  funext a
  apply Fin.ext
  match a with
  | ⟨0, _⟩ => show win1_0.index t 0 * 1024 + 1 * (y 0).val = min (t.val / 4) (t.val % 4) * 1024 + (y 0).val; rw [(index1 t).1.1]; omega
  | ⟨1, _⟩ => show win1_0.index t 1 * 1024 + 1 * (y 1).val = max (t.val / 4) (t.val % 4) * 1024 + (y 1).val; rw [(index1 t).1.2]; omega

/-- A table with its part above the diagonal copied below. -/
def mirrored (A : S4096x4096.Idx → BitVec 32) : S4096x4096.Idx → BitVec 32 := fun z =>
  if (z 0).val ≤ (z 1).val then A z else A (ix2 (z 1) (z 0))

theorem mirror_after (c : Dev nD) (t : Fin cfg1.N) (y : S1024x1024.Idx) (h0 : t.val / 4 * 1024 + (y 0).val < 4096) (h1 : t.val % 4 * 1024 + (y 1).val < 4096) :
    (outsAt1 V c t.val t.isLt : S1024x1024.Idx → BitVec 32) y
      = mirrored (V c main_v26_1) (ix2 ⟨t.val / 4 * 1024 + (y 0).val, h0⟩ ⟨t.val % 4 * 1024 + (y 1).val, h1⟩) := by
  have hN : t.val < 16 := t.isLt
  have hy0 : (y 0).val < 1024 := (y 0).isLt
  have hy1 : (y 1).val < 1024 := (y 1).isLt
  have same : ∀ (i j i' j' : ℕ) (hi : i < 4096) (hj : j < 4096) (hi' : i' < 4096) (hj' : j' < 4096), i = i' → j = j' →
      (V c main_v26_1 : S4096x4096.Idx → BitVec 32) (ix2 ⟨i, hi⟩ ⟨j, hj⟩) = (V c main_v26_1 : S4096x4096.Idx → BitVec 32) (ix2 ⟨i', hi'⟩ ⟨j', hj'⟩) := by
    intros; subst_vars; rfl
  unfold mirrored
  show _ = if t.val / 4 * 1024 + (y 0).val ≤ t.val % 4 * 1024 + (y 1).val then (V c main_v26_1 : S4096x4096.Idx → BitVec 32) (ix2 ⟨t.val / 4 * 1024 + (y 0).val, h0⟩ ⟨t.val % 4 * 1024 + (y 1).val, h1⟩)
    else (V c main_v26_1 : S4096x4096.Idx → BitVec 32) (ix2 ⟨t.val % 4 * 1024 + (y 1).val, h1⟩ ⟨t.val / 4 * 1024 + (y 0).val, h0⟩)
  rcases Nat.lt_trichotomy (t.val / 4) (t.val % 4) with h | h | h
  · rw [outsAt1_B V c t (by omega) (by omega) (by omega)]
    refine (congrFun (out1_B_1_eq ..) y).trans ?_
    rw [if_pos (by omega), mirror_block V c t y (by omega) (by omega)]
    exact same _ _ _ _ _ _ _ _ (by omega) (by omega)
  · rw [outsAt1_A V c t (by omega) (by omega) (by omega)]
    refine (congrFun (out1_A_1_eq ..) y).trans ?_
    by_cases hd : (y 0).val ≤ (y 1).val
    · rw [if_pos hd, if_pos (by omega), mirror_block V c t y (by omega) (by omega)]
      exact same _ _ _ _ _ _ _ _ (by omega) (by omega)
    · rw [if_neg hd, if_neg (by omega), mirror_block V c t (ix2 (y 1) (y 0)) (by show _ + (y 1).val < 4096; omega) (by show _ + (y 0).val < 4096; omega)]
      exact same _ _ _ _ _ _ _ _ (by show _ + (y 1).val = _; omega) (by show _ + (y 0).val = _; omega)
  · rw [outsAt1_C V c t (by omega) (by omega) (by omega)]
    refine (congrFun (out1_C_1_eq ..) y).trans ?_
    rw [if_neg (by omega)]
    refine (mirror_block V c t (ix2 (y 1) (y 0)) (by show _ + (y 1).val < 4096; omega) (by show _ + (y 0).val < 4096; omega)).trans ?_
    exact same _ _ _ _ _ _ _ _ (by show _ + (y 1).val = _; omega) (by show _ + (y 0).val = _; omega)

theorem mirror_flushed (c : Dev nD) (t : Fin cfg1.N) :
    (dat1 V c).flushed 1 t = ((cfg1.win 1).blk t).view.read (Elt F) (mirrored (V c main_v26_1)) := by
  have hN : t.val < 16 := t.isLt
  show (cfg1.win 1).cut (grid1.coords t) ((dat1 V c).after 1 t) = _
  rw [after1_1]
  funext y
  have hy0 : (y 0).val < 1024 := (y 0).isLt
  have hy1 : (y 1).val < 1024 := (y 1).isLt
  rw [View.read_apply]
  refine (mirror_after V c t y (by omega) (by omega)).trans ?_
  show mirrored _ _ = mirrored _ _
  congr 1
  funext a
  apply Fin.ext
  match a with
  | ⟨0, _⟩ => show t.val / 4 * 1024 + (y 0).val = win1_1.index t 0 * 1024 + 1 * (y 0).val; rw [(index1 t).2.1]; omega
  | ⟨1, _⟩ => show t.val % 4 * 1024 + (y 1).val = win1_1.index t 1 * 1024 + 1 * (y 1).val; rw [(index1 t).2.2]; omega

/-- The second call leaves the first call's table of classes mirrored. -/
theorem mirror_array (c : Dev nD) : (dat1 V c).arrAt 1 cfg1.N = mirrored (V c main_v26_1) :=
  (dat1 V c).arrAt_eq_of_cover 1 _ (fun t _ => mirror_flushed V c t) fun z => by
    have h0 : (z 0).val < 4096 := (z 0).isLt
    have h1 : (z 1).val < 4096 := (z 1).isLt
    have ht : (z 0).val / 1024 * 4 + (z 1).val / 1024 < 16 := by omega
    refine ⟨⟨(z 0).val / 1024 * 4 + (z 1).val / 1024, ht⟩, flush1_1 _, ?_⟩
    obtain ⟨e0, e1⟩ := (index1 ⟨(z 0).val / 1024 * 4 + (z 1).val / 1024, ht⟩).2
    show z ∈ ((View.whole main_v27).slice (win1_1.rect ⟨(z 0).val / 1024 * 4 + (z 1).val / 1024, ht⟩)).set
    rw [View.set_slice_whole, Rect.mem_set_unit]
    intro a
    match a with
    | ⟨0, _⟩ => show win1_1.index ⟨(z 0).val / 1024 * 4 + (z 1).val / 1024, ht⟩ 0 * 1024 ≤ (z 0).val ∧ (z 0).val < win1_1.index ⟨(z 0).val / 1024 * 4 + (z 1).val / 1024, ht⟩ 0 * 1024 + 1024
                rw [e0]; dsimp only; omega
    | ⟨1, _⟩ => show win1_1.index ⟨(z 0).val / 1024 * 4 + (z 1).val / 1024, ht⟩ 1 * 1024 ≤ (z 1).val ∧ (z 1).val < win1_1.index ⟨(z 0).val / 1024 * 4 + (z 1).val / 1024, ht⟩ 1 * 1024 + 1024
                rw [e1]; dsimp only; omega

end Cert.KernelIdeal.Value

end
-- ==== Proof.KernelHost.lean ====
module

public import proofs.«01_k».proof.Proof.KernelArrays
public import Idealize.ShloMosaic.Lib.StableHlo

/-! The kernel's three results as functions of its two arguments: what the host operations before the two calls hand them,
    and what those after them make of the arrays they leave. -/

@[expose] public section

set_option maxRecDepth 65536

noncomputable section

namespace Cert.KernelIdeal.Value

open Idealize.ShloMosaic Idealize.ShloMosaic.TcCoe Idealize.ShloMosaic.Tactic Idealize.SL.Sem Idealize.ShloMosaic.StableHlo
open Cert.KernelIdeal Cert.KernelIdeal.Gen Cert.KernelIdeal.Run Cert.Noise

variable {F : FTy → Type} [FloatOps F]
variable (m : (ℓ : Loc nD τ sig) → Buf (Elt F) ℓ) (ρ : Dev nD → PrngReg) (c : Dev nD)

/-- The kernel's matrix of class probabilities for a step of the schedule. -/
def classMatrix (t : IVec S1 32) : FVec F S2x2 .f32 :=
  let a : FVec F S1 .f32 := Host.gather gather_S1001_S1x1_S1_n_0_n_n_0_1_1 ((fun i : Shape.Idx _ => FloatOps.ofBits .f32 (lit0 (S1001.rowMajor i)))) (broadcastInDim S1x1 ![0] bcast_S1_S1x1_0 (select (cmpi .slt t (broadcastInDim S1 ![] bcast_S_S1 (constantI S_ 32 0#32))) (addi t (broadcastInDim S1 ![] bcast_S_S1 (constantI S_ 32 1001#32))) t))
  addf (mulf (broadcastInDim S2x2 ![0, 1] bcast_S1x1_S2x2_0_1 (broadcastInDim S1x1 ![1] bcast_S1_S1x1_1 a)) ((fun i : Shape.Idx _ => FloatOps.ofBits .f32 (lit1 (S2x2.rowMajor i))))) (mulf (broadcastInDim S2x2 ![0, 1] bcast_S1x1_S2x2_0_1 (broadcastInDim S1x1 ![1] bcast_S1_S1x1_1 (subf (broadcastInDim S1 ![] bcast_S_S1 (constant S_ .f32 0x3F800000#32)) a))) ((fun i : Shape.Idx _ => FloatOps.ofBits .f32 (lit2 (S2x2.rowMajor i)))))

/-- That matrix through the half-width format and back. -/
def roundedMatrix (t : IVec S1 32) : FVec F S2x2 .f32 := extf .f32 (truncf .bf16 (classMatrix t) bitsLt_bf16_f32) bitsLt_bf16_f32

/-- Its logarithms, each entry first raised to a least value. -/
def logMatrix (t : IVec S1 32) : FVec F S2x2 .f32 :=
  Host.log (maximumf (broadcastInDim S2x2 ![] bcast_S_S2x2 (constant S_ .f32 0x0DA24260#32)) (roundedMatrix t))

theorem W1_matrix : W1 m ρ c (Proc.devRef .tc main_v17) = roundedMatrix (m ((c : Thread nD τ).loc main_arg1)) := by
  unfold W1
  after_results_simp
  rfl

theorem W2_raised : W2 m ρ c (Proc.devRef .tc main_v18)
    = maximumf (broadcastInDim S2x2 ![] bcast_S_S2x2 (constant S_ .f32 0x0DA24260#32)) (roundedMatrix (m ((c : Thread nD τ).loc main_arg1))) := by
  unfold W2
  simp only [hostOps0_1, TRef.unary, TRef.binary, TRef.toBuf, TRef.ofBuf, cast_eq]
  after_results_simp
  rfl

/-- The eight numbers, from the contents before the operations that join them. -/
theorem numbers_after (V : Valuation τ sig (Elt F)) : after hostOps0_2 V (Proc.devRef .tc main_v22)
    = concatenate S8 0 [⟨S4, shapeCast S4 (V (Proc.devRef .tc main_v17) : FVec F S2x2 .f32) shapeCasts_S2x2_S4⟩,
        ⟨S4, shapeCast S4 (Host.log (V (Proc.devRef .tc main_v18) : FVec F S2x2 .f32)) shapeCasts_S2x2_S4⟩] concatenates_S4_S4_S8_d0 := by
  after_results_simp
  refine congrArg₂ (fun (a b : S4.Idx → F .f32) => concatenate S8 0 [⟨S4, a⟩, ⟨S4, b⟩] concatenates_S4_S4_S8_d0) ?_ ?_
  · after_results_simp
    rfl
  · after_results_simp
    rfl

/-- The eight numbers that the first call is given. -/
theorem numbers_value : W3 m ρ c (Proc.devRef .tc main_v22)
    = concatenate S8 0 [⟨S4, shapeCast S4 (roundedMatrix (F := F) (m ((c : Thread nD τ).loc main_arg1))) shapeCasts_S2x2_S4⟩,
        ⟨S4, shapeCast S4 (logMatrix (F := F) (m ((c : Thread nD τ).loc main_arg1))) shapeCasts_S2x2_S4⟩] concatenates_S4_S4_S8_d0 := by
  refine (numbers_after (W2 m ρ c)).trans ?_
  rw [W2_raised, (W2_of m ρ c main_v17 (by decide)).trans (W1_matrix m ρ c)]
  rfl

/-- The edges that the first call is given. -/
theorem edges_value : W3 m ρ c (Proc.devRef .tc main_v25)
    = shapeCast S4096x64x128 (transpose S4096x32x2x128 [0, 1, 3, 2] (shapeCast S4096x32x128x2 (m ((c : Thread nD τ).loc main_arg0) : FVec F S4096x4096x2 .f32) shapeCasts_S4096x4096x2_S4096x32x128x2)
        transposes_S4096x32x128x2_S4096x32x2x128_0_1_3_2) shapeCasts_S4096x32x2x128_S4096x64x128 := by
  unfold W3
  after_results_simp
  rw [show W0 m ρ c (Proc.devRef .tc main_arg0) = m ((c : Thread nD τ).loc main_arg0) from rfl]
  rfl

theorem W6_step : W6 m ρ c (Proc.devRef .tc main_v33)
    = Host.divf (sitofp .f32 (m ((c : Thread nD τ).loc main_arg1) : IVec S1 32)) (broadcastInDim S1 ![] bcast_S_S1 (constant S_ .f32 0x447A0000#32)) := by
  unfold W6
  after_results_simp
  rw [W5_args m ρ c main_arg1 (by decide)]

theorem W6_probs : W6 m ρ c (Proc.devRef .tc main_v30)
    = shapeCast S4096x4096x2 (transpose S4096x32x128x2 [0, 1, 3, 2] (shapeCast S4096x32x2x128 (allProbs (W3 m ρ c (Proc.devRef .tc main_v22)) (W3 m ρ c (Proc.devRef .tc main_v25))) shapeCasts_S4096x64x128_S4096x32x2x128)
        transposes_S4096x32x2x128_S4096x32x128x2_0_1_3_2) shapeCasts_S4096x32x128x2_S4096x4096x2 := by
  unfold W6
  after_results_simp
  rw [W5_of_ne m ρ c main_v26_0 (by decide), (W4_arr m ρ c 2).trans (probs_array (V3 m ρ) c)]
  rfl

theorem W6_classes : W6 m ρ c (Proc.devRef .tc main_v27) = mirrored (V4 m ρ c main_v26_1) :=
  (W6_of m ρ c main_v27 (by decide)).trans ((W5_arr m ρ c 1).trans (mirror_array (V4 m ρ) c))

theorem W4_classes (z : S4096x4096.Idx) (hz : (z 0).val ≤ (z 1).val) :
    (V4 m ρ c main_v26_1 : S4096x4096.Idx → BitVec 32) z = allClasses (W3 m ρ c (Proc.devRef .tc main_v22)) (W3 m ρ c (Proc.devRef .tc main_v25)) z :=
  (congrFun (W4_arr m ρ c 3) z).trans (classes_array (V3 m ρ) c z hz)

/-- One entry of the eight numbers: the matrix first, its logarithms after. -/
theorem number_low (i j : Fin 2) (n : Fin 8) (hn : n.val = 2 * i.val + j.val) :
    (W3 m ρ c (Proc.devRef .tc main_v22) : S8.Idx → F .f32) (ix1 n) = roundedMatrix (m ((c : Thread nD τ).loc main_arg1)) (ix2 i j) := by
  rw [numbers_value]
  refine (concatenate_apply_piece (t := S8) 0 _ _ (ix1 n) 0 (by simp) S4 _ rfl rfl 0 rfl (ix1 ⟨n.val, by omega⟩) (fun b hb => ?_) ?_).trans ?_
  · exact absurd (Fin.ext (by have : b.val < 1 := b.isLt; show b.val = 0; omega)) hb
  · show 0 + n.val = n.val; omega
  · refine shapeCast_apply _ _ _ (ix2 i j) ?_
    rw [Shape.rowMajor_val_one, Shape.rowMajor_val_two]
    show i.val * 2 + j.val = n.val
    omega

theorem number_high (i j : Fin 2) (n : Fin 8) (hn : n.val = 4 + 2 * i.val + j.val) :
    (W3 m ρ c (Proc.devRef .tc main_v22) : S8.Idx → F .f32) (ix1 n) = logMatrix (m ((c : Thread nD τ).loc main_arg1)) (ix2 i j) := by
  rw [numbers_value]
  refine (concatenate_apply_piece (t := S8) 0 _ _ (ix1 n) 1 (by simp) S4 _ rfl rfl 4 rfl (ix1 ⟨n.val - 4, by omega⟩) (fun b hb => ?_) ?_).trans ?_
  · exact absurd (Fin.ext (by have : b.val < 1 := b.isLt; show b.val = 0; omega)) hb
  · show 4 + (n.val - 4) = n.val; omega
  · refine shapeCast_apply _ _ _ (ix2 i j) ?_
    rw [Shape.rowMajor_val_one, Shape.rowMajor_val_two]
    show i.val * 2 + j.val = n.val - 4
    omega

/-- One entry of the edges as the first call is given them. -/
theorem edge_value (r k : Fin 4096) (d : Fin 2) (q : Fin 64) (l : Fin 128) (hq : q.val = 2 * (k.val / 128) + d.val) (hl : l.val = k.val % 128) :
    (W3 m ρ c (Proc.devRef .tc main_v25) : S4096x64x128.Idx → F .f32) (ix3 r q l) = (m ((c : Thread nD τ).loc main_arg0) : FVec F S4096x4096x2 .f32) (ix3 r k d) := by
  rw [edges_value]
  have hk := k.isLt
  have hd := d.isLt
  refine (shapeCast_apply _ _ _ (ix4 r (⟨k.val / 128, by omega⟩ : Fin 32) d l) ?_).trans ?_
  · rw [Shape.rowMajor_val_four, Shape.rowMajor_val_three]
    show ((r.val * 32 + k.val / 128) * 2 + d.val) * 128 + l.val = (r.val * 64 + q.val) * 128 + l.val
    omega
  refine (transpose_apply _ _ _ _ (ix4 r (⟨k.val / 128, by omega⟩ : Fin 32) l d) ?_).trans ?_
  · intro b
    match b with
    | ⟨0, _⟩ => rfl
    | ⟨1, _⟩ => rfl
    | ⟨2, _⟩ => rfl
    | ⟨3, _⟩ => rfl
  refine shapeCast_apply _ _ _ (ix3 r k d) ?_
  rw [Shape.rowMajor_val_four, Shape.rowMajor_val_three]
  show (r.val * 4096 + k.val) * 2 + d.val = ((r.val * 32 + k.val / 128) * 128 + l.val) * 2 + d.val
  omega

/-- The kernel's probabilities, entry by entry. -/
theorem probs_entry (r k : Fin 4096) (d : Fin 2) :
    (W6 m ρ c (Proc.devRef .tc main_v30) : S4096x4096x2.Idx → F .f32) (ix3 r k d)
      = edgeProb (W3 m ρ c (Proc.devRef .tc main_v22)) d.val ((m ((c : Thread nD τ).loc main_arg0) : FVec F S4096x4096x2 .f32) (ix3 r k 1)) := by
  rw [W6_probs]
  have hk := k.isLt
  have hd := d.isLt
  refine (shapeCast_apply _ _ _ (ix4 r (⟨k.val / 128, by omega⟩ : Fin 32) (⟨k.val % 128, by omega⟩ : Fin 128) d) ?_).trans ?_
  · rw [Shape.rowMajor_val_four, Shape.rowMajor_val_three]
    show ((r.val * 32 + k.val / 128) * 128 + k.val % 128) * 2 + d.val = (r.val * 4096 + k.val) * 2 + d.val
    omega
  refine (transpose_apply _ _ _ _ (ix4 r (⟨k.val / 128, by omega⟩ : Fin 32) d (⟨k.val % 128, by omega⟩ : Fin 128)) ?_).trans ?_
  · intro b
    match b with
    | ⟨0, _⟩ => rfl
    | ⟨1, _⟩ => rfl
    | ⟨2, _⟩ => rfl
    | ⟨3, _⟩ => rfl
  refine (shapeCast_apply _ _ _ (ix3 r (⟨2 * (k.val / 128) + d.val, by omega⟩ : Fin 64) (⟨k.val % 128, by omega⟩ : Fin 128)) ?_).trans ?_
  · rw [Shape.rowMajor_val_four, Shape.rowMajor_val_three]
    show (r.val * 64 + (2 * (k.val / 128) + d.val)) * 128 + k.val % 128 = ((r.val * 32 + k.val / 128) * 2 + d.val) * 128 + k.val % 128
    omega
  unfold allProbs
  refine (edgeProb_even _ _ d.val (by show (2 * (k.val / 128) + d.val) % 2 = d.val % 2; omega) _).trans ?_
  exact congrArg (edgeProb _ d.val) (edge_value m ρ c r k 1 _ _ (by show 2 * ((2 * (k.val / 128) + d.val) / 2) + 1 = 2 * (k.val / 128) + 1; omega) rfl)

theorem classes_upper (r k : Fin 4096) (h : r.val ≤ k.val) :
    (V4 m ρ c main_v26_1 : S4096x4096.Idx → BitVec 32) (ix2 r k)
      = edgeClass (W3 m ρ c (Proc.devRef .tc main_v22)) ((m ((c : Thread nD τ).loc main_arg0) : FVec F S4096x4096x2 .f32) (ix3 r k 1)) (pairCounter r.val k.val) := by
  rw [W4_classes m ρ c (ix2 r k) h]
  unfold allClasses
  exact congrArg (fun x => edgeClass (W3 m ρ c (Proc.devRef .tc main_v22)) x (pairCounter r.val k.val)) (edge_value m ρ c r k 1 _ _ rfl rfl)

/-- The kernel's classes at and above the diagonal. -/
theorem classes_entry (r k : Fin 4096) (h : r.val ≤ k.val) :
    (W6 m ρ c (Proc.devRef .tc main_v27) : S4096x4096.Idx → BitVec 32) (ix2 r k)
      = edgeClass (W3 m ρ c (Proc.devRef .tc main_v22)) ((m ((c : Thread nD τ).loc main_arg0) : FVec F S4096x4096x2 .f32) (ix3 r k 1)) (pairCounter r.val k.val) := by
  rw [W6_classes]
  exact (if_pos h).trans (classes_upper m ρ c r k h)

/-- Below the diagonal they mirror those above it. -/
theorem classes_mirror (r k : Fin 4096) (h : ¬ r.val ≤ k.val) :
    (W6 m ρ c (Proc.devRef .tc main_v27) : S4096x4096.Idx → BitVec 32) (ix2 r k) = (W6 m ρ c (Proc.devRef .tc main_v27) : S4096x4096.Idx → BitVec 32) (ix2 k r) := by
  rw [W6_classes]
  exact (if_neg h).trans (if_pos (by show k.val ≤ r.val; omega)).symm

end Cert.KernelIdeal.Value

end
-- ==== Proof.RefNoise.lean ====
module

public import proofs.«01_k».proof.Proof.RefOps
public import proofs.«01_k».proof.Proof.Noise
public import Idealize.ShloMosaic.Lib.ValueIdxCore
public import Idealize.ShloMosaic.Lib.Pipeline.Value
public import Idealize.ShloMosaic.Lib.Tactic

/-! The noise that the reference draws, entry by entry: row `n` and class `j` of its table of logits gets the noise of the
    counter `2 * n + j`. -/

@[expose] public section

set_option maxRecDepth 65536

noncomputable section

namespace Cert.ReferenceIdeal.Value

open Cert.ReferenceIdeal Cert.ReferenceIdeal.Gen Idealize.ShloMosaic Idealize.ShloMosaic.TcCoe Idealize.ShloMosaic.Tactic Idealize.SL.Sem Idealize.ShloMosaic.StableHlo
open Cert.Noise Idealize.ShloMosaic.ValueIdx

/-- A word at every place of the table. -/
def everywhere (b : BitVec 32) : IVec S16777216x2 32 := broadcastInDim S16777216x2 ![] bcast_S_S16777216x2 (constantI S_ 32 b)

/-- The second words mixed into the first, everywhere. -/
def mixed (r s : BitVec 32) (u v : IVec S16777216x2 32) : IVec S16777216x2 32 :=
  xori u (ori (Host.shli v (everywhere r)) (Host.shrui v (everywhere s)))

theorem mixed_at (r s : BitVec 32) (u v : IVec S16777216x2 32) (p : S16777216x2.Idx) :
    mixed r s u v p = IntOp.xori (rot r s (v p)) (u p) := by
  show IntOp.xori (u p) (IntOp.ori (IntOp.shli .host (v p) r) (IntOp.shrui .host (v p) s)) = _
  rw [shli_host, shrui_host]
  exact BitVec.xor_comm _ _

/-- That two tables hold, at one place, the sum of a pair's words and its second word. -/
def Holds (u v : IVec S16777216x2 32) (p : S16777216x2.Idx) (P : BitVec 32 × BitVec 32) : Prop :=
  u p = IntOp.addi P.1 P.2 ∧ v p = P.2

/-- One round on the two tables. -/
theorem Holds.step {u v : IVec S16777216x2 32} {p : S16777216x2.Idx} {P : BitVec 32 × BitVec 32} (h : Holds u v p P) (r s : BitVec 32) :
    Holds (addi u (mixed r s u v)) (mixed r s u v) p (Cert.Noise.round r s P) := by
  have e : mixed r s u v p = (Cert.Noise.round r s P).2 := by rw [mixed_at, h.1, h.2]; rfl
  refine ⟨?_, e⟩
  show IntOp.addi (u p) (mixed r s u v p) = _
  rw [h.1, e]; rfl

/-- A round's pair itself, from the two tables before it. -/
theorem Holds.pair {u v : IVec S16777216x2 32} {p : S16777216x2.Idx} {P : BitVec 32 × BitVec 32} (h : Holds u v p P) (r s : BitVec 32) :
    u p = (Cert.Noise.round r s P).1 ∧ mixed r s u v p = (Cert.Noise.round r s P).2 :=
  ⟨h.1, by rw [mixed_at, h.1, h.2]; rfl⟩

/-- A group's key added to its last round's pair. -/
theorem Holds.key {u v : IVec S16777216x2 32} {p : S16777216x2.Idx} {P : BitVec 32 × BitVec 32} (h : Holds u v p P) (r s a b g : BitVec 32)
    (ka kb : IVec S16777216x2 32) (ha : ka p = a) (hb : kb p = b) :
    Holds (addi (addi u ka) (addi (addi (mixed r s u v) kb) (everywhere g))) (addi (addi (mixed r s u v) kb) (everywhere g)) p
      (Cert.Noise.key a b g (Cert.Noise.round r s P)) := by
  have h' := h.pair r s
  have e : addi (addi (mixed r s u v) kb) (everywhere g) p = (Cert.Noise.key a b g (Cert.Noise.round r s P)).2 := by
    show IntOp.addi (IntOp.addi (mixed r s u v p) (kb p)) g = _
    rw [h'.2, hb]; rfl
  refine ⟨?_, e⟩
  show IntOp.addi (IntOp.addi (u p) (ka p)) (addi (addi (mixed r s u v) kb) (everywhere g) p) = _
  rw [e, h'.1, ha]; rfl

variable {F : FTy → Type} [FloatOps F] (V0 : Valuation τ sig (Elt F))

/-! ## The key -/

theorem key0 : res_main_call1_v5 V0 = fun _ => 0#32 := by
  funext j; sl_kernel_rfl
theorem key_pair : res_main_v26 V0 (ix1 1) = 1#32 := by
  unfold res_main_v26
  refine (concatenate_apply_piece (t := S2) 0 _ _ (ix1 1) 1 (by show 1 < 2; decide) S1 _ rfl rfl 1 rfl (ix1 0) ?_ rfl).trans ?_
  · intro b hb; fin_cases b; exact absurd rfl hb
  · show IntOp.andi 1#32 4294967295#32 = 1#32
    decide
theorem key1 : res_main_call1_v7 V0 = fun _ => 1#32 := by
  funext j
  unfold res_main_call1_v7
  refine (shapeCast_apply _ _ j (ix1 0) ?_).trans ?_
  · have h : (S_.rowMajor j).val < 1 := lt_of_lt_of_eq (S_.rowMajor j).isLt (by decide)
    rw [Shape.rowMajor_val_one]
    show 0 = (S_.rowMajor j).val
    omega
  · refine (congrArg (res_main_v26 V0) (?_ : _ = ix1 1)).trans (key_pair V0)
    funext a; apply Fin.ext; fin_cases a; rfl
theorem key2 : res_main_call1_call0_v1 V0 = fun _ => 466688987#32 := by
  unfold res_main_call1_call0_v1
  rw [key0, key1]
  funext j
  show IntOp.xori (IntOp.xori 0#32 1#32) 466688986#32 = 466688987#32
  decide

theorem key0_at (p : S16777216x2.Idx) : broadcastInDim S16777216x2 ![] bcast_S_S16777216x2 (res_main_call1_v5 V0) p = 0#32 := by
  rw [key0]; rfl
theorem key1_at (p : S16777216x2.Idx) : broadcastInDim S16777216x2 ![] bcast_S_S16777216x2 (res_main_call1_v7 V0) p = 1#32 := by
  rw [key1]; rfl
theorem key2_at (p : S16777216x2.Idx) : broadcastInDim S16777216x2 ![] bcast_S_S16777216x2 (res_main_call1_call0_v1 V0) p = 466688987#32 := by
  rw [key2]; rfl

/-! ## The counter -/

/-- The counter of a place of the table. -/
def place (p : S16777216x2.Idx) : BitVec 32 := BitVec.ofNat 32 (2 * (p 0).val + (p 1).val)

theorem counter64 (p : S16777216x2.Idx) : res_main_call1_v14 V0 p = BitVec.ofNat 64 (2 * (p 0).val + (p 1).val) := by
  have h : res_main_call1_v14 V0 p = (2#64 * BitVec.ofNat 64 (p 0).val) + (1#64 * BitVec.ofNat 64 (p 1).val) := by sl_kernel_rfl
  rw [h, BitVec.one_mul, BitVec.ofNat_add, BitVec.ofNat_mul]

theorem counter_low (p : S16777216x2.Idx) : trunci 32 (res_main_call1_v14 V0) natLt_32_64 p = place p := by
  show (res_main_call1_v14 V0 p).setWidth 32 = _
  rw [counter64]
  apply BitVec.eq_of_toNat_eq
  simp [place, BitVec.toNat_setWidth, BitVec.toNat_ofNat]

theorem counter_high (p : S16777216x2.Idx) :
    trunci 32 (Host.shrui (res_main_call1_v14 V0) (broadcastInDim S16777216x2 ![] bcast_S_S16777216x2 (constantI S_ 64 32#64))) natLt_32_64 p = 0#32 := by
  have h0 : (p 0).val < 16777216 := (p 0).isLt
  have h1 : (p 1).val < 2 := (p 1).isLt
  show (IntOp.shrui .host (res_main_call1_v14 V0 p) 32#64).setWidth 32 = _
  rw [counter64]
  apply BitVec.eq_of_toNat_eq
  simp [IntOp.shrui, BitVec.toNat_setWidth, BitVec.toNat_ofNat, BitVec.toNat_ushiftRight]
  omega

/-! ## The twenty rounds -/

theorem start (p : S16777216x2.Idx) : Holds (res_main_call1_call0_v6 V0) (res_main_call1_call0_v5 V0) p (0#32, IntOp.addi (place p) 1#32) := by
  have e : res_main_call1_call0_v5 V0 p = IntOp.addi (place p) 1#32 := by
    unfold res_main_call1_call0_v5
    show IntOp.addi (trunci 32 (res_main_call1_v14 V0) natLt_32_64 p) (broadcastInDim S16777216x2 ![] bcast_S_S16777216x2 (res_main_call1_v7 V0) p) = _
    rw [counter_low, key1_at]
  refine ⟨?_, e⟩
  unfold res_main_call1_call0_v6
  show IntOp.addi (IntOp.addi (trunci 32 (Host.shrui (res_main_call1_v14 V0) _) natLt_32_64 p) (broadcastInDim S16777216x2 ![] bcast_S_S16777216x2 (res_main_call1_v5 V0) p)) (res_main_call1_call0_v5 V0 p) = _
  rw [counter_high, key0_at, e]; rfl

theorem holds_group1 (p : S16777216x2.Idx) : Holds (res_main_call1_call0_v40 V0) (res_main_call1_call0_v39 V0) p (group1 (0#32, IntOp.addi (place p) 1#32)) :=
  (((((start V0 p).step 13#32 19#32).step 15#32 17#32).step 26#32 6#32).key 6#32 26#32 1#32 466688987#32 1#32 _ _ (key1_at V0 p) (key2_at V0 p) :)

theorem holds_group2 (p : S16777216x2.Idx) : Holds (res_main_call1_call0_v74 V0) (res_main_call1_call0_v73 V0) p (group2 (0#32, IntOp.addi (place p) 1#32)) :=
  (((((holds_group1 V0 p).step 17#32 15#32).step 29#32 3#32).step 16#32 16#32).key 24#32 8#32 466688987#32 0#32 2#32 _ _ (key2_at V0 p) (key0_at V0 p) :)

theorem holds_group3 (p : S16777216x2.Idx) : Holds (res_main_call1_call0_v108 V0) (res_main_call1_call0_v107 V0) p (group3 (0#32, IntOp.addi (place p) 1#32)) :=
  (((((holds_group2 V0 p).step 13#32 19#32).step 15#32 17#32).step 26#32 6#32).key 6#32 26#32 0#32 1#32 3#32 _ _ (key0_at V0 p) (key1_at V0 p) :)

theorem holds_group4 (p : S16777216x2.Idx) : Holds (res_main_call1_call0_v142 V0) (res_main_call1_call0_v141 V0) p (group4 (0#32, IntOp.addi (place p) 1#32)) :=
  (((((holds_group3 V0 p).step 17#32 15#32).step 29#32 3#32).step 16#32 16#32).key 24#32 8#32 1#32 466688987#32 4#32 _ _ (key1_at V0 p) (key2_at V0 p) :)

theorem holds_last (p : S16777216x2.Idx) : Holds (res_main_call1_call0_v163 V0) (res_main_call1_call0_v162 V0) p (Cert.Noise.round 26#32 6#32 (Cert.Noise.round 15#32 17#32 (Cert.Noise.round 13#32 19#32 (group4 (0#32, IntOp.addi (place p) 1#32))))) :=
  ((((holds_group4 V0 p).step 13#32 19#32).step 15#32 17#32).step 26#32 6#32 :)

/-- The word that the reference draws at a place. -/
def word : IVec S16777216x2 32 :=
  xori (addi (res_main_call1_call0_v163 V0) (broadcastInDim S16777216x2 ![] bcast_S_S16777216x2 (res_main_call1_call0_v1 V0)))
    (addi (addi (mixed 6#32 26#32 (res_main_call1_call0_v163 V0) (res_main_call1_call0_v162 V0)) (broadcastInDim S16777216x2 ![] bcast_S_S16777216x2 (res_main_call1_v5 V0))) (everywhere 5#32))

theorem word_at (p : S16777216x2.Idx) : word V0 p = bits (place p) := by
  have h := (holds_last V0 p).pair 6#32 26#32
  show IntOp.xori (IntOp.addi (res_main_call1_call0_v163 V0 p) (broadcastInDim S16777216x2 ![] bcast_S_S16777216x2 (res_main_call1_call0_v1 V0) p))
    (IntOp.addi (IntOp.addi (mixed 6#32 26#32 (res_main_call1_call0_v163 V0) (res_main_call1_call0_v162 V0) p) (broadcastInDim S16777216x2 ![] bcast_S_S16777216x2 (res_main_call1_v5 V0) p)) 5#32) = _
  rw [h.1, h.2, key0_at, key2_at]
  rfl

/-- The reference's matrix of class probabilities. -/
def classMatrix : FVec F S2x2 .f32 :=
  addf (mulf (broadcastInDim S2x2 ![0, 1] bcast_S1x1_S2x2_0_1 (broadcastInDim S1x1 ![1] bcast_S1_S1x1_1 (res_main_v6 V0))) ((fun i => FloatOps.ofBits .f32 (lit1 (S2x2.rowMajor i))))) (mulf (broadcastInDim S2x2 ![0, 1] bcast_S1x1_S2x2_0_1 (broadcastInDim S1x1 ![1] bcast_S1_S1x1_1 (subf (broadcastInDim S1 ![] bcast_S_S1 (constant S_ .f32 0x3F800000#32)) (res_main_v6 V0)))) ((fun i => FloatOps.ofBits .f32 (lit2 (S2x2.rowMajor i)))))

/-- The reference's probabilities. -/
def probs : FVec F S4096x4096x2 .f32 :=
  Host.dotGeneral dot_S4096x4096x2_S2x2_S4096x4096x2_2_0_01_1_n_n none (V0 (Proc.devRef .tc main_arg0)) (classMatrix V0)

/-- The reference's noise as it writes it. -/
def drawn (b : BitVec 32) : F .f32 :=
  FloatOps.hostNegf (FloatOps.hostUnary .log (FloatOps.hostNegf (FloatOps.hostUnary .log (FloatOps.maximumf (FloatOps.ofBits .f32 0x00800000#32)
    (FloatOps.addf (FloatOps.mulf (FloatOps.maximumf (FloatOps.ofBits .f32 0x00000000#32) (FloatOps.addf (FloatOps.mulf (FloatOps.subf (FloatOps.ofBits .f32 (IntOp.ori (IntOp.shrui .host b 9#32) 1065353216#32)) (FloatOps.ofBits .f32 0x3F800000#32))
      (FloatOps.subf (FloatOps.ofBits .f32 0x3F800000#32) (FloatOps.ofBits .f32 0x00000000#32))) (FloatOps.ofBits .f32 0x00000000#32))) (FloatOps.ofBits .f32 0x3F800000#32)) (FloatOps.ofBits .f32 0x00800000#32))))))

theorem noised_at (p : S16777216x2.Idx) :
    res_main_v38 V0 p = FloatOps.addf (drawn (word V0 p)) (FloatOps.hostUnary .log (FloatOps.maximumf (FloatOps.ofBits .f32 0x0DA24260#32) (shapeCast S16777216x2 (probs V0) shapeCasts_S4096x4096x2_S16777216x2 p))) := by
  sl_kernel_rfl

end Cert.ReferenceIdeal.Value

end
-- ==== Proof.RefValue.lean ====
module

public import proofs.«01_k».proof.Proof.RefNoise
public import proofs.«01_k».proof.Proof.KernelStrips
public import Idealize.ShloMosaic.PureOps.Ideal.Laws
public import Idealize.ShloMosaic.PureOps.Reduce
public import Idealize.ShloMosaic.Lib.IdealHost
public import Idealize.ShloMosaic.Lib.Pointwise.Reduce
public import Mathlib.Data.List.Sort

/-! The reference's three results entry by entry over the extended reals: the probabilities as a row of two products, the
    classes as a comparison of two logits with noise. -/

@[expose] public section

set_option maxRecDepth 65536

noncomputable section

namespace Cert.ReferenceIdeal.Value

open Cert.ReferenceIdeal Cert.ReferenceIdeal.Gen Idealize.ShloMosaic Idealize.ShloMosaic.TcCoe Idealize.ShloMosaic.Tactic Idealize.SL.Sem Idealize.ShloMosaic.StableHlo
open Cert.Noise

/-! ## The noise -/

/-- A number kept above `T` after adding it keeps that value when it is first kept above zero. -/
theorem max_raised (T f : EReal) : max T (max 0 f + T) = max T (f + T) := by
  rcases le_total f 0 with h | h
  · rw [max_eq_left h, zero_add, max_self, max_eq_left]
    calc f + T ≤ 0 + T := by gcongr
      _ = T := zero_add T
  · rw [max_eq_right h]

/-- The reference's noise is the kernel's. -/
theorem drawn_eq_noise (b : BitVec 32) : drawn (F := Ideal) b = noise b := by
  unfold drawn noise Cert.Noise.unit
  rw [ValueIdx.shrui_host]
  simp only [Ideal.hostNegf_def, Ideal.negf_def, Ideal.hostUnary_log_def, Ideal.maximumf_def, Ideal.ofBits_def, Ideal.addf_def, Ideal.mulf_def,
    Ideal.subf_def, Ideal.log_def, Ideal.ofBits_zero_f32, Ideal.ofBits_one_f32, sub_zero, mul_one, add_zero, zero_sub, max_raised]

/-! ## The larger of two -/

/-- The places of a table of pairs that drop to one row, in order. -/
theorem row_places {n : ℕ} (h : (⟨2, ![n, 2]⟩ : Shape).ReducesTo [1] ⟨1, ![n]⟩) (a : Fin n) :
    ((List.finRange (Shape.numel ⟨2, ![n, 2]⟩)).filter fun k => h.drop ((Shape.rowMajor ⟨2, ![n, 2]⟩).symm k) = ix1 a)
      = [Shape.rowMajor ⟨2, ![n, 2]⟩ (ix2 a 0), Shape.rowMajor ⟨2, ![n, 2]⟩ (ix2 a 1)] := by
  refine List.Pairwise.eq_of_mem_iff (r := (· < ·)) ((List.pairwise_lt_finRange _).filter _) ?_ ?_
  · rw [List.pairwise_pair, Fin.lt_def, Shape.rowMajor_val_two, Shape.rowMajor_val_two]
    show a.val * 2 + 0 < a.val * 2 + 1
    omega
  · intro k
    simp only [List.mem_filter, List.mem_finRange, true_and, decide_eq_true_eq, List.mem_cons, List.not_mem_nil, or_false]
    rw [h.fiber_r2_a1]
    have e : ∀ j : Fin 2, (ix2 (⟨((ix1 a : Shape.Idx ⟨1, ![n]⟩) ⟨0, h.lt_r2_a1_0⟩).val, Shape.coordLt _ h.size_r2_a1_0⟩ : Fin n) j : Shape.Idx ⟨2, ![n, 2]⟩) = ix2 a j := fun j => rfl
    simp only [e]
    constructor
    · rintro ⟨j, hj⟩
      have hk : k = Shape.rowMajor ⟨2, ![n, 2]⟩ (ix2 a j) := by rw [hj, Equiv.apply_symm_apply]
      fin_cases j
      · exact .inl hk
      · exact .inr hk
    · rintro (hk | hk)
      · exact ⟨0, by rw [hk, Equiv.symm_apply_apply]⟩
      · exact ⟨1, by rw [hk, Equiv.symm_apply_apply]⟩

theorem least_f32 : Ideal.ofBits .f32 0xFF800000#32 = ⊥ := by simp [Ideal.ofBits, Ideal.ieee]

/-- The place of the larger of two numbers, the first where they are equal. -/
theorem later (p q : Ideal .f32) :
    (reducer_argmax_f32_i32 (reducer_argmax_f32_i32 ((⊥ : EReal), 0#32) (p, 0#32)) (q, 1#32)).2 = (FloatOps.cmpf .ogt q p).setWidth 32 := by
  have h1 : reducer_argmax_f32_i32 (F := Ideal) ((⊥ : EReal), 0#32) (p, 0#32) = (p, 0#32) := by
    simp [reducer_argmax_f32_i32, Ideal.cmpf_def, Ideal.cmp, IntOp.ori, IntOp.andi, IntOp.cmpi, Scalar.select]
  rw [h1]
  rcases lt_trichotomy (p : EReal) q with h | h | h
  · simp [reducer_argmax_f32_i32, Ideal.cmpf_def, Ideal.cmp, IntOp.ori, IntOp.andi, IntOp.cmpi, Scalar.select, h, h.not_gt, h.ne]
  · subst h
    simp [reducer_argmax_f32_i32, Ideal.cmpf_def, Ideal.cmp, IntOp.ori, IntOp.andi, IntOp.cmpi, Scalar.select]
  · simp [reducer_argmax_f32_i32, Ideal.cmpf_def, Ideal.cmp, IntOp.ori, IntOp.andi, IntOp.cmpi, Scalar.select, h, h.not_gt, h.ne']

/-- The place of the larger number of each row of a table of pairs. -/
theorem later_of_row {n : ℕ} (x : FVec Ideal ⟨2, ![n, 2]⟩ .f32) (h : (⟨2, ![n, 2]⟩ : Shape).ReducesTo [1] ⟨1, ![n]⟩) (hu : 0 < S_.numel) (a : Fin n) :
    (Host.argReduce reducer_argmax_f32_i32 x (iotaInDim ⟨2, ![n, 2]⟩ 32 1) (constant S_ .f32 0xFF800000#32) (constantI S_ 32 0#32) h hu (ix1 a)).2
      = (FloatOps.cmpf .ogt (x (ix2 a 1)) (x (ix2 a 0))).setWidth 32 := by
  rw [Ideal.argReduce_eq_reduce2]
  unfold Host.reduce2
  rw [row_places h a]
  simp only [List.foldl_cons, List.foldl_nil, Equiv.symm_apply_apply]
  rw [← later, ← least_f32]
  rfl

variable (V0 : Valuation τ sig (Elt Ideal))

/-! ## The probabilities -/

/-- The edges' entries. -/
def entries : FVec Ideal S4096x4096x2 .f32 := V0 (Proc.devRef .tc main_arg0)

/-- One probability: the edge's two entries against the two rows of the matrix. -/
theorem probs_at (r k : Fin 4096) (d : Fin 2) :
    probs V0 (ix3 r k d) = entries V0 (ix3 r k 0) * classMatrix V0 (ix2 0 d)
      + entries V0 (ix3 r k 1) * classMatrix V0 (ix2 1 d) := by
  unfold probs
  show Host.dotGeneral _ none (entries V0) (classMatrix V0) (ix3 r k d) = _
  generalize entries V0 = x
  generalize classMatrix V0 = q
  simp only [Host.dotGeneral]
  rw [Ideal.dotGeneral_apply, ← Equiv.sum_comp (ValueIdx.contrEquiv1 dot_S4096x4096x2_S2x2_S4096x4096x2_2_0_01_1_n_n 2 rfl rfl).symm, Fin.sum_univ_two]
  have el : ∀ j : Fin 2, dot_S4096x4096x2_S2x2_S4096x4096x2_2_0_01_1_n_n.lhsIdx (ix3 r k d)
      ((ValueIdx.contrEquiv1 dot_S4096x4096x2_S2x2_S4096x4096x2_2_0_01_1_n_n 2 rfl rfl).symm j) = ix3 r k j := by
    intro j
    have hk := ValueIdx.contrEquiv1_symm_val dot_S4096x4096x2_S2x2_S4096x4096x2_2_0_01_1_n_n 2 rfl rfl j
    funext a
    apply Fin.ext
    match a with
    | ⟨0, _⟩ => rfl
    | ⟨1, _⟩ => rfl
    | ⟨2, _⟩ => exact hk
  have er : ∀ j : Fin 2, dot_S4096x4096x2_S2x2_S4096x4096x2_2_0_01_1_n_n.rhsIdx (ix3 r k d)
      ((ValueIdx.contrEquiv1 dot_S4096x4096x2_S2x2_S4096x4096x2_2_0_01_1_n_n 2 rfl rfl).symm j) = ix2 j d := by
    intro j
    have hk := ValueIdx.contrEquiv1_symm_val dot_S4096x4096x2_S2x2_S4096x4096x2_2_0_01_1_n_n 2 rfl rfl j
    funext a
    apply Fin.ext
    match a with
    | ⟨0, _⟩ => exact hk
    | ⟨1, _⟩ => rfl
  rw [el, el, er, er]

/-! ## The classes -/

/-- The row of the table of logits that holds an edge. -/
def rowOf (r k : Fin 4096) : Fin 16777216 := ⟨r.val * 4096 + k.val, by have := r.isLt; have := k.isLt; omega⟩

/-- A logit with its noise. -/
theorem logit_at (r k : Fin 4096) (d : Fin 2) :
    res_main_v38 V0 (ix2 (rowOf r k) d)
      = FloatOps.addf (FloatOps.log (FloatOps.maximumf (FloatOps.ofBits .f32 0x0DA24260#32) (probs V0 (ix3 r k d))))
          (noise (bits (BitVec.ofNat 32 (2 * (r.val * 4096 + k.val) + d.val)))) := by
  refine (noised_at V0 _).trans ?_
  rw [word_at, drawn_eq_noise]
  have e : shapeCast S16777216x2 (probs V0) shapeCasts_S4096x4096x2_S16777216x2 (ix2 (rowOf r k) d) = probs V0 (ix3 r k d) := by
    refine shapeCast_apply _ _ _ _ ?_
    rw [Shape.rowMajor_val_three, Shape.rowMajor_val_two]
    rfl
  rw [e]
  exact add_comm (G := EReal) _ _

/-- The class drawn for an edge. -/
theorem drawn_class (r k : Fin 4096) :
    res_main_v40 V0 (ix2 r k) = (FloatOps.cmpf .ogt (res_main_v38 V0 (ix2 (rowOf r k) 1)) (res_main_v38 V0 (ix2 (rowOf r k) 0))).setWidth 32 := by
  unfold res_main_v40
  refine (shapeCast_apply (s := S16777216) _ _ (ix2 r k) (ix1 (rowOf r k)) ?_).trans ?_
  · rw [Shape.rowMajor_val_one, Shape.rowMajor_val_two]
    rfl
  · exact later_of_row (res_main_v38 V0) _ _ (rowOf r k)

/-- An array with its entries below the diagonal replaced by those mirrored above it. -/
def mirrored (v : IVec S4096x4096 32) : IVec S4096x4096 32 :=
  select (cmpi .sle (iotaInDim S4096x4096 32 0) (iotaInDim S4096x4096 32 1)) v (transpose S4096x4096 [1, 0] v transposes_S4096x4096_S4096x4096_1_0)

theorem mirrored_at (v : IVec S4096x4096 32) (r k : Fin 4096) : mirrored v (ix2 r k) = if r.val ≤ k.val then v (ix2 r k) else v (ix2 k r) := by
  have hr := r.isLt
  have hk := k.isLt
  have hc : IntOp.cmpi .sle (BitVec.ofNat 32 r.val) (BitVec.ofNat 32 k.val) = BitVec.ofBool (decide (r.val ≤ k.val)) :=
    WordCmp.cmpi_sle_ofNat (w := 32) (a := r.val) (b := k.val) (by omega) (by omega)
  have ht : transpose S4096x4096 [1, 0] v transposes_S4096x4096_S4096x4096_1_0 (ix2 r k) = v (ix2 k r) := by
    refine transpose_apply _ _ _ _ _ ?_
    intro a
    match a with
    | ⟨0, _⟩ => rfl
    | ⟨1, _⟩ => rfl
  have hs : mirrored v (ix2 r k) = Scalar.select (IntOp.cmpi .sle (BitVec.ofNat 32 r.val) (BitVec.ofNat 32 k.val)) (v (ix2 r k))
      (transpose S4096x4096 [1, 0] v transposes_S4096x4096_S4096x4096_1_0 (ix2 r k)) := rfl
  rw [hs, hc, ht]
  by_cases h : r.val ≤ k.val
  · rw [if_pos h, decide_eq_true h]; simp [Scalar.select]
  · rw [if_neg h, decide_eq_false h]; simp [Scalar.select]

end Cert.ReferenceIdeal.Value

end
-- ==== Proof.Equation.lean ====
module

public import proofs.«01_k».proof.Defs
public import proofs.«01_k».proof.Proof.KernelHost
public import proofs.«01_k».proof.Proof.RefValue
public import proofs.«01_k».proof.Proof.RefRun

/-! The kernel and the reference end with equal results over the extended reals, where each edge's two entries are one and
    zero or zero and one. -/

@[expose] public section

set_option maxRecDepth 65536

noncomputable section

namespace Cert.Equation

open Idealize.ShloMosaic Idealize.ShloMosaic.TcCoe Idealize.SL.Sem Idealize.ShloMosaic.StableHlo
open Cert.Noise Cert.KernelIdeal.Value Cert.KernelIdeal.Run

/-- The shape relations that the precondition states. -/
theorem preFacts : Cert.Pre_one_hot.Facts where
  slices_S4096x4096x2_S4096x4096x1_0_0_0 := by decide
  shapeCasts_S4096x4096x1_S4096x4096 := by decide
  slices_S4096x4096x2_S4096x4096x1_0_0_1 := by decide
  bcast_S_S4096x4096 := by decide

/-! ## The matrix of class probabilities -/

theorem schedule_eq : Cert.KernelIdeal.lit0 = Cert.ReferenceIdeal.lit0 := rfl

theorem kept_eq : Cert.KernelIdeal.lit1 = Cert.ReferenceIdeal.lit1 := rfl

theorem limit_eq : Cert.KernelIdeal.lit2 = Cert.ReferenceIdeal.lit2 := rfl

/-- The two programs' matrices are one. -/
theorem matrix_eq (V : Valuation Cert.ReferenceIdeal.τ Cert.ReferenceIdeal.sig (Elt Ideal)) (t : IVec Cert.KernelIdeal.S1 32)
    (h : V (Proc.devRef .tc Cert.ReferenceIdeal.main_arg1) = t) :
    Cert.KernelIdeal.Value.classMatrix (F := Ideal) t = Cert.ReferenceIdeal.Value.classMatrix V := by
  subst h
  unfold Cert.KernelIdeal.Value.classMatrix Cert.ReferenceIdeal.Value.classMatrix Cert.ReferenceIdeal.Value.res_main_v6
  rw [schedule_eq, kept_eq, limit_eq]
  rfl

/-! ## The edges' entries -/

theorem half_f32 : Ideal.ofBits .f32 0x3F000000#32 = ((1 / 2 : ℝ) : EReal) := by
  simp [Ideal.ofBits, Ideal.ieee, -EReal.coe_mul]; norm_num

theorem pick_zero (a b : Ideal .f32) : pick a b (0 : EReal) = a := by
  have h : ¬ ((1 / 2 : ℝ) : EReal) < 0 := by rw [← EReal.coe_zero, EReal.coe_lt_coe_iff]; norm_num
  simp only [pick, Ideal.ofBits_def, half_f32, Ideal.cmpf_def, Ideal.cmp, decide_eq_false h]
  rfl

theorem pick_one (a b : Ideal .f32) : pick a b (1 : EReal) = b := by
  have h : ((1 / 2 : ℝ) : EReal) < 1 := by rw [← EReal.coe_one, EReal.coe_lt_coe_iff]; norm_num
  simp only [pick, Ideal.ofBits_def, half_f32, Ideal.cmpf_def, Ideal.cmp, decide_eq_true h]
  rfl

/-- An edge's two entries name row `i`. -/
def Names (a b : EReal) (i : Fin 2) : Prop := (i = 0 ∧ a = 1 ∧ b = 0) ∨ (i = 1 ∧ a = 0 ∧ b = 1)

theorem names_of_word {a b : EReal}
    (h : IntOp.ori (IntOp.andi (FloatOps.cmpf (F := Ideal) (φ := .f32) .oeq a (FloatOps.ofBits .f32 0x3F800000#32)) (FloatOps.cmpf (F := Ideal) (φ := .f32) .oeq b (FloatOps.ofBits .f32 0x00000000#32)))
      (IntOp.andi (FloatOps.cmpf (F := Ideal) (φ := .f32) .oeq a (FloatOps.ofBits .f32 0x00000000#32)) (FloatOps.cmpf (F := Ideal) (φ := .f32) .oeq b (FloatOps.ofBits .f32 0x3F800000#32))) = 1#1) :
    ∃ i, Names a b i := by
  simp only [Ideal.ofBits_def, Ideal.ofBits_zero_f32, Ideal.ofBits_one_f32, Ideal.cmpf_def, Ideal.cmp, IntOp.ori, IntOp.andi] at h
  by_cases h1 : a = 1 ∧ b = 0
  · exact ⟨0, .inl ⟨rfl, h1⟩⟩
  by_cases h2 : a = 0 ∧ b = 1
  · exact ⟨1, .inr ⟨rfl, h2⟩⟩
  exfalso
  rw [BitVec.ofBool_and_ofBool, BitVec.ofBool_and_ofBool, BitVec.ofBool_or_ofBool, ← Bool.decide_and, ← Bool.decide_and, decide_eq_false h1, decide_eq_false h2] at h
  exact absurd h (by decide)

/-- The precondition at one edge. -/
theorem names_at (x : FVec Ideal Cert.KernelIdeal.S4096x4096x2 .f32) (t : IVec Cert.KernelIdeal.S1 32)
    (h : @Cert.Pre_one_hot.fn preFacts Ideal _ x t = fun _ => 1#1) (r k : Fin 4096) :
    ∃ i, Names (x (ix3 r k 0)) (x (ix3 r k 1)) i := by
  have h0 : shapeCast Cert.Pre_one_hot.S4096x4096 (extractStridedSlice Cert.Pre_one_hot.S4096x4096x1 ![0, 0, 0] x preFacts.slices_S4096x4096x2_S4096x4096x1_0_0_0)
      preFacts.shapeCasts_S4096x4096x1_S4096x4096 (ix2 r k) = x (ix3 r k 0) := by
    refine (shapeCast_apply _ _ _ (ix3 r k 0) ?_).trans ?_
    · rw [Shape.rowMajor_val_three, Shape.rowMajor_val_two]
      show (r.val * 4096 + k.val) * 1 + 0 = r.val * 4096 + k.val
      omega
    · refine extractStridedSlice_apply _ _ _ _ _ ?_
      intro a
      match a with
      | ⟨0, _⟩ => exact (Nat.zero_add _).symm
      | ⟨1, _⟩ => exact (Nat.zero_add _).symm
      | ⟨2, _⟩ => rfl
  have h1 : shapeCast Cert.Pre_one_hot.S4096x4096 (extractStridedSlice Cert.Pre_one_hot.S4096x4096x1 ![0, 0, 1] x preFacts.slices_S4096x4096x2_S4096x4096x1_0_0_1)
      preFacts.shapeCasts_S4096x4096x1_S4096x4096 (ix2 r k) = x (ix3 r k 1) := by
    refine (shapeCast_apply _ _ _ (ix3 r k 0) ?_).trans ?_
    · rw [Shape.rowMajor_val_three, Shape.rowMajor_val_two]
      show (r.val * 4096 + k.val) * 1 + 0 = r.val * 4096 + k.val
      omega
    · refine extractStridedSlice_apply _ _ _ _ _ ?_
      intro a
      match a with
      | ⟨0, _⟩ => exact (Nat.zero_add _).symm
      | ⟨1, _⟩ => exact (Nat.zero_add _).symm
      | ⟨2, _⟩ => rfl
  refine names_of_word ?_
  rw [← h0, ← h1]
  exact congrFun h (ix2 r k)

/-! ## The kernel's entries -/

section Kernel
open Cert.KernelIdeal
variable (m : (ℓ : Loc nD τ sig) → Buf (Elt Ideal) ℓ) (ρ : Dev nD → PrngReg) (c : Dev nD)

/-- The step of the schedule that the kernel is given. -/
abbrev step : IVec S1 32 := m ((c : Thread nD τ).loc main_arg1)

theorem low (i j : Fin 2) (n : Fin 8) (hn : n.val = 2 * i.val + j.val) :
    (W3 m ρ c (Proc.devRef .tc main_v22) : S8.Idx → Ideal .f32) (ix1 n) = Value.classMatrix (F := Ideal) (step m c) (ix2 i j) :=
  (number_low m ρ c i j n hn).trans rfl

theorem high (i j : Fin 2) (n : Fin 8) (hn : n.val = 4 + 2 * i.val + j.val) :
    (W3 m ρ c (Proc.devRef .tc main_v22) : S8.Idx → Ideal .f32) (ix1 n)
      = FloatOps.log (FloatOps.maximumf (FloatOps.ofBits .f32 0x0DA24260#32) (Value.classMatrix (F := Ideal) (step m c) (ix2 i j))) :=
  (number_high m ρ c i j n hn).trans rfl

/-- A probability picked by an edge is the matrix's, in the row that the edge names. -/
theorem edgeProb_of {a b : EReal} {i : Fin 2} (h : Names a b i) (d : Fin 2) :
    edgeProb (F := Ideal) (W3 m ρ c (Proc.devRef .tc main_v22)) d.val b = Value.classMatrix (F := Ideal) (step m c) (ix2 i d) := by
  unfold edgeProb
  rcases h with ⟨rfl, -, rfl⟩ | ⟨rfl, -, rfl⟩
  · rw [pick_zero, pick_zero]
    fin_cases d
    · exact low m ρ c 0 0 0 rfl
    · exact low m ρ c 0 1 1 rfl
  · rw [pick_one, pick_one]
    fin_cases d
    · exact low m ρ c 1 0 2 rfl
    · exact low m ρ c 1 1 3 rfl

/-- The class drawn by an edge, from the row that it names. -/
theorem edgeClass_of {a b : EReal} {i : Fin 2} (h : Names a b i) (e : BitVec 32) :
    edgeClass (F := Ideal) (W3 m ρ c (Proc.devRef .tc main_v22)) b e
      = (FloatOps.cmpf .ogt
          (FloatOps.addf (FloatOps.log (FloatOps.maximumf (FloatOps.ofBits .f32 0x0DA24260#32) (Value.classMatrix (F := Ideal) (step m c) (ix2 i 1)))) (noise (bits (IntOp.addi e 1#32))))
          (FloatOps.addf (FloatOps.log (FloatOps.maximumf (FloatOps.ofBits .f32 0x0DA24260#32) (Value.classMatrix (F := Ideal) (step m c) (ix2 i 0)))) (noise (bits e)))).setWidth 32 := by
  unfold edgeClass
  rcases h with ⟨rfl, -, rfl⟩ | ⟨rfl, -, rfl⟩
  · rw [pick_zero, pick_zero, high m ρ c 0 1 5 rfl, high m ρ c 0 0 4 rfl]
  · rw [pick_one, pick_one, high m ρ c 1 1 7 rfl, high m ρ c 1 0 6 rfl]

end Kernel

/-! ## The reference's entries -/

section Reference
open Cert.ReferenceIdeal Cert.ReferenceIdeal.Value
variable (V : Valuation τ sig (Elt Ideal))

/-- The reference's probability is the matrix's, in the row that the edge names. -/
theorem probs_of (r k : Fin 4096) {i : Fin 2} (h : Names (entries V (ix3 r k 0)) (entries V (ix3 r k 1)) i) (d : Fin 2) :
    probs V (ix3 r k d) = Cert.ReferenceIdeal.Value.classMatrix V (ix2 i d) := by
  rw [probs_at]
  rcases h with ⟨rfl, h0, h1⟩ | ⟨rfl, h0, h1⟩
  · rw [h0, h1]
    exact (congrArg₂ (fun p q : EReal => p + q) (one_mul (M := EReal) _) (zero_mul (M₀ := EReal) _)).trans (add_zero (M := EReal) _)
  · rw [h0, h1]
    exact (congrArg₂ (fun p q : EReal => p + q) (zero_mul (M₀ := EReal) _) (one_mul (M := EReal) _)).trans (zero_add (M := EReal) _)

/-- The counters of an edge's two classes. -/
theorem counter_first {r k : ℕ} (h : r ≤ k) : BitVec.ofNat 32 (2 * (r * 4096 + k) + (0 : Fin 2).val) = KernelIdeal.Value.pairCounter r k := by
  unfold KernelIdeal.Value.pairCounter
  rw [min_eq_left h, max_eq_right h]
  congr 1
  show 2 * (r * 4096 + k) + 0 = _
  omega

theorem counter_second {r k : ℕ} (h : r ≤ k) :
    BitVec.ofNat 32 (2 * (r * 4096 + k) + (1 : Fin 2).val) = IntOp.addi (KernelIdeal.Value.pairCounter r k) 1#32 := by
  rw [← counter_first h]
  exact BitVec.ofNat_add _ _

/-- The class that the reference draws for an edge, from the row that it names. -/
theorem class_of (r k : Fin 4096) (hrk : r.val ≤ k.val) {i : Fin 2} (h : Names (entries V (ix3 r k 0)) (entries V (ix3 r k 1)) i) :
    res_main_v40 V (ix2 r k)
      = (FloatOps.cmpf .ogt
          (FloatOps.addf (FloatOps.log (FloatOps.maximumf (FloatOps.ofBits .f32 0x0DA24260#32) (Cert.ReferenceIdeal.Value.classMatrix V (ix2 i 1)))) (noise (bits (IntOp.addi (KernelIdeal.Value.pairCounter r.val k.val) 1#32))))
          (FloatOps.addf (FloatOps.log (FloatOps.maximumf (FloatOps.ofBits .f32 0x0DA24260#32) (Cert.ReferenceIdeal.Value.classMatrix V (ix2 i 0)))) (noise (bits (KernelIdeal.Value.pairCounter r.val k.val))))).setWidth 32 := by
  refine (drawn_class V r k).trans ?_
  rw [logit_at, logit_at, probs_of V r k h, probs_of V r k h, counter_first hrk, counter_second hrk]

end Reference

/-! ## The two runs -/

section Both
variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)
variable (V : Valuation Cert.ReferenceIdeal.τ Cert.ReferenceIdeal.sig (Elt Ideal))

/-- The edges' entries that the kernel is given. -/
abbrev edges : FVec Ideal Cert.KernelIdeal.S4096x4096x2 .f32 := m ((c : Thread Cert.KernelIdeal.nD Cert.KernelIdeal.τ).loc Cert.KernelIdeal.main_arg0)

variable (h0 : Cert.ReferenceIdeal.Value.entries V = edges m c) (h1 : V (Proc.devRef .tc Cert.ReferenceIdeal.main_arg1) = step m c)
  (hp : ∀ r k : Fin 4096, ∃ i, Names (edges m c (ix3 r k 0)) (edges m c (ix3 r k 1)) i)

include h0 h1 hp

theorem probs_eq : Cert.ReferenceIdeal.Value.probs V = (W6 m ρ c (Proc.devRef .tc Cert.KernelIdeal.main_v30) : Cert.KernelIdeal.S4096x4096x2.Idx → Ideal .f32) := by
  funext p
  obtain ⟨r, k, d, rfl⟩ : ∃ (r k : Fin 4096) (d : Fin 2), p = ix3 r k d := ⟨p 0, p 1, p 2, by
    funext a
    match a with
    | ⟨0, _⟩ => rfl
    | ⟨1, _⟩ => rfl
    | ⟨2, _⟩ => rfl⟩
  obtain ⟨i, hi⟩ := hp r k
  have hi' : Names (Cert.ReferenceIdeal.Value.entries V (ix3 r k 0)) (Cert.ReferenceIdeal.Value.entries V (ix3 r k 1)) i := by rw [h0]; exact hi
  exact (probs_of V r k hi' d).trans (((probs_entry m ρ c r k d).trans (edgeProb_of m ρ c hi d)).trans (congrFun (matrix_eq V _ h1) _)).symm

theorem class_eq (r k : Fin 4096) (hrk : r.val ≤ k.val) :
    Cert.ReferenceIdeal.Value.res_main_v40 V (ix2 r k) = (W6 m ρ c (Proc.devRef .tc Cert.KernelIdeal.main_v27) : Cert.KernelIdeal.S4096x4096.Idx → BitVec 32) (ix2 r k) := by
  obtain ⟨i, hi⟩ := hp r k
  have hi' : Names (Cert.ReferenceIdeal.Value.entries V (ix3 r k 0)) (Cert.ReferenceIdeal.Value.entries V (ix3 r k 1)) i := by rw [h0]; exact hi
  refine (class_of V r k hrk hi').trans (((classes_entry m ρ c r k hrk).trans (edgeClass_of m ρ c hi _)).trans ?_).symm
  rw [matrix_eq V _ h1]

theorem classes_eq : Cert.ReferenceIdeal.Value.mirrored (Cert.ReferenceIdeal.Value.res_main_v40 V)
    = (W6 m ρ c (Proc.devRef .tc Cert.KernelIdeal.main_v27) : Cert.KernelIdeal.S4096x4096.Idx → BitVec 32) := by
  funext p
  obtain ⟨r, k, rfl⟩ : ∃ r k : Fin 4096, p = ix2 r k := ⟨p 0, p 1, by
    funext a
    match a with
    | ⟨0, _⟩ => rfl
    | ⟨1, _⟩ => rfl⟩
  refine (Cert.ReferenceIdeal.Value.mirrored_at _ r k).trans ?_
  by_cases h : r.val ≤ k.val
  · rw [if_pos h]
    exact class_eq m ρ c V h0 h1 hp r k h
  · rw [if_neg h]
    exact (class_eq m ρ c V h0 h1 hp k r (by omega)).trans (classes_mirror m ρ c r k h).symm

end Both

/-- From memories that agree on the arguments, where each edge's entries are one and zero or zero and one, the kernel and
    the reference end with equal results. -/
theorem algebraic : Cert.algebraic_KernelIdeal_ReferenceIdeal_pre_one_hot (hPre_one_hot := preFacts) := by
  intro m g m' g' hpre hargs
  have hp : ∀ c, ∀ r k : Fin 4096, ∃ i, Names (edges m c (ix3 r k 0)) (edges m c (ix3 r k 1)) i := fun c => names_at _ _ (hpre c)
  have h0 : ∀ c, Cert.ReferenceIdeal.Value.entries (launchContents m' c) = edges m c := fun c => (hargs c).1
  have h1 : ∀ c, (launchContents m' c) (Proc.devRef .tc Cert.ReferenceIdeal.main_arg1) = step m c := fun c => (hargs c).2
  refine ⟨fun c => W6 m g c (Proc.devRef .tc Cert.KernelIdeal.main_v33), fun c => W6 m g c (Proc.devRef .tc Cert.KernelIdeal.main_v27),
    fun c => W6 m g c (Proc.devRef .tc Cert.KernelIdeal.main_v30), ?_, ?_⟩
  · exact (θ_run _ _ _).mono (fun _ h c => h.1 c) (Cert.KernelIdeal.Run.run (F := Ideal) m g)
  · refine (θ_run _ _ _).mono (fun r h c => ?_) (Cert.ReferenceIdeal.Value.run (F := Ideal) m' g')
    obtain ⟨e0, e1, e2, e3⟩ := h c
    refine ⟨e0.trans ?_, e1.trans (classes_eq m g c _ (h0 c) (h1 c) (hp c)), e2.trans (probs_eq m g c _ (h0 c) (h1 c) (hp c)), e3⟩
    rw [h1 c]
    exact (W6_step m g c).symm

end Cert.Equation

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelRun
public import proofs.«01_k».proof.Proof.KernelIdealRun
public import proofs.«01_k».proof.Proof.RefRun
public import proofs.«01_k».proof.Proof.Equation
public import Idealize.ShloMosaic.Lib.Quiescent
public import Idealize.ShloMosaic.Adequacy
public import Idealize.ShloMosaic.Init

/-! The claims, each from the module that proves it. -/

@[expose] public section

noncomputable section

namespace Cert.Proof

open Idealize.ShloMosaic Idealize.SL.Sem

/-- From any memory with zero counters the reference ends with its arguments unchanged and every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono
    (fun r h => ⟨fun c => (h c).2.2.2, Idealize.ShloMosaic.sem_eq_zero_of_no_sems (by decide) r.2⟩)
    (Cert.ReferenceIdeal.Value.run (F := Ideal) m ρ)

/-- Every claim of the certificate. -/
theorem claim : Cert.Claim :=
  ⟨Cert.Kernel.Gen.facts, Cert.KernelIdeal.Gen.facts, Cert.ReferenceIdeal.Gen.facts, Cert.Equation.preFacts,
    fun m ρ _ => Cert.Kernel.Run.frame m ρ,
    fun m ρ _ => Cert.KernelIdeal.Run.frame m ρ,
    fun m ρ _ => Cert.KernelIdeal.Run.frame m ρ,
    fun m ρ _ => reference_frame m ρ,
    fun m ρ _ => reference_frame m ρ,
    trivial,
    Cert.Equation.algebraic⟩

end Cert.Proof

end
